-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Kernel4Ideal_finite_queries_and_keys [hPre_finite_queries_and_keys : Cert.Pre_finite_queries_and_keys.Facts] (m : (ℓ : Loc Cert.Kernel4Ideal.nD Cert.Kernel4Ideal.τ Cert.Kernel4Ideal.sig) → Buf (Elt Ideal) ℓ) : Prop :=
  ∀ c : Dev Cert.Kernel4Ideal.nD,
    (Cert.Pre_finite_queries_and_keys.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2))) = (fun _ => 1#1)

def Pre_Reference4Ideal (m : (ℓ : Loc Cert.Reference4Ideal.nD Cert.Reference4Ideal.τ Cert.Reference4Ideal.sig) → Buf (Elt Ideal) ℓ) : Prop :=
  True

def Pre_Reference4Ideal_finite_queries_and_keys [hPre_finite_queries_and_keys : Cert.Pre_finite_queries_and_keys.Facts] (m : (ℓ : Loc Cert.Reference4Ideal.nD Cert.Reference4Ideal.τ Cert.Reference4Ideal.sig) → Buf (Elt Ideal) ℓ) : Prop :=
  ∀ c : Dev Cert.Reference4Ideal.nD,
    (Cert.Pre_finite_queries_and_keys.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2))) = (fun _ => 1#1)

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Kernel8Ideal_finite_router [hPre_finite_router : Cert.Pre_finite_router.Facts] (m : (ℓ : Loc Cert.Kernel8Ideal.nD Cert.Kernel8Ideal.τ Cert.Kernel8Ideal.sig) → Buf (Elt Ideal) ℓ) : Prop :=
  ∀ c : Dev Cert.Kernel8Ideal.nD,
    (Cert.Pre_finite_router.fn (F := Ideal) (m ((c.tc : Thread Cert.Kernel8Ideal.nD Cert.Kernel8Ideal.τ).loc Cert.Kernel8Ideal.main_arg0)) (m ((c.tc : Thread Cert.Kernel8Ideal.nD Cert.Kernel8Ideal.τ).loc Cert.Kernel8Ideal.main_arg1)) (m ((c.tc : Thread Cert.Kernel8Ideal.nD Cert.Kernel8Ideal.τ).loc Cert.Kernel8Ideal.main_arg2)) (m ((c.tc : Thread Cert.Kernel8Ideal.nD Cert.Kernel8Ideal.τ).loc Cert.Kernel8Ideal.main_arg3))) = (fun _ => 1#1)

def Pre_Reference8Ideal (m : (ℓ : Loc Cert.Reference8Ideal.nD Cert.Reference8Ideal.τ Cert.Reference8Ideal.sig) → Buf (Elt Ideal) ℓ) : Prop :=
  True

def Pre_Reference8Ideal_finite_router [hPre_finite_router : Cert.Pre_finite_router.Facts] (m : (ℓ : Loc Cert.Reference8Ideal.nD Cert.Reference8Ideal.τ Cert.Reference8Ideal.sig) → Buf (Elt Ideal) ℓ) : Prop :=
  ∀ c : Dev Cert.Reference8Ideal.nD,
    (Cert.Pre_finite_router.fn (F := Ideal) (m ((c.tc : Thread Cert.Reference8Ideal.nD Cert.Reference8Ideal.τ).loc Cert.Reference8Ideal.main_arg0)) (m ((c.tc : Thread Cert.Reference8Ideal.nD Cert.Reference8Ideal.τ).loc Cert.Reference8Ideal.main_arg1)) (m ((c.tc : Thread Cert.Reference8Ideal.nD Cert.Reference8Ideal.τ).loc Cert.Reference8Ideal.main_arg2)) (m ((c.tc : Thread Cert.Reference8Ideal.nD Cert.Reference8Ideal.τ).loc Cert.Reference8Ideal.main_arg3))) = (fun _ => 1#1)

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Kernel9Ideal_finite_scans [hPre_finite_scans : Cert.Pre_finite_scans.Facts] (m : (ℓ : Loc Cert.Kernel9Ideal.nD Cert.Kernel9Ideal.τ Cert.Kernel9Ideal.sig) → Buf (Elt Ideal) ℓ) : Prop :=
  ∀ c : Dev Cert.Kernel9Ideal.nD,
    (Cert.Pre_finite_scans.fn (F := Ideal) (m ((c.tc : Thread Cert.Kernel9Ideal.nD Cert.Kernel9Ideal.τ).loc Cert.Kernel9Ideal.main_arg0)) (m ((c.tc : Thread Cert.Kernel9Ideal.nD Cert.Kernel9Ideal.τ).loc Cert.Kernel9Ideal.main_arg1)) (m ((c.tc : Thread Cert.Kernel9Ideal.nD Cert.Kernel9Ideal.τ).loc Cert.Kernel9Ideal.main_arg2)) (m ((c.tc : Thread Cert.Kernel9Ideal.nD Cert.Kernel9Ideal.τ).loc Cert.Kernel9Ideal.main_arg3)) (m ((c.tc : Thread Cert.Kernel9Ideal.nD Cert.Kernel9Ideal.τ).loc Cert.Kernel9Ideal.main_arg4)) (m ((c.tc : Thread Cert.Kernel9Ideal.nD Cert.Kernel9Ideal.τ).loc Cert.Kernel9Ideal.main_arg5))) = (fun _ => 1#1)

def Pre_Reference9Ideal (m : (ℓ : Loc Cert.Reference9Ideal.nD Cert.Reference9Ideal.τ Cert.Reference9Ideal.sig) → Buf (Elt Ideal) ℓ) : Prop :=
  True

def Pre_Reference9Ideal_finite_scans [hPre_finite_scans : Cert.Pre_finite_scans.Facts] (m : (ℓ : Loc Cert.Reference9Ideal.nD Cert.Reference9Ideal.τ Cert.Reference9Ideal.sig) → Buf (Elt Ideal) ℓ) : Prop :=
  ∀ c : Dev Cert.Reference9Ideal.nD,
    (Cert.Pre_finite_scans.fn (F := Ideal) (m ((c.tc : Thread Cert.Reference9Ideal.nD Cert.Reference9Ideal.τ).loc Cert.Reference9Ideal.main_arg0)) (m ((c.tc : Thread Cert.Reference9Ideal.nD Cert.Reference9Ideal.τ).loc Cert.Reference9Ideal.main_arg1)) (m ((c.tc : Thread Cert.Reference9Ideal.nD Cert.Reference9Ideal.τ).loc Cert.Reference9Ideal.main_arg2)) (m ((c.tc : Thread Cert.Reference9Ideal.nD Cert.Reference9Ideal.τ).loc Cert.Reference9Ideal.main_arg3)) (m ((c.tc : Thread Cert.Reference9Ideal.nD Cert.Reference9Ideal.τ).loc Cert.Reference9Ideal.main_arg4)) (m ((c.tc : Thread Cert.Reference9Ideal.nD Cert.Reference9Ideal.τ).loc Cert.Reference9Ideal.main_arg5))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ r.2.sem = fun _ => 0)

def quiescent_Kernel4Ideal_pre_finite_queries_and_keys [hKernel4Ideal : Cert.Kernel4Ideal.Facts] [hPre_finite_queries_and_keys : Cert.Pre_finite_queries_and_keys.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal_finite_queries_and_keys m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2))
      ∧ r.2.sem = fun _ => 0)

def quiescent_Reference4Ideal_pre_finite_queries_and_keys [hReference4Ideal : Cert.Reference4Ideal.Facts] [hPre_finite_queries_and_keys : Cert.Pre_finite_queries_and_keys.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal_finite_queries_and_keys m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3)
      ∧ r.2.mem ((c.tc : Thread Cert.Kernel6.nD Cert.Kernel6.τ).loc Cert.Kernel6.main_arg4) = m ((c.tc : Thread Cert.Kernel6.nD Cert.Kernel6.τ).loc Cert.Kernel6.main_arg4))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2)
      ∧ r.2.mem ((c.tc : Thread Cert.Kernel8.nD Cert.Kernel8.τ).loc Cert.Kernel8.main_arg3) = m ((c.tc : Thread Cert.Kernel8.nD Cert.Kernel8.τ).loc Cert.Kernel8.main_arg3))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
      ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3))
      ∧ r.2.sem = fun _ => 0)

def quiescent_Kernel8Ideal_pre_finite_router [hKernel8Ideal : Cert.Kernel8Ideal.Facts] [hPre_finite_router : Cert.Pre_finite_router.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal_finite_router m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
      ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3))
      ∧ r.2.sem = fun _ => 0)

def quiescent_Reference8Ideal_pre_finite_router [hReference8Ideal : Cert.Reference8Ideal.Facts] [hPre_finite_router : Cert.Pre_finite_router.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal_finite_router m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2)
      ∧ r.2.mem ((c.tc : Thread Cert.Kernel9.nD Cert.Kernel9.τ).loc Cert.Kernel9.main_arg3) = m ((c.tc : Thread Cert.Kernel9.nD Cert.Kernel9.τ).loc Cert.Kernel9.main_arg3)
      ∧ r.2.mem ((c.tc : Thread Cert.Kernel9.nD Cert.Kernel9.τ).loc Cert.Kernel9.main_arg4) = m ((c.tc : Thread Cert.Kernel9.nD Cert.Kernel9.τ).loc Cert.Kernel9.main_arg4)
      ∧ r.2.mem ((c.tc : Thread Cert.Kernel9.nD Cert.Kernel9.τ).loc Cert.Kernel9.main_arg5) = m ((c.tc : Thread Cert.Kernel9.nD Cert.Kernel9.τ).loc Cert.Kernel9.main_arg5))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
      ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3)
      ∧ r.2.mem ((c.tc : Thread Cert.Kernel9Ideal.nD Cert.Kernel9Ideal.τ).loc Cert.Kernel9Ideal.main_arg4) = m ((c.tc : Thread Cert.Kernel9Ideal.nD Cert.Kernel9Ideal.τ).loc Cert.Kernel9Ideal.main_arg4)
      ∧ r.2.mem ((c.tc : Thread Cert.Kernel9Ideal.nD Cert.Kernel9Ideal.τ).loc Cert.Kernel9Ideal.main_arg5) = m ((c.tc : Thread Cert.Kernel9Ideal.nD Cert.Kernel9Ideal.τ).loc Cert.Kernel9Ideal.main_arg5))
      ∧ r.2.sem = fun _ => 0)

def quiescent_Kernel9Ideal_pre_finite_scans [hKernel9Ideal : Cert.Kernel9Ideal.Facts] [hPre_finite_scans : Cert.Pre_finite_scans.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal_finite_scans m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
      ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3)
      ∧ r.2.mem ((c.tc : Thread Cert.Kernel9Ideal.nD Cert.Kernel9Ideal.τ).loc Cert.Kernel9Ideal.main_arg4) = m ((c.tc : Thread Cert.Kernel9Ideal.nD Cert.Kernel9Ideal.τ).loc Cert.Kernel9Ideal.main_arg4)
      ∧ r.2.mem ((c.tc : Thread Cert.Kernel9Ideal.nD Cert.Kernel9Ideal.τ).loc Cert.Kernel9Ideal.main_arg5) = m ((c.tc : Thread Cert.Kernel9Ideal.nD Cert.Kernel9Ideal.τ).loc Cert.Kernel9Ideal.main_arg5))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2)
      ∧ r.2.mem ((c.tc : Thread Cert.Reference9Ideal.nD Cert.Reference9Ideal.τ).loc Cert.Reference9Ideal.main_arg3) = m ((c.tc : Thread Cert.Reference9Ideal.nD Cert.Reference9Ideal.τ).loc Cert.Reference9Ideal.main_arg3)
      ∧ r.2.mem ((c.tc : Thread Cert.Reference9Ideal.nD Cert.Reference9Ideal.τ).loc Cert.Reference9Ideal.main_arg4) = m ((c.tc : Thread Cert.Reference9Ideal.nD Cert.Reference9Ideal.τ).loc Cert.Reference9Ideal.main_arg4)
      ∧ r.2.mem ((c.tc : Thread Cert.Reference9Ideal.nD Cert.Reference9Ideal.τ).loc Cert.Reference9Ideal.main_arg5) = m ((c.tc : Thread Cert.Reference9Ideal.nD Cert.Reference9Ideal.τ).loc Cert.Reference9Ideal.main_arg5))
      ∧ r.2.sem = fun _ => 0)

def quiescent_Reference9Ideal_pre_finite_scans [hReference9Ideal : Cert.Reference9Ideal.Facts] [hPre_finite_scans : Cert.Pre_finite_scans.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal_finite_scans m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2)
      ∧ r.2.mem ((c.tc : Thread Cert.Reference9Ideal.nD Cert.Reference9Ideal.τ).loc Cert.Reference9Ideal.main_arg3) = m ((c.tc : Thread Cert.Reference9Ideal.nD Cert.Reference9Ideal.τ).loc Cert.Reference9Ideal.main_arg3)
      ∧ r.2.mem ((c.tc : Thread Cert.Reference9Ideal.nD Cert.Reference9Ideal.τ).loc Cert.Reference9Ideal.main_arg4) = m ((c.tc : Thread Cert.Reference9Ideal.nD Cert.Reference9Ideal.τ).loc Cert.Reference9Ideal.main_arg4)
      ∧ r.2.mem ((c.tc : Thread Cert.Reference9Ideal.nD Cert.Reference9Ideal.τ).loc Cert.Reference9Ideal.main_arg5) = m ((c.tc : Thread Cert.Reference9Ideal.nD Cert.Reference9Ideal.τ).loc Cert.Reference9Ideal.main_arg5))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v69) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)) →
    ∃ (v0 : (c : Dev Cert.Kernel2Ideal.nD) → Buf (Elt Ideal) ((c.tc : Thread Cert.Kernel2Ideal.nD Cert.Kernel2Ideal.τ).loc Cert.Kernel2Ideal.main_v9)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v9) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v57) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)) →
    ∃ (v0 : (c : Dev Cert.Kernel3Ideal.nD) → Buf (Elt Ideal) ((c.tc : Thread Cert.Kernel3Ideal.nD Cert.Kernel3Ideal.τ).loc Cert.Kernel3Ideal.main_v2)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v2) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v14) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1))

def preserves_Kernel4_Kernel4Ideal : Prop :=
  IdealRules.named_const.Statement Cert.Kernel4Ideal.κ "mask" .f32 0xF149F2CA#32 ⊥

def algebraic_Kernel4Ideal_Reference4Ideal_pre_finite_queries_and_keys [hKernel4Ideal : Cert.Kernel4Ideal.Facts] [hReference4Ideal : Cert.Reference4Ideal.Facts] [hPre_finite_queries_and_keys : Cert.Pre_finite_queries_and_keys.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal_finite_queries_and_keys m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)) →
    ∃ (v0 : (c : Dev Cert.Kernel4Ideal.nD) → Buf (Elt Ideal) ((c.tc : Thread Cert.Kernel4Ideal.nD Cert.Kernel4Ideal.τ).loc Cert.Kernel4Ideal.main_v8)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v8) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v45) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2))

def preserves_Kernel5_Kernel5Ideal : Prop :=
  IdealRules.named_const.Statement Cert.Kernel5Ideal.κ "scale" .f32 0x3E0293EE#32 ((((Real.sqrt 128) * (Real.log 2))⁻¹ : ℝ) : EReal)

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)) →
    ∃ (v0 : (c : Dev Cert.Kernel5Ideal.nD) → Buf (Elt Ideal) ((c.tc : Thread Cert.Kernel5Ideal.nD Cert.Kernel5Ideal.τ).loc Cert.Kernel5Ideal.main_v20_0)) (v1 : (c : Dev Cert.Kernel5Ideal.nD) → Buf (Elt Ideal) ((c.tc : Thread Cert.Kernel5Ideal.nD Cert.Kernel5Ideal.τ).loc Cert.Kernel5Ideal.main_v20_1)) (v2 : (c : Dev Cert.Kernel5Ideal.nD) → Buf (Elt Ideal) ((c.tc : Thread Cert.Kernel5Ideal.nD Cert.Kernel5Ideal.τ).loc Cert.Kernel5Ideal.main_v20_2)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v20_0) = v0 c
          ∧ r.2.mem ((c.tc : Thread Cert.Kernel5Ideal.nD Cert.Kernel5Ideal.τ).loc Cert.Kernel5Ideal.main_v20_1) = v1 c
          ∧ r.2.mem ((c.tc : Thread Cert.Kernel5Ideal.nD Cert.Kernel5Ideal.τ).loc Cert.Kernel5Ideal.main_v20_2) = v2 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v122) = v0 c
          ∧ r.2.mem ((c.tc : Thread Cert.Reference5Ideal.nD Cert.Reference5Ideal.τ).loc Cert.Reference5Ideal.main_v124) = v1 c
          ∧ r.2.mem ((c.tc : Thread Cert.Reference5Ideal.nD Cert.Reference5Ideal.τ).loc Cert.Reference5Ideal.main_v126) = v2 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)
      ∧ m' ((c.tc : Thread Cert.Reference6Ideal.nD Cert.Reference6Ideal.τ).loc Cert.Reference6Ideal.main_arg4) = m ((c.tc : Thread Cert.Kernel6Ideal.nD Cert.Kernel6Ideal.τ).loc Cert.Kernel6Ideal.main_arg4)) →
    ∃ (v0 : (c : Dev Cert.Kernel6Ideal.nD) → Buf (Elt Ideal) ((c.tc : Thread Cert.Kernel6Ideal.nD Cert.Kernel6Ideal.τ).loc Cert.Kernel6Ideal.main_v6)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v6) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
          ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v31) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3)
          ∧ r.2.mem ((c.tc : Thread Cert.Reference6Ideal.nD Cert.Reference6Ideal.τ).loc Cert.Reference6Ideal.main_arg4) = m' ((c.tc : Thread Cert.Reference6Ideal.nD Cert.Reference6Ideal.τ).loc Cert.Reference6Ideal.main_arg4))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)) →
    ∃ (v0 : (c : Dev Cert.Kernel7Ideal.nD) → Buf (Elt Ideal) ((c.tc : Thread Cert.Kernel7Ideal.nD Cert.Kernel7Ideal.τ).loc Cert.Kernel7Ideal.main_v4)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v4) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v10) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3))

def preserves_Kernel8_Kernel8Ideal : Prop :=
  True

def algebraic_Kernel8Ideal_Reference8Ideal_pre_finite_router [hKernel8Ideal : Cert.Kernel8Ideal.Facts] [hReference8Ideal : Cert.Reference8Ideal.Facts] [hPre_finite_router : Cert.Pre_finite_router.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal_finite_router m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)
      ∧ m' ((c.tc : Thread Cert.Reference8Ideal.nD Cert.Reference8Ideal.τ).loc Cert.Reference8Ideal.main_arg3) = m ((c.tc : Thread Cert.Kernel8Ideal.nD Cert.Kernel8Ideal.τ).loc Cert.Kernel8Ideal.main_arg3)) →
    ∃ (v0 : (c : Dev Cert.Kernel8Ideal.nD) → Buf (Elt Ideal) ((c.tc : Thread Cert.Kernel8Ideal.nD Cert.Kernel8Ideal.τ).loc Cert.Kernel8Ideal.main_v8_0)) (v1 : (c : Dev Cert.Kernel8Ideal.nD) → Buf (Elt Ideal) ((c.tc : Thread Cert.Kernel8Ideal.nD Cert.Kernel8Ideal.τ).loc Cert.Kernel8Ideal.main_v8_1)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v8_0) = v0 c
          ∧ r.2.mem ((c.tc : Thread Cert.Kernel8Ideal.nD Cert.Kernel8Ideal.τ).loc Cert.Kernel8Ideal.main_v8_1) = v1 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
          ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v45) = v0 c
          ∧ r.2.mem ((c.tc : Thread Cert.Reference8Ideal.nD Cert.Reference8Ideal.τ).loc Cert.Reference8Ideal.main_v60) = v1 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2)
          ∧ r.2.mem ((c.tc : Thread Cert.Reference8Ideal.nD Cert.Reference8Ideal.τ).loc Cert.Reference8Ideal.main_arg3) = m' ((c.tc : Thread Cert.Reference8Ideal.nD Cert.Reference8Ideal.τ).loc Cert.Reference8Ideal.main_arg3))

def preserves_Kernel9_Kernel9Ideal : Prop :=
  True

def algebraic_Kernel9Ideal_Reference9Ideal_pre_finite_scans [hKernel9Ideal : Cert.Kernel9Ideal.Facts] [hReference9Ideal : Cert.Reference9Ideal.Facts] [hPre_finite_scans : Cert.Pre_finite_scans.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal_finite_scans m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)
      ∧ m' ((c.tc : Thread Cert.Reference9Ideal.nD Cert.Reference9Ideal.τ).loc Cert.Reference9Ideal.main_arg3) = m ((c.tc : Thread Cert.Kernel9Ideal.nD Cert.Kernel9Ideal.τ).loc Cert.Kernel9Ideal.main_arg3)
      ∧ m' ((c.tc : Thread Cert.Reference9Ideal.nD Cert.Reference9Ideal.τ).loc Cert.Reference9Ideal.main_arg4) = m ((c.tc : Thread Cert.Kernel9Ideal.nD Cert.Kernel9Ideal.τ).loc Cert.Kernel9Ideal.main_arg4)
      ∧ m' ((c.tc : Thread Cert.Reference9Ideal.nD Cert.Reference9Ideal.τ).loc Cert.Reference9Ideal.main_arg5) = m ((c.tc : Thread Cert.Kernel9Ideal.nD Cert.Kernel9Ideal.τ).loc Cert.Kernel9Ideal.main_arg5)) →
    ∃ (v0 : (c : Dev Cert.Kernel9Ideal.nD) → Buf (Elt Ideal) ((c.tc : Thread Cert.Kernel9Ideal.nD Cert.Kernel9Ideal.τ).loc Cert.Kernel9Ideal.main_v15)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v15) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
          ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3)
          ∧ r.2.mem ((c.tc : Thread Cert.Kernel9Ideal.nD Cert.Kernel9Ideal.τ).loc Cert.Kernel9Ideal.main_arg4) = m ((c.tc : Thread Cert.Kernel9Ideal.nD Cert.Kernel9Ideal.τ).loc Cert.Kernel9Ideal.main_arg4)
          ∧ r.2.mem ((c.tc : Thread Cert.Kernel9Ideal.nD Cert.Kernel9Ideal.τ).loc Cert.Kernel9Ideal.main_arg5) = m ((c.tc : Thread Cert.Kernel9Ideal.nD Cert.Kernel9Ideal.τ).loc Cert.Kernel9Ideal.main_arg5))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v33) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2)
          ∧ r.2.mem ((c.tc : Thread Cert.Reference9Ideal.nD Cert.Reference9Ideal.τ).loc Cert.Reference9Ideal.main_arg3) = m' ((c.tc : Thread Cert.Reference9Ideal.nD Cert.Reference9Ideal.τ).loc Cert.Reference9Ideal.main_arg3)
          ∧ r.2.mem ((c.tc : Thread Cert.Reference9Ideal.nD Cert.Reference9Ideal.τ).loc Cert.Reference9Ideal.main_arg4) = m' ((c.tc : Thread Cert.Reference9Ideal.nD Cert.Reference9Ideal.τ).loc Cert.Reference9Ideal.main_arg4)
          ∧ r.2.mem ((c.tc : Thread Cert.Reference9Ideal.nD Cert.Reference9Ideal.τ).loc Cert.Reference9Ideal.main_arg5) = m' ((c.tc : Thread Cert.Reference9Ideal.nD Cert.Reference9Ideal.τ).loc Cert.Reference9Ideal.main_arg5))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hPre_finite_queries_and_keys : Cert.Pre_finite_queries_and_keys.Facts) (hPre_finite_router : Cert.Pre_finite_router.Facts) (hPre_finite_scans : Cert.Pre_finite_scans.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Kernel4Ideal_pre_finite_queries_and_keys (hKernel4Ideal := hKernel4Ideal) (hPre_finite_queries_and_keys := hPre_finite_queries_and_keys)
    ∧ quiescent_Reference4Ideal (hReference4Ideal := hReference4Ideal)
    ∧ quiescent_Reference4Ideal_pre_finite_queries_and_keys (hReference4Ideal := hReference4Ideal) (hPre_finite_queries_and_keys := hPre_finite_queries_and_keys)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Kernel8Ideal_pre_finite_router (hKernel8Ideal := hKernel8Ideal) (hPre_finite_router := hPre_finite_router)
    ∧ quiescent_Reference8Ideal (hReference8Ideal := hReference8Ideal)
    ∧ quiescent_Reference8Ideal_pre_finite_router (hReference8Ideal := hReference8Ideal) (hPre_finite_router := hPre_finite_router)
    ∧ quiescent_Kernel9 (hKernel9 := hKernel9)
    ∧ quiescent_Kernel9Ideal (hKernel9Ideal := hKernel9Ideal)
    ∧ quiescent_Kernel9Ideal_pre_finite_scans (hKernel9Ideal := hKernel9Ideal) (hPre_finite_scans := hPre_finite_scans)
    ∧ quiescent_Reference9Ideal (hReference9Ideal := hReference9Ideal)
    ∧ quiescent_Reference9Ideal_pre_finite_scans (hReference9Ideal := hReference9Ideal) (hPre_finite_scans := hPre_finite_scans)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal_pre_finite_queries_and_keys (hKernel4Ideal := hKernel4Ideal) (hReference4Ideal := hReference4Ideal) (hPre_finite_queries_and_keys := hPre_finite_queries_and_keys)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal_pre_finite_router (hKernel8Ideal := hKernel8Ideal) (hReference8Ideal := hReference8Ideal) (hPre_finite_router := hPre_finite_router)
    ∧ preserves_Kernel9_Kernel9Ideal
    ∧ algebraic_Kernel9Ideal_Reference9Ideal_pre_finite_scans (hKernel9Ideal := hKernel9Ideal) (hReference9Ideal := hReference9Ideal) (hPre_finite_scans := hPre_finite_scans)
-- ==== Pre_finite_queries_and_keys.lean ====
abbrev S16896x1024 : Shape := ⟨2, ![16896, 1024]⟩
abbrev S16896x256 : Shape := ⟨2, ![16896, 256]⟩
abbrev S_ : Shape := ⟨0, ![]⟩

class Facts : Prop where
  bcast_S_S16896x1024 : S_.BroadcastsInDim S16896x1024 (![] : Fin 0 → Fin S16896x1024.rank)
  reducesTo_S16896x1024_S_d0_1 : S16896x1024.ReducesTo [0, 1] S_
  h_S_ : 0 < S_.numel
  bcast_S_S16896x256 : S_.BroadcastsInDim S16896x256 (![] : Fin 0 → Fin S16896x256.rank)
  reducesTo_S16896x256_S_d0_1 : S16896x256.ReducesTo [0, 1] S_

variable [Facts]

def fn {F : FTy → Type} [FloatOps F] (main_arg0 : FVec F S16896x1024 .f32) (main_arg1 : FVec F S16896x256 .f32) (main_arg2 : FVec F S16896x256 .f32) : IVec S_ 1 :=
  let main_v0 : FVec F S16896x1024 .f32 := Host.absf main_arg0
  let main_cst : FVec F S_ .f32 := constant S_ .f32 0x7F800000#32
  let main_v1 : FVec F S16896x1024 .f32 := broadcastInDim S16896x1024 ![] bcast_S_S16896x1024 main_cst
  let main_v2 : IVec S16896x1024 1 := cmpf .olt main_v0 main_v1
  let main_c : IVec S_ 1 := constantI S_ 1 1#1
  let main_v3 : IVec S_ 1 := (fun x v => Host.reduce IntOp.andi x v reducesTo_S16896x1024_S_d0_1 h_S_) main_v2 main_c
  let main_v4 : FVec F S16896x256 .f32 := Host.absf main_arg1
  let main_cst_0 : FVec F S_ .f32 := constant S_ .f32 0x7F800000#32
  let main_v5 : FVec F S16896x256 .f32 := broadcastInDim S16896x256 ![] bcast_S_S16896x256 main_cst_0
  let main_v6 : IVec S16896x256 1 := cmpf .olt main_v4 main_v5
  let main_c_1 : IVec S_ 1 := constantI S_ 1 1#1
  let main_v7 : IVec S_ 1 := (fun x v => Host.reduce IntOp.andi x v reducesTo_S16896x256_S_d0_1 h_S_) main_v6 main_c_1
  let main_v8 : IVec S_ 1 := andi main_v3 main_v7
  main_v8
-- ==== Pre_finite_router.lean ====
abbrev S16896x2048 : Shape := ⟨2, ![16896, 2048]⟩
abbrev S4x3x12288 : Shape := ⟨3, ![4, 3, 12288]⟩
abbrev S4x2048 : Shape := ⟨2, ![4, 2048]⟩
abbrev S4x2048x16 : Shape := ⟨3, ![4, 2048, 16]⟩
abbrev S1x3x12288 : Shape := ⟨3, ![1, 3, 12288]⟩
abbrev S3x12288 : Shape := ⟨2, ![3, 12288]⟩
abbrev S_ : Shape := ⟨0, ![]⟩
abbrev S1x2048 : Shape := ⟨2, ![1, 2048]⟩
abbrev S2048 : Shape := ⟨1, ![2048]⟩
abbrev S1x2048x16 : Shape := ⟨3, ![1, 2048, 16]⟩
abbrev S2048x16 : Shape := ⟨2, ![2048, 16]⟩

class Facts : Prop where
  slices_S4x3x12288_S1x3x12288_0_0_0 : S4x3x12288.Slices ![0, 0, 0] S1x3x12288
  shapeCasts_S1x3x12288_S3x12288 : S1x3x12288.ShapeCasts S3x12288
  bcast_S_S3x12288 : S_.BroadcastsInDim S3x12288 (![] : Fin 0 → Fin S3x12288.rank)
  reducesTo_S3x12288_S_d0_1 : S3x12288.ReducesTo [0, 1] S_
  h_S_ : 0 < S_.numel
  slices_S4x2048_S1x2048_0_0 : S4x2048.Slices ![0, 0] S1x2048
  shapeCasts_S1x2048_S2048 : S1x2048.ShapeCasts S2048
  bcast_S_S2048 : S_.BroadcastsInDim S2048 (![] : Fin 0 → Fin S2048.rank)
  reducesTo_S2048_S_d0 : S2048.ReducesTo [0] S_
  slices_S4x2048x16_S1x2048x16_0_0_0 : S4x2048x16.Slices ![0, 0, 0] S1x2048x16
  shapeCasts_S1x2048x16_S2048x16 : S1x2048x16.ShapeCasts S2048x16
  bcast_S_S2048x16 : S_.BroadcastsInDim S2048x16 (![] : Fin 0 → Fin S2048x16.rank)
  reducesTo_S2048x16_S_d0_1 : S2048x16.ReducesTo [0, 1] S_

variable [Facts]

def fn_part1 {F : FTy → Type} [FloatOps F] (main_v12 : IVec S_ 1) (main_v17 : IVec S2048x16 1) (main_c_3 : IVec S_ 1) : IVec S_ 1 :=
  let main_v18 : IVec S_ 1 := (fun x v => Host.reduce IntOp.andi x v reducesTo_S2048x16_S_d0_1 h_S_) main_v17 main_c_3
  let main_v19 : IVec S_ 1 := andi main_v12 main_v18
  main_v19

def fn {F : FTy → Type} [FloatOps F] (main_arg0 : FVec F S16896x2048 .f32) (main_arg1 : FVec F S4x3x12288 .f32) (main_arg2 : FVec F S4x2048 .f32) (main_arg3 : FVec F S4x2048x16 .f32) : IVec S_ 1 :=
  let main_v0 : FVec F S1x3x12288 .f32 := (extractStridedSlice S1x3x12288 ![0, 0, 0] · slices_S4x3x12288_S1x3x12288_0_0_0) main_arg1
  let main_v1 : FVec F S3x12288 .f32 := shapeCast S3x12288 main_v0 shapeCasts_S1x3x12288_S3x12288
  let main_v2 : FVec F S3x12288 .f32 := Host.absf main_v1
  let main_cst : FVec F S_ .f32 := constant S_ .f32 0x7F800000#32
  let main_v3 : FVec F S3x12288 .f32 := broadcastInDim S3x12288 ![] bcast_S_S3x12288 main_cst
  let main_v4 : IVec S3x12288 1 := cmpf .olt main_v2 main_v3
  let main_c : IVec S_ 1 := constantI S_ 1 1#1
  let main_v5 : IVec S_ 1 := (fun x v => Host.reduce IntOp.andi x v reducesTo_S3x12288_S_d0_1 h_S_) main_v4 main_c
  let main_v6 : FVec F S1x2048 .f32 := (extractStridedSlice S1x2048 ![0, 0] · slices_S4x2048_S1x2048_0_0) main_arg2
  let main_v7 : FVec F S2048 .f32 := shapeCast S2048 main_v6 shapeCasts_S1x2048_S2048
  let main_v8 : FVec F S2048 .f32 := Host.absf main_v7
  let main_cst_0 : FVec F S_ .f32 := constant S_ .f32 0x7F800000#32
  let main_v9 : FVec F S2048 .f32 := broadcastInDim S2048 ![] bcast_S_S2048 main_cst_0
  let main_v10 : IVec S2048 1 := cmpf .olt main_v8 main_v9
  let main_c_1 : IVec S_ 1 := constantI S_ 1 1#1
  let main_v11 : IVec S_ 1 := (fun x v => Host.reduce IntOp.andi x v reducesTo_S2048_S_d0 h_S_) main_v10 main_c_1
  let main_v12 : IVec S_ 1 := andi main_v5 main_v11
  let main_v13 : FVec F S1x2048x16 .f32 := (extractStridedSlice S1x2048x16 ![0, 0, 0] · slices_S4x2048x16_S1x2048x16_0_0_0) main_arg3
  let main_v14 : FVec F S2048x16 .f32 := shapeCast S2048x16 main_v13 shapeCasts_S1x2048x16_S2048x16
  let main_v15 : FVec F S2048x16 .f32 := Host.absf main_v14
  let main_cst_2 : FVec F S_ .f32 := constant S_ .f32 0x7F800000#32
  let main_v16 : FVec F S2048x16 .f32 := broadcastInDim S2048x16 ![] bcast_S_S2048x16 main_cst_2
  let main_v17 : IVec S2048x16 1 := cmpf .olt main_v15 main_v16
  let main_c_3 : IVec S_ 1 := constantI S_ 1 1#1
  fn_part1 (F := F) main_v12 main_v17 main_c_3
-- ==== Pre_finite_scans.lean ====
abbrev S16896x512 : Shape := ⟨2, ![16896, 512]⟩
abbrev S4x512 : Shape := ⟨2, ![4, 512]⟩
abbrev S_ : Shape := ⟨0, ![]⟩

class Facts : Prop where
  bcast_S_S16896x512 : S_.BroadcastsInDim S16896x512 (![] : Fin 0 → Fin S16896x512.rank)
  reducesTo_S16896x512_S_d0_1 : S16896x512.ReducesTo [0, 1] S_
  h_S_ : 0 < S_.numel

variable [Facts]

def fn {F : FTy → Type} [FloatOps F] (main_arg0 : FVec F S16896x512 .f32) (main_arg1 : FVec F S16896x512 .f32) (main_arg2 : FVec F S16896x512 .f32) (main_arg3 : FVec F S16896x512 .f32) (main_arg4 : FVec F S4x512 .f32) (main_arg5 : FVec F S4x512 .f32) : IVec S_ 1 :=
  let main_v0 : FVec F S16896x512 .f32 := Host.absf main_arg0
  let main_cst : FVec F S_ .f32 := constant S_ .f32 0x7F800000#32
  let main_v1 : FVec F S16896x512 .f32 := broadcastInDim S16896x512 ![] bcast_S_S16896x512 main_cst
  let main_v2 : IVec S16896x512 1 := cmpf .olt main_v0 main_v1
  let main_c : IVec S_ 1 := constantI S_ 1 1#1
  let main_v3 : IVec S_ 1 := (fun x v => Host.reduce IntOp.andi x v reducesTo_S16896x512_S_d0_1 h_S_) main_v2 main_c
  let main_v4 : FVec F S16896x512 .f32 := Host.absf main_arg1
  let main_cst_0 : FVec F S_ .f32 := constant S_ .f32 0x7F800000#32
  let main_v5 : FVec F S16896x512 .f32 := broadcastInDim S16896x512 ![] bcast_S_S16896x512 main_cst_0
  let main_v6 : IVec S16896x512 1 := cmpf .olt main_v4 main_v5
  let main_c_1 : IVec S_ 1 := constantI S_ 1 1#1
  let main_v7 : IVec S_ 1 := (fun x v => Host.reduce IntOp.andi x v reducesTo_S16896x512_S_d0_1 h_S_) main_v6 main_c_1
  let main_v8 : IVec S_ 1 := andi main_v3 main_v7
  main_v8
-- ==== Kernel.lean ====
abbrev S2x8192x2048 : Shape := ⟨3, ![2, 8192, 2048]⟩
abbrev S2x256x2048 : Shape := ⟨3, ![2, 256, 2048]⟩
abbrev S4x3x12288 : Shape := ⟨3, ![4, 3, 12288]⟩
abbrev S4x2048 : Shape := ⟨2, ![4, 2048]⟩
abbrev S4x2048x10112 : Shape := ⟨3, ![4, 2048, 10112]⟩
abbrev S2x8448x2048 : Shape := ⟨3, ![2, 8448, 2048]⟩
abbrev S16896x2048 : Shape := ⟨2, ![16896, 2048]⟩
abbrev S1x3x12288 : Shape := ⟨3, ![1, 3, 12288]⟩
abbrev S3x12288 : Shape := ⟨2, ![3, 12288]⟩
abbrev S1x2048 : Shape := ⟨2, ![1, 2048]⟩
abbrev S2048 : Shape := ⟨1, ![2048]⟩
abbrev S16896x10240 : Shape := ⟨2, ![16896, 10240]⟩
abbrev S1056x2048 : Shape := ⟨2, ![1056, 2048]⟩
abbrev S1x2048x512 : Shape := ⟨3, ![1, 2048, 512]⟩
abbrev S1056x512 : Shape := ⟨2, ![1056, 512]⟩
abbrev S1056x1 : Shape := ⟨2, ![1056, 1]⟩
abbrev S352x1 : Shape := ⟨2, ![352, 1]⟩
abbrev S352x2048 : Shape := ⟨2, ![352, 2048]⟩
abbrev S352 : Shape := ⟨1, ![352]⟩
abbrev S2048x512 : Shape := ⟨2, ![2048, 512]⟩

abbrev nBuf : Space → Nat
  | .hbm => 13
  | .vmem => 9
  | .smem => 0
  | _ => 0

abbrev bufTy : (tb : Table) → Fin (tcTables nBuf tb) → BufTy
  | .hbm, ⟨0, _⟩ => ⟨S2x8192x2048, .f32⟩
  | .hbm, ⟨1, _⟩ => ⟨S2x256x2048, .f32⟩
  | .hbm, ⟨2, _⟩ => ⟨S4x3x12288, .f32⟩
  | .hbm, ⟨3, _⟩ => ⟨S4x2048, .f32⟩
  | .hbm, ⟨4, _⟩ => ⟨S4x2048x10112, .f32⟩
  | .hbm, ⟨5, _⟩ => ⟨S2x8448x2048, .f32⟩
  | .hbm, ⟨6, _⟩ => ⟨S16896x2048, .f32⟩
  | .hbm, ⟨7, _⟩ => ⟨S1x3x12288, .f32⟩
  | .hbm, ⟨8, _⟩ => ⟨S3x12288, .f32⟩
  | .hbm, ⟨9, _⟩ => ⟨S1x2048, .f32⟩
  | .hbm, ⟨10, _⟩ => ⟨S2048, .f32⟩
  | .hbm, ⟨11, _⟩ => ⟨S1x2048, .f32⟩
  | .hbm, ⟨12, _⟩ => ⟨S16896x10240, .f32⟩
  | .local _ .vmem, ⟨0, _⟩ => ⟨S1056x2048, .f32⟩
  | .local _ .vmem, ⟨1, _⟩ => ⟨S1056x2048, .f32⟩
  | .local _ .vmem, ⟨2, _⟩ => ⟨S3x12288, .f32⟩
  | .local _ .vmem, ⟨3, _⟩ => ⟨S1x2048, .f32⟩
  | .local _ .vmem, ⟨4, _⟩ => ⟨S1x2048x512, .f32⟩
  | .local _ .vmem, ⟨5, _⟩ => ⟨S1x2048x512, .f32⟩
  | .local _ .vmem, ⟨6, _⟩ => ⟨S1056x512, .f32⟩
  | .local _ .vmem, ⟨7, _⟩ => ⟨S1056x512, .f32⟩
  | .local _ .vmem, ⟨8, _⟩ => ⟨S1056x2048, .bf16⟩
  | _, _ => ⟨S2x8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨2, ![16, 20], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def k0_off1 (i : grid0.Coords) : Fin 2 → Nat :=
  let arg0 : BitVec 32 := BitVec.ofNat 32 (i 0).val
  let c0_i32_7 : BitVec 32 := 0#32
  let v10 : BitVec 1 := Scalar.cmpi .sgt arg0 c0_i32_7
  let v11 : BitVec 32 := Scalar.extui v10
  let c0_i32_8 : BitVec 32 := 0#32
  let v12 : BitVec 1 := Scalar.cmpi .slt arg0 c0_i32_8
  let v13 : BitVec 32 := Scalar.extui v12
  let v14 : BitVec 32 := Scalar.subi v11 v13
  let c8_i32 : BitVec 32 := 8#32
  let c0_i32_9 : BitVec 32 := 0#32
  let v15 : BitVec 1 := Scalar.cmpi .sgt c8_i32 c0_i32_9
  let v16 : BitVec 32 := Scalar.extui v15
  let c0_i32_10 : BitVec 32 := 0#32
  let v17 : BitVec 1 := Scalar.cmpi .slt c8_i32 c0_i32_10
  let v18 : BitVec 32 := Scalar.extui v17
  let v19 : BitVec 32 := Scalar.subi v16 v18
  let v20 : BitVec 1 := Scalar.cmpi .ne v14 v19
  let v21 : BitVec 32 := Scalar.remsi arg0 c8_i32
  let c0_i32_11 : BitVec 32 := 0#32
  let v22 : BitVec 1 := Scalar.cmpi .ne v21 c0_i32_11
  let v23 : BitVec 1 := Scalar.andi v20 v22
  let v9 : BitVec 32 := Scalar.divsi arg0 c8_i32
  let c1_i32 : BitVec 32 := 1#32
  let v24 : BitVec 32 := Scalar.subi v9 c1_i32
  let v25 : BitVec 32 := Scalar.select v23 v24 v9
  let v43 : Index := Scalar.indexCast v25
  let c0_18 : Index := 0#32
  ![v43.toNat, 0]
def k0_off2 (i : grid0.Coords) : Fin 2 → Nat :=
  let arg0 : BitVec 32 := BitVec.ofNat 32 (i 0).val
  let c0_i32_7 : BitVec 32 := 0#32
  let v10 : BitVec 1 := Scalar.cmpi .sgt arg0 c0_i32_7
  let v11 : BitVec 32 := Scalar.extui v10
  let c0_i32_8 : BitVec 32 := 0#32
  let v12 : BitVec 1 := Scalar.cmpi .slt arg0 c0_i32_8
  let v13 : BitVec 32 := Scalar.extui v12
  let v14 : BitVec 32 := Scalar.subi v11 v13
  let c8_i32 : BitVec 32 := 8#32
  let c0_i32_9 : BitVec 32 := 0#32
  let v15 : BitVec 1 := Scalar.cmpi .sgt c8_i32 c0_i32_9
  let v16 : BitVec 32 := Scalar.extui v15
  let c0_i32_10 : BitVec 32 := 0#32
  let v17 : BitVec 1 := Scalar.cmpi .slt c8_i32 c0_i32_10
  let v18 : BitVec 32 := Scalar.extui v17
  let v19 : BitVec 32 := Scalar.subi v16 v18
  let v20 : BitVec 1 := Scalar.cmpi .ne v14 v19
  let v21 : BitVec 32 := Scalar.remsi arg0 c8_i32
  let c0_i32_11 : BitVec 32 := 0#32
  let v22 : BitVec 1 := Scalar.cmpi .ne v21 c0_i32_11
  let v23 : BitVec 1 := Scalar.andi v20 v22
  let v9 : BitVec 32 := Scalar.divsi arg0 c8_i32
  let c1_i32 : BitVec 32 := 1#32
  let v24 : BitVec 32 := Scalar.subi v9 c1_i32
  let v25 : BitVec 32 := Scalar.select v23 v24 v9
  let v55 : Index := Scalar.indexCast v25
  let c2048 : Index := 2048#32
  ![v55.toNat, 2048]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 1 := Scalar.cmpi .slt arg1 c4_i32
  let c4_i32_0 : BitVec 32 := 4#32
  let v1 : BitVec 32 := Scalar.muli arg1 c4_i32_0
  let c5_i32 : BitVec 32 := 5#32
  let v2 : BitVec 1 := Scalar.cmpi .slt arg1 c5_i32
  let c4_i32_1 : BitVec 32 := 4#32
  let v3 : BitVec 32 := Scalar.subi arg1 c4_i32_1
  let c4_i32_2 : BitVec 32 := 4#32
  let v4 : BitVec 32 := Scalar.muli v3 c4_i32_2
  let c15_i32 : BitVec 32 := 15#32
  let v5 : BitVec 32 := Scalar.addi c15_i32 v4
  let c6_i32 : BitVec 32 := 6#32
  let v6 : BitVec 1 := Scalar.cmpi .slt arg1 c6_i32
  let c5_i32_3 : BitVec 32 := 5#32
  let v7 : BitVec 32 := Scalar.subi arg1 c5_i32_3
  let c4_i32_4 : BitVec 32 := 4#32
  let v8 : BitVec 32 := Scalar.muli v7 c4_i32_4
  let c27_i32 : BitVec 32 := 27#32
  let v9 : BitVec 32 := Scalar.addi c27_i32 v8
  let c8_i32 : BitVec 32 := 8#32
  let v10 : BitVec 1 := Scalar.cmpi .slt arg1 c8_i32
  let c6_i32_5 : BitVec 32 := 6#32
  let v11 : BitVec 32 := Scalar.subi arg1 c6_i32_5
  let c4_i32_6 : BitVec 32 := 4#32
  let v12 : BitVec 32 := Scalar.muli v11 c4_i32_6
  let c19_i32 : BitVec 32 := 19#32
  let v13 : BitVec 32 := Scalar.addi c19_i32 v12
  let c8_i32_7 : BitVec 32 := 8#32
  let v14 : BitVec 32 := Scalar.subi arg1 c8_i32_7
  let c4_i32_8 : BitVec 32 := 4#32
  let v15 : BitVec 32 := Scalar.muli v14 c4_i32_8
  let c31_i32 : BitVec 32 := 31#32
  let v16 : BitVec 32 := Scalar.addi c31_i32 v15
  let v17 : BitVec 32 := Scalar.select v10 v13 v16
  let v18 : BitVec 32 := Scalar.select v6 v9 v17
  let v19 : BitVec 32 := Scalar.select v2 v5 v18
  let v20 : BitVec 32 := Scalar.select v0 v1 v19
  let c128_i32 : BitVec 32 := 128#32
  let v21 : BitVec 32 := Scalar.muli v20 c128_i32
  let c0_i32 : BitVec 32 := 0#32
  let c0_i32_9 : BitVec 32 := 0#32
  let c0_i32_10 : BitVec 32 := 0#32
  ![c0_i32.toNat, c0_i32_9.toNat, v21.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1056x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S3x12288 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x2048x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1056x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== ReferenceIdeal.lean ====
abbrev S2x8192x2048 : Shape := ⟨3, ![2, 8192, 2048]⟩
abbrev S2x256x2048 : Shape := ⟨3, ![2, 256, 2048]⟩
abbrev S4x3x12288 : Shape := ⟨3, ![4, 3, 12288]⟩
abbrev S4x2048 : Shape := ⟨2, ![4, 2048]⟩
abbrev S4x2048x10112 : Shape := ⟨3, ![4, 2048, 10112]⟩
abbrev S1x2x12288 : Shape := ⟨3, ![1, 2, 12288]⟩
abbrev S2x12288 : Shape := ⟨2, ![2, 12288]⟩
abbrev S2x1x6x2048 : Shape := ⟨4, ![2, 1, 6, 2048]⟩
abbrev S1x1x12288 : Shape := ⟨3, ![1, 1, 12288]⟩
abbrev S1x12288 : Shape := ⟨2, ![1, 12288]⟩
abbrev S1x1x6x2048 : Shape := ⟨4, ![1, 1, 6, 2048]⟩
abbrev S1x2048 : Shape := ⟨2, ![1, 2048]⟩
abbrev S2048 : Shape := ⟨1, ![2048]⟩
abbrev S_ : Shape := ⟨0, ![]⟩
abbrev S2x8192 : Shape := ⟨2, ![2, 8192]⟩
abbrev S2x8192x1 : Shape := ⟨3, ![2, 8192, 1]⟩
abbrev S1x1x2048 : Shape := ⟨3, ![1, 1, 2048]⟩
abbrev S2x1x1x2048 : Shape := ⟨4, ![2, 1, 1, 2048]⟩
abbrev S2x1x2048 : Shape := ⟨3, ![2, 1, 2048]⟩
abbrev S2x256 : Shape := ⟨2, ![2, 256]⟩
abbrev S2x256x1 : Shape := ⟨3, ![2, 256, 1]⟩
abbrev S1x1x1x2048 : Shape := ⟨4, ![1, 1, 1, 2048]⟩
abbrev S1x2048x10112 : Shape := ⟨3, ![1, 2048, 10112]⟩
abbrev S2048x10112 : Shape := ⟨2, ![2048, 10112]⟩
abbrev S2x8192x10112 : Shape := ⟨3, ![2, 8192, 10112]⟩
abbrev S2x256x10112 : Shape := ⟨3, ![2, 256, 10112]⟩
abbrev S2x8448x10112 : Shape := ⟨3, ![2, 8448, 10112]⟩
abbrev S16896x10112 : Shape := ⟨2, ![16896, 10112]⟩
abbrev S16896x2048 : Shape := ⟨2, ![16896, 2048]⟩
abbrev S16896x512 : Shape := ⟨2, ![16896, 512]⟩
abbrev S16896x1024 : Shape := ⟨2, ![16896, 1024]⟩
abbrev S16896x6144 : Shape := ⟨2, ![16896, 6144]⟩
abbrev S16896x10240 : Shape := ⟨2, ![16896, 10240]⟩

abbrev nBuf : Space → Nat
  | .hbm => 83
  | .vmem => 0
  | .smem => 0
  | _ => 0

abbrev bufTy : (tb : Table) → Fin (tcTables nBuf tb) → BufTy
  | .hbm, ⟨0, _⟩ => ⟨S2x8192x2048, .f32⟩
  | .hbm, ⟨1, _⟩ => ⟨S2x256x2048, .f32⟩
  | .hbm, ⟨2, _⟩ => ⟨S4x3x12288, .f32⟩
  | .hbm, ⟨3, _⟩ => ⟨S4x2048, .f32⟩
  | .hbm, ⟨4, _⟩ => ⟨S4x2048x10112, .f32⟩
  | .hbm, ⟨5, _⟩ => ⟨S1x2x12288, .f32⟩
  | .hbm, ⟨6, _⟩ => ⟨S2x12288, .f32⟩
  | .hbm, ⟨7, _⟩ => ⟨S2x1x6x2048, .f32⟩
  | .hbm, ⟨8, _⟩ => ⟨S1x1x12288, .f32⟩
  | .hbm, ⟨9, _⟩ => ⟨S1x12288, .f32⟩
  | .hbm, ⟨10, _⟩ => ⟨S1x1x6x2048, .f32⟩
  | .hbm, ⟨11, _⟩ => ⟨S1x2048, .f32⟩
  | .hbm, ⟨12, _⟩ => ⟨S2048, .f32⟩
  | .hbm, ⟨13, _⟩ => ⟨S2x8192x2048, .f32⟩
  | .hbm, ⟨14, _⟩ => ⟨S_, .f32⟩
  | .hbm, ⟨15, _⟩ => ⟨S2x8192, .f32⟩
  | .hbm, ⟨16, _⟩ => ⟨S2x8192x1, .f32⟩
  | .hbm, ⟨17, _⟩ => ⟨S_, .f32⟩
  | .hbm, ⟨18, _⟩ => ⟨S2x8192x1, .f32⟩
  | .hbm, ⟨19, _⟩ => ⟨S2x8192x1, .f32⟩
  | .hbm, ⟨20, _⟩ => ⟨S_, .f32⟩
  | .hbm, ⟨21, _⟩ => ⟨S2x8192x1, .f32⟩
  | .hbm, ⟨22, _⟩ => ⟨S2x8192x1, .f32⟩
  | .hbm, ⟨23, _⟩ => ⟨S2x8192x1, .f32⟩
  | .hbm, ⟨24, _⟩ => ⟨S2x8192x2048, .f32⟩
  | .hbm, ⟨25, _⟩ => ⟨S2x8192x2048, .f32⟩
  | .hbm, ⟨26, _⟩ => ⟨S1x1x2048, .f32⟩
  | .hbm, ⟨27, _⟩ => ⟨S2x8192x2048, .f32⟩
  | .hbm, ⟨28, _⟩ => ⟨S2x8192x2048, .f32⟩
  | .hbm, ⟨29, _⟩ => ⟨S2x1x1x2048, .f32⟩
  | .hbm, ⟨30, _⟩ => ⟨S2x1x2048, .f32⟩
  | .hbm, ⟨31, _⟩ => ⟨S_, .f32⟩
  | .hbm, ⟨32, _⟩ => ⟨S2x1x2048, .f32⟩
  | .hbm, ⟨33, _⟩ => ⟨S2x1x2048, .f32⟩
  | .hbm, ⟨34, _⟩ => ⟨S2x8192x2048, .f32⟩
  | .hbm, ⟨35, _⟩ => ⟨S2x8192x2048, .f32⟩
  | .hbm, ⟨36, _⟩ => ⟨S2x1x1x2048, .f32⟩
  | .hbm, ⟨37, _⟩ => ⟨S2x1x2048, .f32⟩
  | .hbm, ⟨38, _⟩ => ⟨S2x8192x2048, .f32⟩
  | .hbm, ⟨39, _⟩ => ⟨S2x8192x2048, .f32⟩
  | .hbm, ⟨40, _⟩ => ⟨S1x2048, .f32⟩
  | .hbm, ⟨41, _⟩ => ⟨S2048, .f32⟩
  | .hbm, ⟨42, _⟩ => ⟨S2x256x2048, .f32⟩
  | .hbm, ⟨43, _⟩ => ⟨S_, .f32⟩
  | .hbm, ⟨44, _⟩ => ⟨S2x256, .f32⟩
  | .hbm, ⟨45, _⟩ => ⟨S2x256x1, .f32⟩
  | .hbm, ⟨46, _⟩ => ⟨S_, .f32⟩
  | .hbm, ⟨47, _⟩ => ⟨S2x256x1, .f32⟩
  | .hbm, ⟨48, _⟩ => ⟨S2x256x1, .f32⟩
  | .hbm, ⟨49, _⟩ => ⟨S_, .f32⟩
  | .hbm, ⟨50, _⟩ => ⟨S2x256x1, .f32⟩
  | .hbm, ⟨51, _⟩ => ⟨S2x256x1, .f32⟩
  | .hbm, ⟨52, _⟩ => ⟨S2x256x1, .f32⟩
  | .hbm, ⟨53, _⟩ => ⟨S2x256x2048, .f32⟩
  | .hbm, ⟨54, _⟩ => ⟨S2x256x2048, .f32⟩
  | .hbm, ⟨55, _⟩ => ⟨S1x1x2048, .f32⟩
  | .hbm, ⟨56, _⟩ => ⟨S2x256x2048, .f32⟩
  | .hbm, ⟨57, _⟩ => ⟨S2x256x2048, .f32⟩
  | .hbm, ⟨58, _⟩ => ⟨S1x1x1x2048, .f32⟩
  | .hbm, ⟨59, _⟩ => ⟨S1x1x2048, .f32⟩
  | .hbm, ⟨60, _⟩ => ⟨S_, .f32⟩
  | .hbm, ⟨61, _⟩ => ⟨S1x1x2048, .f32⟩
  | .hbm, ⟨62, _⟩ => ⟨S1x1x2048, .f32⟩
  | .hbm, ⟨63, _⟩ => ⟨S2x256x2048, .f32⟩
  | .hbm, ⟨64, _⟩ => ⟨S2x256x2048, .f32⟩
  | .hbm, ⟨65, _⟩ => ⟨S1x1x1x2048, .f32⟩
  | .hbm, ⟨66, _⟩ => ⟨S1x1x2048, .f32⟩
  | .hbm, ⟨67, _⟩ => ⟨S2x256x2048, .f32⟩
  | .hbm, ⟨68, _⟩ => ⟨S2x256x2048, .f32⟩
  | .hbm, ⟨69, _⟩ => ⟨S1x2048x10112, .f32⟩
  | .hbm, ⟨70, _⟩ => ⟨S2048x10112, .f32⟩
  | .hbm, ⟨71, _⟩ => ⟨S2x8192x10112, .f32⟩
  | .hbm, ⟨72, _⟩ => ⟨S1x2048x10112, .f32⟩
  | .hbm, ⟨73, _⟩ => ⟨S2048x10112, .f32⟩
  | .hbm, ⟨74, _⟩ => ⟨S2x256x10112, .f32⟩
  | .hbm, ⟨75, _⟩ => ⟨S2x8448x10112, .f32⟩
  | .hbm, ⟨76, _⟩ => ⟨S16896x10112, .f32⟩
  | .hbm, ⟨77, _⟩ => ⟨S16896x2048, .f32⟩
  | .hbm, ⟨78, _⟩ => ⟨S16896x512, .f32⟩
  | .hbm, ⟨79, _⟩ => ⟨S16896x512, .f32⟩
  | .hbm, ⟨80, _⟩ => ⟨S16896x1024, .f32⟩
  | .hbm, ⟨81, _⟩ => ⟨S16896x6144, .f32⟩
  | .hbm, ⟨82, _⟩ => ⟨S16896x10240, .f32⟩
  | _, _ => ⟨S2x8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst : Ref sig .tc := ⟨.hbm, 14, rfl⟩
abbrev main_v9 : Ref sig .tc := ⟨.hbm, 15, rfl⟩
abbrev main_v10 : Ref sig .tc := ⟨.hbm, 16, rfl⟩
abbrev main_cst_0 : Ref sig .tc := ⟨.hbm, 17, rfl⟩
abbrev main_v11 : Ref sig .tc := ⟨.hbm, 18, rfl⟩
abbrev main_v12 : Ref sig .tc := ⟨.hbm, 19, rfl⟩
abbrev main_cst_1 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_cst_2 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_cst_3 : Ref sig .tc := ⟨.hbm, 43, rfl⟩
abbrev main_v34 : Ref sig .tc := ⟨.hbm, 44, rfl⟩
abbrev main_v35 : Ref sig .tc := ⟨.hbm, 45, rfl⟩
abbrev main_cst_4 : Ref sig .tc := ⟨.hbm, 46, rfl⟩
abbrev main_v36 : Ref sig .tc := ⟨.hbm, 47, rfl⟩
abbrev main_v37 : Ref sig .tc := ⟨.hbm, 48, rfl⟩
abbrev main_cst_5 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_cst_6 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_v54 : Ref sig .tc := ⟨.hbm, 67, rfl⟩
abbrev main_v55 : Ref sig .tc := ⟨.hbm, 68, rfl⟩
abbrev main_v56 : Ref sig .tc := ⟨.hbm, 69, rfl⟩
abbrev main_v57 : Ref sig .tc := ⟨.hbm, 70, rfl⟩
abbrev main_v58 : Ref sig .tc := ⟨.hbm, 71, rfl⟩
abbrev main_v59 : Ref sig .tc := ⟨.hbm, 72, rfl⟩
abbrev main_v60 : Ref sig .tc := ⟨.hbm, 73, rfl⟩
abbrev main_v61 : Ref sig .tc := ⟨.hbm, 74, rfl⟩
abbrev main_v62 : Ref sig .tc := ⟨.hbm, 75, rfl⟩
abbrev main_v63 : Ref sig .tc := ⟨.hbm, 76, rfl⟩
abbrev main_v64 : Ref sig .tc := ⟨.hbm, 77, rfl⟩
abbrev main_v65 : Ref sig .tc := ⟨.hbm, 78, rfl⟩
abbrev main_v66 : Ref sig .tc := ⟨.hbm, 79, rfl⟩
abbrev main_v67 : Ref sig .tc := ⟨.hbm, 80, rfl⟩
abbrev main_v68 : Ref sig .tc := ⟨.hbm, 81, rfl⟩
abbrev main_v69 : Ref sig .tc := ⟨.hbm, 82, rfl⟩

abbrev nD : Nat := 1
abbrev τ : Topo := Topo.v7x

variable {F : FTy → Type} [FloatOps F]
-- ==== Kernel2.lean ====
abbrev S16896x512 : Shape := ⟨2, ![16896, 512]⟩
abbrev S16896x1024 : Shape := ⟨2, ![16896, 1024]⟩
abbrev S16896x10240 : Shape := ⟨2, ![16896, 10240]⟩
abbrev S4x2048x2048 : Shape := ⟨3, ![4, 2048, 2048]⟩
abbrev S16896x2048 : Shape := ⟨2, ![16896, 2048]⟩
abbrev S4x3x12288 : Shape := ⟨3, ![4, 3, 12288]⟩
abbrev S1x2048x2048 : Shape := ⟨3, ![1, 2048, 2048]⟩
abbrev S2048x2048 : Shape := ⟨2, ![2048, 2048]⟩
abbrev S1056x512 : Shape := ⟨2, ![1056, 512]⟩
abbrev S1056x1024 : Shape := ⟨2, ![1056, 1024]⟩
abbrev S512x512 : Shape := ⟨2, ![512, 512]⟩
abbrev S1024x512 : Shape := ⟨2, ![1024, 512]⟩
abbrev S1x3x12288 : Shape := ⟨3, ![1, 3, 12288]⟩
abbrev S3x12288 : Shape := ⟨2, ![3, 12288]⟩
abbrev S1056x2048 : Shape := ⟨2, ![1056, 2048]⟩
abbrev S2048x512 : Shape := ⟨2, ![2048, 512]⟩
abbrev S3x512 : Shape := ⟨2, ![3, 512]⟩
abbrev S1056x1 : Shape := ⟨2, ![1056, 1]⟩
abbrev S1x512 : Shape := ⟨2, ![1, 512]⟩

abbrev nBuf : Space → Nat
  | .hbm => 18
  | .vmem => 30
  | .smem => 0
  | _ => 0

abbrev bufTy : (tb : Table) → Fin (tcTables nBuf tb) → BufTy
  | .hbm, ⟨0, _⟩ => ⟨S16896x512, .bf16⟩
  | .hbm, ⟨1, _⟩ => ⟨S16896x512, .bf16⟩
  | .hbm, ⟨2, _⟩ => ⟨S16896x1024, .bf16⟩
  | .hbm, ⟨3, _⟩ => ⟨S16896x10240, .f32⟩
  | .hbm, ⟨4, _⟩ => ⟨S4x2048x2048, .f32⟩
  | .hbm, ⟨5, _⟩ => ⟨S4x2048x2048, .f32⟩
  | .hbm, ⟨6, _⟩ => ⟨S16896x2048, .f32⟩
  | .hbm, ⟨7, _⟩ => ⟨S4x3x12288, .f32⟩
  | .hbm, ⟨8, _⟩ => ⟨S1x2048x2048, .f32⟩
  | .hbm, ⟨9, _⟩ => ⟨S2048x2048, .f32⟩
  | .hbm, ⟨10, _⟩ => ⟨S2048x2048, .bf16⟩
  | .hbm, ⟨11, _⟩ => ⟨S16896x2048, .bf16⟩
  | .hbm, ⟨12, _⟩ => ⟨S1x2048x2048, .f32⟩
  | .hbm, ⟨13, _⟩ => ⟨S2048x2048, .f32⟩
  | .hbm, ⟨14, _⟩ => ⟨S2048x2048, .bf16⟩
  | .hbm, ⟨15, _⟩ => ⟨S1x3x12288, .f32⟩
  | .hbm, ⟨16, _⟩ => ⟨S3x12288, .f32⟩
  | .hbm, ⟨17, _⟩ => ⟨S16896x2048, .f32⟩
  | .local _ .vmem, ⟨0, _⟩ => ⟨S1056x512, .bf16⟩
  | .local _ .vmem, ⟨1, _⟩ => ⟨S1056x512, .bf16⟩
  | .local _ .vmem, ⟨2, _⟩ => ⟨S1056x512, .bf16⟩
  | .local _ .vmem, ⟨3, _⟩ => ⟨S1056x512, .bf16⟩
  | .local _ .vmem, ⟨4, _⟩ => ⟨S1056x1024, .bf16⟩
  | .local _ .vmem, ⟨5, _⟩ => ⟨S1056x1024, .bf16⟩
  | .local _ .vmem, ⟨6, _⟩ => ⟨S1056x512, .f32⟩
  | .local _ .vmem, ⟨7, _⟩ => ⟨S1056x512, .f32⟩
  | .local _ .vmem, ⟨8, _⟩ => ⟨S1056x512, .f32⟩
  | .local _ .vmem, ⟨9, _⟩ => ⟨S1056x512, .f32⟩
  | .local _ .vmem, ⟨10, _⟩ => ⟨S1056x512, .f32⟩
  | .local _ .vmem, ⟨11, _⟩ => ⟨S1056x512, .f32⟩
  | .local _ .vmem, ⟨12, _⟩ => ⟨S512x512, .bf16⟩
  | .local _ .vmem, ⟨13, _⟩ => ⟨S512x512, .bf16⟩
  | .local _ .vmem, ⟨14, _⟩ => ⟨S512x512, .bf16⟩
  | .local _ .vmem, ⟨15, _⟩ => ⟨S512x512, .bf16⟩
  | .local _ .vmem, ⟨16, _⟩ => ⟨S1024x512, .bf16⟩
  | .local _ .vmem, ⟨17, _⟩ => ⟨S1024x512, .bf16⟩
  | .local _ .vmem, ⟨18, _⟩ => ⟨S1056x512, .bf16⟩
  | .local _ .vmem, ⟨19, _⟩ => ⟨S1056x512, .bf16⟩
  | .local _ .vmem, ⟨20, _⟩ => ⟨S1056x2048, .bf16⟩
  | .local _ .vmem, ⟨21, _⟩ => ⟨S1056x2048, .bf16⟩
  | .local _ .vmem, ⟨22, _⟩ => ⟨S2048x512, .bf16⟩
  | .local _ .vmem, ⟨23, _⟩ => ⟨S2048x512, .bf16⟩
  | .local _ .vmem, ⟨24, _⟩ => ⟨S1056x512, .f32⟩
  | .local _ .vmem, ⟨25, _⟩ => ⟨S1056x512, .f32⟩
  | .local _ .vmem, ⟨26, _⟩ => ⟨S3x512, .f32⟩
  | .local _ .vmem, ⟨27, _⟩ => ⟨S3x512, .f32⟩
  | .local _ .vmem, ⟨28, _⟩ => ⟨S1056x512, .f32⟩
  | .local _ .vmem, ⟨29, _⟩ => ⟨S1056x512, .f32⟩
  | _, _ => ⟨S16896x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc1_stg0_0 : Ref sig .tc := ⟨.vmem, 20, rfl⟩
abbrev cc1_stg0_1 : Ref sig .tc := ⟨.vmem, 21, rfl⟩
abbrev cc1_stg1_0 : Ref sig .tc := ⟨.vmem, 22, rfl⟩
abbrev cc1_stg1_1 : Ref sig .tc := ⟨.vmem, 23, rfl⟩
abbrev cc1_stg2_0 : Ref sig .tc := ⟨.vmem, 24, rfl⟩
abbrev cc1_stg2_1 : Ref sig .tc := ⟨.vmem, 25, rfl⟩
abbrev cc1_stg3_0 : Ref sig .tc := ⟨.vmem, 26, rfl⟩
abbrev cc1_stg3_1 : Ref sig .tc := ⟨.vmem, 27, rfl⟩
abbrev cc1_stg4_0 : Ref sig .tc := ⟨.vmem, 28, rfl⟩
abbrev cc1_stg4_1 : Ref sig .tc := ⟨.vmem, 29, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc1_sem0_0 : DmaSem sig := 20
abbrev cc1_sem0_1 : DmaSem sig := 21
abbrev cc1_sem1_0 : DmaSem sig := 22
abbrev cc1_sem1_1 : DmaSem sig := 23
abbrev cc1_sem2_0 : DmaSem sig := 24
abbrev cc1_sem2_1 : DmaSem sig := 25
abbrev cc1_sem3_0 : DmaSem sig := 26
abbrev cc1_sem3_1 : DmaSem sig := 27
abbrev cc1_sem4_0 : DmaSem sig := 28
abbrev cc1_sem4_1 : DmaSem sig := 29

abbrev nD : Nat := 1
abbrev τ : Topo := Topo.v7x

variable {F : FTy → Type} [FloatOps F]

abbrev grid0 : Pipeline.Grid := ⟨2, ![16, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg1
  let c0_i32 : BitVec 32 := 0#32
  ![arg0.toNat, v0.toNat]

def cc0_transform_4 (i : grid0.Coords) : Fin 2 → Nat :=
  let arg0 : BitVec 32 := BitVec.ofNat 32 (i 0).val
  let arg1 : BitVec 32 := BitVec.ofNat 32 (i 1).val
  let c12_i32 : BitVec 32 := 12#32
  let v0 : BitVec 32 := Scalar.addi c12_i32 arg1
  let c0_i32 : BitVec 32 := 0#32
  ![arg0.toNat, v0.toNat]

def cc0_transform_5 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.addi c16_i32 arg1
  let c0_i32 : BitVec 32 := 0#32
  ![arg0.toNat, v0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_7 (i : grid0.Coords) : Fin 2 → Nat :=
  let arg0 : BitVec 32 := BitVec.ofNat 32 (i 0).val
  let arg1 : BitVec 32 := BitVec.ofNat 32 (i 1).val
  let c1_i32 : BitVec 32 := 1#32
  let c0_i32 : BitVec 32 := 0#32
  ![c1_i32.toNat, arg1.toNat]

def cc0_transform_8 (i : grid0.Coords) : Fin 2 → Nat :=
  let arg0 : BitVec 32 := BitVec.ofNat 32 (i 0).val
  let arg1 : BitVec 32 := BitVec.ofNat 32 (i 1).val
  let c1_i32 : BitVec 32 := 1#32
  let c0_i32 : BitVec 32 := 0#32
  ![c1_i32.toNat, arg1.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1056x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1056x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1056x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1056x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1056x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1056x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S512x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S512x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true]

abbrev stage0_8 : Fin 2 → Memref sig .tc .vmem S1024x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![false, true]

abbrev stage0_9 : Fin 2 → Memref sig .tc .vmem S1056x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev grid1 : Pipeline.Grid := ⟨2, ![16, 4], ![false, false]⟩

def k1_off1 (i : grid1.Coords) : Fin 2 → Nat :=
  let arg0 : BitVec 32 := BitVec.ofNat 32 (i 0).val
  let c0_i32_4 : BitVec 32 := 0#32
  let v19 : BitVec 1 := Scalar.cmpi .sgt arg0 c0_i32_4
  let v20 : BitVec 32 := Scalar.extui v19
  let c0_i32_5 : BitVec 32 := 0#32
  let v21 : BitVec 1 := Scalar.cmpi .slt arg0 c0_i32_5
  let v22 : BitVec 32 := Scalar.extui v21
  let v23 : BitVec 32 := Scalar.subi v20 v22
  let c8_i32_3 : BitVec 32 := 8#32
  let c0_i32_6 : BitVec 32 := 0#32
  let v24 : BitVec 1 := Scalar.cmpi .sgt c8_i32_3 c0_i32_6
  let v25 : BitVec 32 := Scalar.extui v24
  let c0_i32_7 : BitVec 32 := 0#32
  let v26 : BitVec 1 := Scalar.cmpi .slt c8_i32_3 c0_i32_7
  let v27 : BitVec 32 := Scalar.extui v26
  let v28 : BitVec 32 := Scalar.subi v25 v27
  let v29 : BitVec 1 := Scalar.cmpi .ne v23 v28
  let v30 : BitVec 32 := Scalar.remsi arg0 c8_i32_3
  let c0_i32_8 : BitVec 32 := 0#32
  let v31 : BitVec 1 := Scalar.cmpi .ne v30 c0_i32_8
  let v32 : BitVec 1 := Scalar.andi v29 v31
  let v18 : BitVec 32 := Scalar.divsi arg0 c8_i32_3
  let c1_i32_9 : BitVec 32 := 1#32
  let v33 : BitVec 32 := Scalar.subi v18 c1_i32_9
  let v34 : BitVec 32 := Scalar.select v32 v33 v18
  let v35 : Index := Scalar.indexCast v34
  let c0_10 : Index := 0#32
  ![v35.toNat, 0]
def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_3 (i : grid1.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg1
  let c0_i32 : BitVec 32 := 0#32
  let c0_i32_0 : BitVec 32 := 0#32
  ![c0_i32.toNat, v0.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage1_0 : Fin 2 → Memref sig .tc .vmem S1056x2048 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S2048x512 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S1056x512 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev stage1_3 : Fin 2 → Memref sig .tc .vmem S3x512 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![false, true]

abbrev stage1_4 : Fin 2 → Memref sig .tc .vmem S1056x512 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true]
-- ==== Reference2Ideal.lean ====
abbrev S16896x512 : Shape := ⟨2, ![16896, 512]⟩
abbrev S16896x1024 : Shape := ⟨2, ![16896, 1024]⟩
abbrev S16896x10240 : Shape := ⟨2, ![16896, 10240]⟩
abbrev S4x2048x2048 : Shape := ⟨3, ![4, 2048, 2048]⟩
abbrev S16896x2048 : Shape := ⟨2, ![16896, 2048]⟩
abbrev S4x3x12288 : Shape := ⟨3, ![4, 3, 12288]⟩
abbrev S16896x6144 : Shape := ⟨2, ![16896, 6144]⟩
abbrev S_ : Shape := ⟨0, ![]⟩
abbrev S16896x3x2048 : Shape := ⟨3, ![16896, 3, 2048]⟩
abbrev S16896x1x2048 : Shape := ⟨3, ![16896, 1, 2048]⟩
abbrev S1x512x2048 : Shape := ⟨3, ![1, 512, 2048]⟩
abbrev S512x2048 : Shape := ⟨2, ![512, 2048]⟩
abbrev S1x1024x2048 : Shape := ⟨3, ![1, 1024, 2048]⟩
abbrev S1024x2048 : Shape := ⟨2, ![1024, 2048]⟩
abbrev S1x2048x2048 : Shape := ⟨3, ![1, 2048, 2048]⟩
abbrev S2048x2048 : Shape := ⟨2, ![2048, 2048]⟩
abbrev S2x8448x2048 : Shape := ⟨3, ![2, 8448, 2048]⟩
abbrev S1x2x12288 : Shape := ⟨3, ![1, 2, 12288]⟩
abbrev S2x12288 : Shape := ⟨2, ![2, 12288]⟩
abbrev S2x1x6x2048 : Shape := ⟨4, ![2, 1, 6, 2048]⟩
abbrev S2x1x1x2048 : Shape := ⟨4, ![2, 1, 1, 2048]⟩
abbrev S2x1x2048 : Shape := ⟨3, ![2, 1, 2048]⟩
abbrev S1x1x12288 : Shape := ⟨3, ![1, 1, 12288]⟩
abbrev S1x12288 : Shape := ⟨2, ![1, 12288]⟩
abbrev S1x1x6x2048 : Shape := ⟨4, ![1, 1, 6, 2048]⟩
abbrev S1x1x1x2048 : Shape := ⟨4, ![1, 1, 1, 2048]⟩
abbrev S1x1x2048 : Shape := ⟨3, ![1, 1, 2048]⟩
abbrev S2x256x2048 : Shape := ⟨3, ![2, 256, 2048]⟩
abbrev S2x8192x2048 : Shape := ⟨3, ![2, 8192, 2048]⟩

abbrev nBuf : Space → Nat
  | .hbm => 68
  | .vmem => 0
  | .smem => 0
  | _ => 0

abbrev bufTy : (tb : Table) → Fin (tcTables nBuf tb) → BufTy
  | .hbm, ⟨0, _⟩ => ⟨S16896x512, .bf16⟩
  | .hbm, ⟨1, _⟩ => ⟨S16896x512, .bf16⟩
  | .hbm, ⟨2, _⟩ => ⟨S16896x1024, .bf16⟩
  | .hbm, ⟨3, _⟩ => ⟨S16896x10240, .f32⟩
  | .hbm, ⟨4, _⟩ => ⟨S4x2048x2048, .f32⟩
  | .hbm, ⟨5, _⟩ => ⟨S4x2048x2048, .f32⟩
  | .hbm, ⟨6, _⟩ => ⟨S16896x2048, .f32⟩
  | .hbm, ⟨7, _⟩ => ⟨S4x3x12288, .f32⟩
  | .hbm, ⟨8, _⟩ => ⟨S16896x6144, .f32⟩
  | .hbm, ⟨9, _⟩ => ⟨S16896x6144, .f32⟩
  | .hbm, ⟨10, _⟩ => ⟨S16896x6144, .f32⟩
  | .hbm, ⟨11, _⟩ => ⟨S_, .f32⟩
  | .hbm, ⟨12, _⟩ => ⟨S16896x6144, .f32⟩
  | .hbm, ⟨13, _⟩ => ⟨S16896x6144, .f32⟩
  | .hbm, ⟨14, _⟩ => ⟨S_, .f32⟩
  | .hbm, ⟨15, _⟩ => ⟨S16896x6144, .f32⟩
  | .hbm, ⟨16, _⟩ => ⟨S16896x6144, .f32⟩
  | .hbm, ⟨17, _⟩ => ⟨S16896x3x2048, .f32⟩
  | .hbm, ⟨18, _⟩ => ⟨S16896x1x2048, .f32⟩
  | .hbm, ⟨19, _⟩ => ⟨S16896x2048, .f32⟩
  | .hbm, ⟨20, _⟩ => ⟨S16896x512, .f32⟩
  | .hbm, ⟨21, _⟩ => ⟨S1x512x2048, .f32⟩
  | .hbm, ⟨22, _⟩ => ⟨S512x2048, .f32⟩
  | .hbm, ⟨23, _⟩ => ⟨S16896x2048, .f32⟩
  | .hbm, ⟨24, _⟩ => ⟨S16896x2048, .f32⟩
  | .hbm, ⟨25, _⟩ => ⟨S16896x1x2048, .f32⟩
  | .hbm, ⟨26, _⟩ => ⟨S16896x2048, .f32⟩
  | .hbm, ⟨27, _⟩ => ⟨S16896x512, .f32⟩
  | .hbm, ⟨28, _⟩ => ⟨S1x512x2048, .f32⟩
  | .hbm, ⟨29, _⟩ => ⟨S512x2048, .f32⟩
  | .hbm, ⟨30, _⟩ => ⟨S16896x2048, .f32⟩
  | .hbm, ⟨31, _⟩ => ⟨S16896x2048, .f32⟩
  | .hbm, ⟨32, _⟩ => ⟨S16896x2048, .f32⟩
  | .hbm, ⟨33, _⟩ => ⟨S16896x1x2048, .f32⟩
  | .hbm, ⟨34, _⟩ => ⟨S16896x2048, .f32⟩
  | .hbm, ⟨35, _⟩ => ⟨S16896x1024, .f32⟩
  | .hbm, ⟨36, _⟩ => ⟨S1x1024x2048, .f32⟩
  | .hbm, ⟨37, _⟩ => ⟨S1024x2048, .f32⟩
  | .hbm, ⟨38, _⟩ => ⟨S16896x2048, .f32⟩
  | .hbm, ⟨39, _⟩ => ⟨S16896x2048, .f32⟩
  | .hbm, ⟨40, _⟩ => ⟨S16896x2048, .f32⟩
  | .hbm, ⟨41, _⟩ => ⟨S1x2048x2048, .f32⟩
  | .hbm, ⟨42, _⟩ => ⟨S2048x2048, .f32⟩
  | .hbm, ⟨43, _⟩ => ⟨S16896x2048, .f32⟩
  | .hbm, ⟨44, _⟩ => ⟨S2x8448x2048, .f32⟩
  | .hbm, ⟨45, _⟩ => ⟨S2x8448x2048, .f32⟩
  | .hbm, ⟨46, _⟩ => ⟨S1x2x12288, .f32⟩
  | .hbm, ⟨47, _⟩ => ⟨S2x12288, .f32⟩
  | .hbm, ⟨48, _⟩ => ⟨S2x1x6x2048, .f32⟩
  | .hbm, ⟨49, _⟩ => ⟨S2x1x1x2048, .f32⟩
  | .hbm, ⟨50, _⟩ => ⟨S2x1x2048, .f32⟩
  | .hbm, ⟨51, _⟩ => ⟨S1x1x12288, .f32⟩
  | .hbm, ⟨52, _⟩ => ⟨S1x12288, .f32⟩
  | .hbm, ⟨53, _⟩ => ⟨S1x1x6x2048, .f32⟩
  | .hbm, ⟨54, _⟩ => ⟨S1x1x1x2048, .f32⟩
  | .hbm, ⟨55, _⟩ => ⟨S1x1x2048, .f32⟩
  | .hbm, ⟨56, _⟩ => ⟨S2x256x2048, .f32⟩
  | .hbm, ⟨57, _⟩ => ⟨S2x256x2048, .f32⟩
  | .hbm, ⟨58, _⟩ => ⟨S2x256x2048, .f32⟩
  | .hbm, ⟨59, _⟩ => ⟨S2x256x2048, .f32⟩
  | .hbm, ⟨60, _⟩ => ⟨S2x256x2048, .f32⟩
  | .hbm, ⟨61, _⟩ => ⟨S2x8192x2048, .f32⟩
  | .hbm, ⟨62, _⟩ => ⟨S2x8192x2048, .f32⟩
  | .hbm, ⟨63, _⟩ => ⟨S2x8192x2048, .f32⟩
  | .hbm, ⟨64, _⟩ => ⟨S2x8192x2048, .f32⟩
  | .hbm, ⟨65, _⟩ => ⟨S2x8192x2048, .f32⟩
  | .hbm, ⟨66, _⟩ => ⟨S2x8448x2048, .f32⟩
  | .hbm, ⟨67, _⟩ => ⟨S16896x2048, .f32⟩
  | _, _ => ⟨S16896x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_cst : Ref sig .tc := ⟨.hbm, 11, rfl⟩
abbrev main_v3 : Ref sig .tc := ⟨.hbm, 12, rfl⟩
abbrev main_v4 : Ref sig .tc := ⟨.hbm, 13, rfl⟩
abbrev main_cst_0 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_v47 : Ref sig .tc := ⟨.hbm, 57, rfl⟩
abbrev main_v48 : Ref sig .tc := ⟨.hbm, 58, rfl⟩
abbrev main_v49 : Ref sig .tc := ⟨.hbm, 59, rfl⟩
abbrev main_v50 : Ref sig .tc := ⟨.hbm, 60, rfl⟩
abbrev main_v51 : Ref sig .tc := ⟨.hbm, 61, rfl⟩
abbrev main_v52 : Ref sig .tc := ⟨.hbm, 62, rfl⟩
abbrev main_v53 : Ref sig .tc := ⟨.hbm, 63, rfl⟩
abbrev main_v54 : Ref sig .tc := ⟨.hbm, 64, rfl⟩
abbrev main_v55 : Ref sig .tc := ⟨.hbm, 65, rfl⟩
abbrev main_v56 : Ref sig .tc := ⟨.hbm, 66, rfl⟩
abbrev main_v57 : Ref sig .tc := ⟨.hbm, 67, rfl⟩

abbrev nD : Nat := 1
abbrev τ : Topo := Topo.v7x

variable {F : FTy → Type} [FloatOps F]
-- ==== Kernel3.lean ====
abbrev S16896x2048 : Shape := ⟨2, ![16896, 2048]⟩
abbrev S2048 : Shape := ⟨1, ![2048]⟩
abbrev S2x8448x2048 : Shape := ⟨3, ![2, 8448, 2048]⟩
abbrev S1x2048 : Shape := ⟨2, ![1, 2048]⟩
abbrev S2x8192x2048 : Shape := ⟨3, ![2, 8192, 2048]⟩
abbrev S1x256x2048 : Shape := ⟨3, ![1, 256, 2048]⟩
abbrev S256x2048 : Shape := ⟨2, ![256, 2048]⟩
abbrev S256 : Shape := ⟨1, ![256]⟩
abbrev S256x1 : Shape := ⟨2, ![256, 1]⟩

abbrev nBuf : Space → Nat
  | .hbm => 5
  | .vmem => 5
  | .smem => 0
  | _ => 0

abbrev bufTy : (tb : Table) → Fin (tcTables nBuf tb) → BufTy
  | .hbm, ⟨0, _⟩ => ⟨S16896x2048, .f32⟩
  | .hbm, ⟨1, _⟩ => ⟨S2048, .f32⟩
  | .hbm, ⟨2, _⟩ => ⟨S2x8448x2048, .f32⟩
  | .hbm, ⟨3, _⟩ => ⟨S1x2048, .f32⟩
  | .hbm, ⟨4, _⟩ => ⟨S2x8192x2048, .f32⟩
  | .local _ .vmem, ⟨0, _⟩ => ⟨S1x256x2048, .f32⟩
  | .local _ .vmem, ⟨1, _⟩ => ⟨S1x256x2048, .f32⟩
  | .local _ .vmem, ⟨2, _⟩ => ⟨S1x2048, .f32⟩
  | .local _ .vmem, ⟨3, _⟩ => ⟨S1x256x2048, .f32⟩
  | .local _ .vmem, ⟨4, _⟩ => ⟨S1x256x2048, .f32⟩
  | _, _ => ⟨S16896x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![2, 32], ![false, false]⟩

def cc0_transform_0 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c0_i32 : BitVec 32 := 0#32
  let c0_i32_0 : BitVec 32 := 0#32
  ![arg0.toNat, v0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference3Ideal.lean ====
abbrev S16896x2048 : Shape := ⟨2, ![16896, 2048]⟩
abbrev S2048 : Shape := ⟨1, ![2048]⟩
abbrev S2x8448x2048 : Shape := ⟨3, ![2, 8448, 2048]⟩
abbrev S2x8192x2048 : Shape := ⟨3, ![2, 8192, 2048]⟩
abbrev S_ : Shape := ⟨0, ![]⟩
abbrev S2x8192 : Shape := ⟨2, ![2, 8192]⟩
abbrev S2x8192x1 : Shape := ⟨3, ![2, 8192, 1]⟩
abbrev S1x1x2048 : Shape := ⟨3, ![1, 1, 2048]⟩

abbrev nBuf : Space → Nat
  | .hbm => 20
  | .vmem => 0
  | .smem => 0
  | _ => 0

abbrev bufTy : (tb : Table) → Fin (tcTables nBuf tb) → BufTy
  | .hbm, ⟨0, _⟩ => ⟨S16896x2048, .f32⟩
  | .hbm, ⟨1, _⟩ => ⟨S2048, .f32⟩
  | .hbm, ⟨2, _⟩ => ⟨S2x8448x2048, .f32⟩
  | .hbm, ⟨3, _⟩ => ⟨S2x8192x2048, .f32⟩
  | .hbm, ⟨4, _⟩ => ⟨S2x8192x2048, .f32⟩
  | .hbm, ⟨5, _⟩ => ⟨S_, .f32⟩
  | .hbm, ⟨6, _⟩ => ⟨S2x8192, .f32⟩
  | .hbm, ⟨7, _⟩ => ⟨S2x8192x1, .f32⟩
  | .hbm, ⟨8, _⟩ => ⟨S_, .f32⟩
  | .hbm, ⟨9, _⟩ => ⟨S2x8192x1, .f32⟩
  | .hbm, ⟨10, _⟩ => ⟨S2x8192x1, .f32⟩
  | .hbm, ⟨11, _⟩ => ⟨S_, .f32⟩
  | .hbm, ⟨12, _⟩ => ⟨S2x8192x1, .f32⟩
  | .hbm, ⟨13, _⟩ => ⟨S2x8192x1, .f32⟩
  | .hbm, ⟨14, _⟩ => ⟨S2x8192x1, .f32⟩
  | .hbm, ⟨15, _⟩ => ⟨S2x8192x2048, .f32⟩
  | .hbm, ⟨16, _⟩ => ⟨S2x8192x2048, .f32⟩
  | .hbm, ⟨17, _⟩ => ⟨S1x1x2048, .f32⟩
  | .hbm, ⟨18, _⟩ => ⟨S2x8192x2048, .f32⟩
  | .hbm, ⟨19, _⟩ => ⟨S2x8192x2048, .f32⟩
  | _, _ => ⟨S16896x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_cst_0 : Ref sig .tc := ⟨.hbm, 8, rfl⟩
abbrev main_v5 : Ref sig .tc := ⟨.hbm, 9, rfl⟩
abbrev main_v6 : Ref sig .tc := ⟨.hbm, 10, rfl⟩
abbrev main_cst_1 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩

abbrev nD : Nat := 1
abbrev τ : Topo := Topo.v7x

variable {F : FTy → Type} [FloatOps F]
-- ==== Kernel4.lean ====
abbrev S16896x1024 : Shape := ⟨2, ![16896, 1024]⟩
abbrev S16896x256 : Shape := ⟨2, ![16896, 256]⟩
abbrev S_ : Shape := ⟨0, ![]⟩
abbrev S1056x512 : Shape := ⟨2, ![1056, 512]⟩
abbrev S768x128 : Shape := ⟨2, ![768, 128]⟩
abbrev S4x1056x1 : Shape := ⟨3, ![4, 1056, 1]⟩
abbrev S4x1056x256 : Shape := ⟨3, ![4, 1056, 256]⟩
abbrev S2x1056x768 : Shape := ⟨3, ![2, 1056, 768]⟩
abbrev S768x256 : Shape := ⟨2, ![768, 256]⟩
abbrev S1056x1 : Shape := ⟨2, ![1056, 1]⟩
abbrev S1x768 : Shape := ⟨2, ![1, 768]⟩
abbrev S1056x768 : Shape := ⟨2, ![1056, 768]⟩
abbrev S1056x128 : Shape := ⟨2, ![1056, 128]⟩
abbrev S1x1056x768 : Shape := ⟨3, ![1, 1056, 768]⟩
abbrev S1x1056x1 : Shape := ⟨3, ![1, 1056, 1]⟩
abbrev S1056 : Shape := ⟨1, ![1056]⟩
abbrev S1x1056x256 : Shape := ⟨3, ![1, 1056, 256]⟩
abbrev S1056x256 : Shape := ⟨2, ![1056, 256]⟩
abbrev S1x1056x128 : Shape := ⟨3, ![1, 1056, 128]⟩

abbrev nBuf : Space → Nat
  | .hbm => 14
  | .vmem => 12
  | .smem => 0
  | _ => 0

abbrev bufTy : (tb : Table) → Fin (tcTables nBuf tb) → BufTy
  | .hbm, ⟨0, _⟩ => ⟨S16896x1024, .f32⟩
  | .hbm, ⟨1, _⟩ => ⟨S16896x256, .f32⟩
  | .hbm, ⟨2, _⟩ => ⟨S16896x256, .f32⟩
  | .hbm, ⟨3, _⟩ => ⟨S_, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S16896x1024, .f32⟩
  | .hbm, ⟨9, _⟩ => ⟨S16896x1024, .f32⟩
  | .hbm, ⟨10, _⟩ => ⟨S16896x1024, .bf16⟩
  | .hbm, ⟨11, _⟩ => ⟨S16896x256, .bf16⟩
  | .hbm, ⟨12, _⟩ => ⟨S16896x256, .bf16⟩
  | .hbm, ⟨13, _⟩ => ⟨S16896x1024, .bf16⟩
  | .local _ .vmem, ⟨0, _⟩ => ⟨S1056x512, .bf16⟩
  | .local _ .vmem, ⟨1, _⟩ => ⟨S1056x512, .bf16⟩
  | .local _ .vmem, ⟨2, _⟩ => ⟨S768x128, .bf16⟩
  | .local _ .vmem, ⟨3, _⟩ => ⟨S768x128, .bf16⟩
  | .local _ .vmem, ⟨4, _⟩ => ⟨S768x128, .bf16⟩
  | .local _ .vmem, ⟨5, _⟩ => ⟨S768x128, .bf16⟩
  | .local _ .vmem, ⟨6, _⟩ => ⟨S1056x512, .bf16⟩
  | .local _ .vmem, ⟨7, _⟩ => ⟨S1056x512, .bf16⟩
  | .local _ .vmem, ⟨8, _⟩ => ⟨S4x1056x1, .f32⟩
  | .local _ .vmem, ⟨9, _⟩ => ⟨S4x1056x256, .f32⟩
  | .local _ .vmem, ⟨10, _⟩ => ⟨S2x1056x768, .f32⟩
  | .local _ .vmem, ⟨11, _⟩ => ⟨S2x1056x768, .bf16⟩
  | _, _ => ⟨S16896x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_cst_0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc0_scratch3 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨4, ![2, 2, 8, 11], ![false, false, false, false]⟩

def k0_cond4 (i : grid0.Coords) : BitVec 1 :=
  let arg3 : BitVec 32 := BitVec.ofNat 32 (i 3).val
  let c10_i32 : BitVec 32 := 10#32
  let v10 : BitVec 1 := Scalar.cmpi .eq arg3 c10_i32
  let v11 : BitVec 32 := Scalar.extui v10
  let c0_i32_3 : BitVec 32 := 0#32
  let v12 : BitVec 1 := Scalar.cmpi .ne v11 c0_i32_3
  v12

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c8_i32 : BitVec 32 := 8#32
  let v0 : BitVec 32 := Scalar.muli arg0 c8_i32
  let v1 : BitVec 32 := Scalar.addi v0 arg2
  let c0_i32 : BitVec 32 := 0#32
  ![v1.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c11_i32 : BitVec 32 := 11#32
  let v0 : BitVec 32 := Scalar.muli arg0 c11_i32
  let v1 : BitVec 32 := Scalar.addi v0 arg3
  let c0_i32 : BitVec 32 := 0#32
  ![v1.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c11_i32 : BitVec 32 := 11#32
  let v0 : BitVec 32 := Scalar.muli arg0 c11_i32
  let v1 : BitVec 32 := Scalar.addi v0 arg3
  let c0_i32 : BitVec 32 := 0#32
  ![v1.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c8_i32 : BitVec 32 := 8#32
  let v0 : BitVec 32 := Scalar.muli arg0 c8_i32
  let v1 : BitVec 32 := Scalar.addi v0 arg2
  let c0_i32 : BitVec 32 := 0#32
  ![v1.toNat, arg1.toNat]

abbrev stage0_0 : Fin 2 → Memref sig .tc .vmem S1056x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true, false]

abbrev stage0_1 : Fin 2 → Memref sig .tc .vmem S768x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false, true]

abbrev stage0_2 : Fin 2 → Memref sig .tc .vmem S768x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false, true]

abbrev stage0_3 : Fin 2 → Memref sig .tc .vmem S1056x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true, false]
-- ==== Kernel4Ideal.lean ====
variable {F : FTy → Type} [FloatOps F] [Named F]
def κ : String → Option EReal := fun
  | "mask" => some ⊥
  | _ => none
-- ==== Reference4Ideal.lean ====
abbrev S16896x1024 : Shape := ⟨2, ![16896, 1024]⟩
abbrev S16896x256 : Shape := ⟨2, ![16896, 256]⟩
abbrev S2x8448x2x4x128 : Shape := ⟨5, ![2, 8448, 2, 4, 128]⟩
abbrev S2x8448x2x128 : Shape := ⟨4, ![2, 8448, 2, 128]⟩
abbrev S2x256x2x4x128 : Shape := ⟨5, ![2, 256, 2, 4, 128]⟩
abbrev S2x256x2x128 : Shape := ⟨4, ![2, 256, 2, 128]⟩
abbrev S2x2x256x256x4 : Shape := ⟨5, ![2, 2, 256, 256, 4]⟩
abbrev S2x2x4x256x256 : Shape := ⟨5, ![2, 2, 4, 256, 256]⟩
abbrev S_ : Shape := ⟨0, ![]⟩
abbrev S2x2x4x256 : Shape := ⟨4, ![2, 2, 4, 256]⟩
abbrev S2x2x4x256x1 : Shape := ⟨5, ![2, 2, 4, 256, 1]⟩
abbrev S2x2x128x4x256 : Shape := ⟨5, ![2, 2, 128, 4, 256]⟩
abbrev S2x8192x2x4x128 : Shape := ⟨5, ![2, 8192, 2, 4, 128]⟩
abbrev S2x2x8448x8192x4 : Shape := ⟨5, ![2, 2, 8448, 8192, 4]⟩
abbrev S2x2x4x8192x8448 : Shape := ⟨5, ![2, 2, 4, 8192, 8448]⟩
abbrev S2x2x4x8192 : Shape := ⟨4, ![2, 2, 4, 8192]⟩
abbrev S2x2x4x8192x1 : Shape := ⟨5, ![2, 2, 4, 8192, 1]⟩
abbrev S2x2x128x4x8192 : Shape := ⟨5, ![2, 2, 128, 4, 8192]⟩

abbrev nBuf : Space → Nat
  | .hbm => 57
  | .vmem => 0
  | .smem => 0
  | _ => 0

abbrev bufTy : (tb : Table) → Fin (tcTables nBuf tb) → BufTy
  | .hbm, ⟨0, _⟩ => ⟨S16896x1024, .f32⟩
  | .hbm, ⟨1, _⟩ => ⟨S16896x256, .f32⟩
  | .hbm, ⟨2, _⟩ => ⟨S16896x256, .f32⟩
  | .hbm, ⟨3, _⟩ => ⟨S2x8448x2x4x128, .f32⟩
  | .hbm, ⟨4, _⟩ => ⟨S2x8448x2x128, .f32⟩
  | .hbm, ⟨5, _⟩ => ⟨S2x8448x2x128, .f32⟩
  | .hbm, ⟨6, _⟩ => ⟨S2x256x2x4x128, .f32⟩
  | .hbm, ⟨7, _⟩ => ⟨S2x256x2x128, .f32⟩
  | .hbm, ⟨8, _⟩ => ⟨S2x256x2x128, .f32⟩
  | .hbm, ⟨9, _⟩ => ⟨S2x2x256x256x4, .f32⟩
  | .hbm, ⟨10, _⟩ => ⟨S2x2x4x256x256, .f32⟩
  | .hbm, ⟨11, _⟩ => ⟨S_, .f32⟩
  | .hbm, ⟨12, _⟩ => ⟨S_, .f32⟩
  | .hbm, ⟨13, _⟩ => ⟨S2x2x4x256x256, .f32⟩
  | .hbm, ⟨14, _⟩ => ⟨S2x2x4x256x256, .f32⟩
  | .hbm, ⟨15, _⟩ => ⟨S_, .f32⟩
  | .hbm, ⟨16, _⟩ => ⟨S2x2x4x256, .f32⟩
  | .hbm, ⟨17, _⟩ => ⟨S_, .f32⟩
  | .hbm, ⟨18, _⟩ => ⟨S2x2x4x256, .f32⟩
  | .hbm, ⟨19, _⟩ => ⟨S2x2x4x256, .f32⟩
  | .hbm, ⟨20, _⟩ => ⟨S2x2x4x256x1, .f32⟩
  | .hbm, ⟨21, _⟩ => ⟨S2x2x4x256x256, .f32⟩
  | .hbm, ⟨22, _⟩ => ⟨S2x2x4x256x256, .f32⟩
  | .hbm, ⟨23, _⟩ => ⟨S2x2x4x256x256, .f32⟩
  | .hbm, ⟨24, _⟩ => ⟨S_, .f32⟩
  | .hbm, ⟨25, _⟩ => ⟨S2x2x4x256, .f32⟩
  | .hbm, ⟨26, _⟩ => ⟨S2x2x4x256x1, .f32⟩
  | .hbm, ⟨27, _⟩ => ⟨S2x2x4x256x256, .f32⟩
  | .hbm, ⟨28, _⟩ => ⟨S2x2x4x256x256, .f32⟩
  | .hbm, ⟨29, _⟩ => ⟨S2x2x128x4x256, .f32⟩
  | .hbm, ⟨30, _⟩ => ⟨S2x256x2x4x128, .f32⟩
  | .hbm, ⟨31, _⟩ => ⟨S2x8192x2x4x128, .f32⟩
  | .hbm, ⟨32, _⟩ => ⟨S2x2x8448x8192x4, .f32⟩
  | .hbm, ⟨33, _⟩ => ⟨S2x2x4x8192x8448, .f32⟩
  | .hbm, ⟨34, _⟩ => ⟨S_, .f32⟩
  | .hbm, ⟨35, _⟩ => ⟨S_, .f32⟩
  | .hbm, ⟨36, _⟩ => ⟨S2x2x4x8192x8448, .f32⟩
  | .hbm, ⟨37, _⟩ => ⟨S2x2x4x8192x8448, .f32⟩
  | .hbm, ⟨38, _⟩ => ⟨S_, .f32⟩
  | .hbm, ⟨39, _⟩ => ⟨S2x2x4x8192, .f32⟩
  | .hbm, ⟨40, _⟩ => ⟨S_, .f32⟩
  | .hbm, ⟨41, _⟩ => ⟨S2x2x4x8192, .f32⟩
  | .hbm, ⟨42, _⟩ => ⟨S2x2x4x8192, .f32⟩
  | .hbm, ⟨43, _⟩ => ⟨S2x2x4x8192x1, .f32⟩
  | .hbm, ⟨44, _⟩ => ⟨S2x2x4x8192x8448, .f32⟩
  | .hbm, ⟨45, _⟩ => ⟨S2x2x4x8192x8448, .f32⟩
  | .hbm, ⟨46, _⟩ => ⟨S2x2x4x8192x8448, .f32⟩
  | .hbm, ⟨47, _⟩ => ⟨S_, .f32⟩
  | .hbm, ⟨48, _⟩ => ⟨S2x2x4x8192, .f32⟩
  | .hbm, ⟨49, _⟩ => ⟨S2x2x4x8192x1, .f32⟩
  | .hbm, ⟨50, _⟩ => ⟨S2x2x4x8192x8448, .f32⟩
  | .hbm, ⟨51, _⟩ => ⟨S2x2x4x8192x8448, .f32⟩
  | .hbm, ⟨52, _⟩ => ⟨S2x2x128x4x8192, .f32⟩
  | .hbm, ⟨53, _⟩ => ⟨S2x8192x2x4x128, .f32⟩
  | .hbm, ⟨54, _⟩ => ⟨S2x8448x2x4x128, .f32⟩
  | .hbm, ⟨55, _⟩ => ⟨S16896x1024, .f32⟩
  | .hbm, ⟨56, _⟩ => ⟨S16896x1024, .bf16⟩
  | _, _ => ⟨S16896x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_cst : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_cst_0 : Ref sig .tc := ⟨.hbm, 15, rfl⟩
abbrev main_v11 : Ref sig .tc := ⟨.hbm, 16, rfl⟩
abbrev main_cst_1 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_cst_2 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_cst_3 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_cst_4 : Ref sig .tc := ⟨.hbm, 38, rfl⟩
abbrev main_v30 : Ref sig .tc := ⟨.hbm, 39, rfl⟩
abbrev main_cst_5 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_cst_6 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩

abbrev nD : Nat := 1
abbrev τ : Topo := Topo.v7x

variable {F : FTy → Type} [FloatOps F]
-- ==== Kernel5.lean ====
abbrev S16896x10240 : Shape := ⟨2, ![16896, 10240]⟩
abbrev S8192x32 : Shape := ⟨2, ![8192, 32]⟩
abbrev S4x128 : Shape := ⟨2, ![4, 128]⟩
abbrev S8192x128 : Shape := ⟨2, ![8192, 128]⟩
abbrev S_ : Shape := ⟨0, ![]⟩
abbrev S256x128 : Shape := ⟨2, ![256, 128]⟩
abbrev S8448x128 : Shape := ⟨2, ![8448, 128]⟩
abbrev S1x128 : Shape := ⟨2, ![1, 128]⟩
abbrev S128 : Shape := ⟨1, ![128]⟩
abbrev S16896x1024 : Shape := ⟨2, ![16896, 1024]⟩
abbrev S16896x256 : Shape := ⟨2, ![16896, 256]⟩
abbrev S528x512 : Shape := ⟨2, ![528, 512]⟩
abbrev S528x1024 : Shape := ⟨2, ![528, 1024]⟩
abbrev S528x128 : Shape := ⟨2, ![528, 128]⟩
abbrev S528x256 : Shape := ⟨2, ![528, 256]⟩
abbrev S528 : Shape := ⟨1, ![528]⟩
abbrev S528x1 : Shape := ⟨2, ![528, 1]⟩

abbrev nBuf : Space → Nat
  | .hbm => 30
  | .vmem => 16
  | .smem => 0
  | _ => 0

abbrev bufTy : (tb : Table) → Fin (tcTables nBuf tb) → BufTy
  | .hbm, ⟨0, _⟩ => ⟨S16896x10240, .f32⟩
  | .hbm, ⟨1, _⟩ => ⟨S8192x32, .f32⟩
  | .hbm, ⟨2, _⟩ => ⟨S8192x32, .f32⟩
  | .hbm, ⟨3, _⟩ => ⟨S4x128, .f32⟩
  | .hbm, ⟨4, _⟩ => ⟨S4x128, .f32⟩
  | .hbm, ⟨5, _⟩ => ⟨S8192x32, .f32⟩
  | .hbm, ⟨6, _⟩ => ⟨S8192x32, .f32⟩
  | .hbm, ⟨7, _⟩ => ⟨S8192x128, .f32⟩
  | .hbm, ⟨8, _⟩ => ⟨S8192x32, .f32⟩
  | .hbm, ⟨9, _⟩ => ⟨S8192x32, .f32⟩
  | .hbm, ⟨10, _⟩ => ⟨S8192x32, .f32⟩
  | .hbm, ⟨11, _⟩ => ⟨S8192x32, .f32⟩
  | .hbm, ⟨12, _⟩ => ⟨S8192x32, .f32⟩
  | .hbm, ⟨13, _⟩ => ⟨S8192x32, .f32⟩
  | .hbm, ⟨14, _⟩ => ⟨S8192x128, .f32⟩
  | .hbm, ⟨15, _⟩ => ⟨S_, .f32⟩
  | .hbm, ⟨16, _⟩ => ⟨S256x128, .f32⟩
  | .hbm, ⟨17, _⟩ => ⟨S8448x128, .f32⟩
  | .hbm, ⟨18, _⟩ => ⟨S_, .f32⟩
  | .hbm, ⟨19, _⟩ => ⟨S256x128, .f32⟩
  | .hbm, ⟨20, _⟩ => ⟨S8448x128, .f32⟩
  | .hbm, ⟨21, _⟩ => ⟨S1x128, .f32⟩
  | .hbm, ⟨22, _⟩ => ⟨S128, .f32⟩
  | .hbm, ⟨23, _⟩ => ⟨S1x128, .f32⟩
  | .hbm, ⟨24, _⟩ => ⟨S128, .f32⟩
  | .hbm, ⟨25, _⟩ => ⟨S1x128, .f32⟩
  | .hbm, ⟨26, _⟩ => ⟨S1x128, .f32⟩
  | .hbm, ⟨27, _⟩ => ⟨S16896x1024, .bf16⟩
  | .hbm, ⟨28, _⟩ => ⟨S16896x256, .bf16⟩
  | .hbm, ⟨29, _⟩ => ⟨S16896x256, .bf16⟩
  | .local _ .vmem, ⟨0, _⟩ => ⟨S528x512, .f32⟩
  | .local _ .vmem, ⟨1, _⟩ => ⟨S528x512, .f32⟩
  | .local _ .vmem, ⟨2, _⟩ => ⟨S528x1024, .f32⟩
  | .local _ .vmem, ⟨3, _⟩ => ⟨S528x1024, .f32⟩
  | .local _ .vmem, ⟨4, _⟩ => ⟨S528x128, .f32⟩
  | .local _ .vmem, ⟨5, _⟩ => ⟨S528x128, .f32⟩
  | .local _ .vmem, ⟨6, _⟩ => ⟨S528x128, .f32⟩
  | .local _ .vmem, ⟨7, _⟩ => ⟨S528x128, .f32⟩
  | .local _ .vmem, ⟨8, _⟩ => ⟨S1x128, .f32⟩
  | .local _ .vmem, ⟨9, _⟩ => ⟨S1x128, .f32⟩
  | .local _ .vmem, ⟨10, _⟩ => ⟨S528x1024, .bf16⟩
  | .local _ .vmem, ⟨11, _⟩ => ⟨S528x1024, .bf16⟩
  | .local _ .vmem, ⟨12, _⟩ => ⟨S528x256, .bf16⟩
  | .local _ .vmem, ⟨13, _⟩ => ⟨S528x256, .bf16⟩
  | .local _ .vmem, ⟨14, _⟩ => ⟨S528x256, .bf16⟩
  | .local _ .vmem, ⟨15, _⟩ => ⟨S528x256, .bf16⟩
  | _, _ => ⟨S16896x10240, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst : Ref sig .tc := ⟨.hbm, 15, rfl⟩
abbrev main_v10 : Ref sig .tc := ⟨.hbm, 16, rfl⟩
abbrev main_v11 : Ref sig .tc := ⟨.hbm, 17, rfl⟩
abbrev main_cst_0 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20_0 : Ref sig .tc := ⟨.hbm, 27, rfl⟩
abbrev main_v20_1 : Ref sig .tc := ⟨.hbm, 28, rfl⟩
abbrev main_v20_2 : Ref sig .tc := ⟨.hbm, 29, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c5_i32 : BitVec 32 := 5#32
  let c0_i32 : BitVec 32 := 0#32
  ![arg0.toNat, c5_i32.toNat]

def cc0_transform_1 (i : grid0.Coords) : Fin 2 → Nat :=
  let arg0 : BitVec 32 := BitVec.ofNat 32 (i 0).val
  let c3_i32 : BitVec 32 := 3#32
  let c0_i32 : BitVec 32 := 0#32
  ![arg0.toNat, c3_i32.toNat]

def cc0_transform_2 (i : grid0.Coords) : Fin 2 → Nat :=
  let arg0 : BitVec 32 := BitVec.ofNat 32 (i 0).val
  let c16_i32 : BitVec 32 := 16#32
  let c0_i32 : BitVec 32 := 0#32
  let v0 : BitVec 1 := Scalar.cmpi .eq c16_i32 c0_i32
  let c1_i32 : BitVec 32 := 1#32
  let v1 : BitVec 32 := Scalar.select v0 c1_i32 c16_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_3 (i : grid0.Coords) : Fin 2 → Nat :=
  let arg0 : BitVec 32 := BitVec.ofNat 32 (i 0).val
  let c16_i32 : BitVec 32 := 16#32
  let c0_i32 : BitVec 32 := 0#32
  let v0 : BitVec 1 := Scalar.cmpi .eq c16_i32 c0_i32
  let c1_i32 : BitVec 32 := 1#32
  let v1 : BitVec 32 := Scalar.select v0 c1_i32 c16_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S528x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S528x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S528x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S528x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S528x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S528x256 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S528x256 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Kernel5Ideal.lean ====
variable {F : FTy → Type} [FloatOps F] [Named F]
def κ : String → Option EReal := fun
  | "scale" => some ((((Real.sqrt 128) * (Real.log 2))⁻¹ : ℝ) : EReal)
  | _ => none
-- ==== Reference5Ideal.lean ====
abbrev S16896x10240 : Shape := ⟨2, ![16896, 10240]⟩
abbrev S8192x32 : Shape := ⟨2, ![8192, 32]⟩
abbrev S4x128 : Shape := ⟨2, ![4, 128]⟩
abbrev S2x8448x10240 : Shape := ⟨3, ![2, 8448, 10240]⟩
abbrev S2x8448x256 : Shape := ⟨3, ![2, 8448, 256]⟩
abbrev S2x8448x2x128 : Shape := ⟨4, ![2, 8448, 2, 128]⟩
abbrev S1x128 : Shape := ⟨2, ![1, 128]⟩
abbrev S128 : Shape := ⟨1, ![128]⟩
abbrev S_ : Shape := ⟨0, ![]⟩
abbrev S2x8448x2 : Shape := ⟨3, ![2, 8448, 2]⟩
abbrev S2x8448x2x1 : Shape := ⟨4, ![2, 8448, 2, 1]⟩
abbrev S1x1x1x128 : Shape := ⟨4, ![1, 1, 1, 128]⟩
abbrev S2x8448x1024 : Shape := ⟨3, ![2, 8448, 1024]⟩
abbrev S2x8448x8x128 : Shape := ⟨4, ![2, 8448, 8, 128]⟩
abbrev S2x8448x8 : Shape := ⟨3, ![2, 8448, 8]⟩
abbrev S2x8448x8x1 : Shape := ⟨4, ![2, 8448, 8, 1]⟩
abbrev S2x256x2x128 : Shape := ⟨4, ![2, 256, 2, 128]⟩
abbrev S2x8192x2x128 : Shape := ⟨4, ![2, 8192, 2, 128]⟩
abbrev S2x8192x2x64 : Shape := ⟨4, ![2, 8192, 2, 64]⟩
abbrev S1x8192x1x32 : Shape := ⟨4, ![1, 8192, 1, 32]⟩
abbrev S2x8192x2x32 : Shape := ⟨4, ![2, 8192, 2, 32]⟩
abbrev S2x256x8x128 : Shape := ⟨4, ![2, 256, 8, 128]⟩
abbrev S2x8192x8x128 : Shape := ⟨4, ![2, 8192, 8, 128]⟩
abbrev S2x8192x8x64 : Shape := ⟨4, ![2, 8192, 8, 64]⟩
abbrev S2x8192x8x32 : Shape := ⟨4, ![2, 8192, 8, 32]⟩
abbrev S16896x1024 : Shape := ⟨2, ![16896, 1024]⟩
abbrev S16896x256 : Shape := ⟨2, ![16896, 256]⟩

abbrev nBuf : Space → Nat
  | .hbm => 140
  | .vmem => 0
  | .smem => 0
  | _ => 0

abbrev hbmTy0_0 (i : Nat) : BufTy := match i % 128 with
  | 0 => ⟨S16896x10240, .f32⟩
  | 1 => ⟨S8192x32, .f32⟩
  | 2 => ⟨S8192x32, .f32⟩
  | 3 => ⟨S4x128, .f32⟩
  | 4 => ⟨S4x128, .f32⟩
  | 5 => ⟨S2x8448x10240, .f32⟩
  | 6 => ⟨S2x8448x256, .f32⟩
  | 7 => ⟨S2x8448x2x128, .f32⟩
  | 8 => ⟨S1x128, .f32⟩
  | 9 => ⟨S128, .f32⟩
  | 10 => ⟨S2x8448x2x128, .f32⟩
  | 11 => ⟨S_, .f32⟩
  | 12 => ⟨S2x8448x2, .f32⟩
  | 13 => ⟨S2x8448x2x1, .f32⟩
  | 14 => ⟨S_, .f32⟩
  | 15 => ⟨S2x8448x2x1, .f32⟩
  | 16 => ⟨S2x8448x2x1, .f32⟩
  | 17 => ⟨S_, .f32⟩
  | 18 => ⟨S2x8448x2x1, .f32⟩
  | 19 => ⟨S2x8448x2x1, .f32⟩
  | 20 => ⟨S2x8448x2x1, .f32⟩
  | 21 => ⟨S2x8448x2x128, .f32⟩
  | 22 => ⟨S2x8448x2x128, .f32⟩
  | 23 => ⟨S1x1x1x128, .f32⟩
  | 24 => ⟨S2x8448x2x128, .f32⟩
  | 25 => ⟨S2x8448x2x128, .f32⟩
  | 26 => ⟨S2x8448x1024, .f32⟩
  | 27 => ⟨S2x8448x8x128, .f32⟩
  | 28 => ⟨S1x128, .f32⟩
  | 29 => ⟨S128, .f32⟩
  | 30 => ⟨S2x8448x8x128, .f32⟩
  | 31 => ⟨S_, .f32⟩
  | 32 => ⟨S2x8448x8, .f32⟩
  | 33 => ⟨S2x8448x8x1, .f32⟩
  | 34 => ⟨S_, .f32⟩
  | 35 => ⟨S2x8448x8x1, .f32⟩
  | 36 => ⟨S2x8448x8x1, .f32⟩
  | 37 => ⟨S_, .f32⟩
  | 38 => ⟨S2x8448x8x1, .f32⟩
  | 39 => ⟨S2x8448x8x1, .f32⟩
  | 40 => ⟨S2x8448x8x1, .f32⟩
  | 41 => ⟨S2x8448x8x128, .f32⟩
  | 42 => ⟨S2x8448x8x128, .f32⟩
  | 43 => ⟨S1x1x1x128, .f32⟩
  | 44 => ⟨S2x8448x8x128, .f32⟩
  | 45 => ⟨S2x8448x8x128, .f32⟩
  | 46 => ⟨S2x256x2x128, .f32⟩
  | 47 => ⟨S2x8192x2x128, .f32⟩
  | 48 => ⟨S2x8192x2x64, .f32⟩
  | 49 => ⟨S8192x32, .f32⟩
  | 50 => ⟨S1x8192x1x32, .f32⟩
  | 51 => ⟨S8192x32, .f32⟩
  | 52 => ⟨S1x8192x1x32, .f32⟩
  | 53 => ⟨S2x8192x2x32, .f32⟩
  | 54 => ⟨S2x8192x2x32, .f32⟩
  | 55 => ⟨S2x8192x2x32, .f32⟩
  | 56 => ⟨S2x8192x2x32, .f32⟩
  | 57 => ⟨S2x8192x2x32, .f32⟩
  | 58 => ⟨S2x8192x2x32, .f32⟩
  | 59 => ⟨S2x8192x2x32, .f32⟩
  | 60 => ⟨S2x8192x2x32, .f32⟩
  | 61 => ⟨S2x8192x2x32, .f32⟩
  | 62 => ⟨S2x8192x2x32, .f32⟩
  | 63 => ⟨S2x8192x2x32, .f32⟩
  | 64 => ⟨S2x8192x2x32, .f32⟩
  | 65 => ⟨S2x8192x2x64, .f32⟩
  | 66 => ⟨S2x8192x2x64, .f32⟩
  | 67 => ⟨S8192x32, .f32⟩
  | 68 => ⟨S1x8192x1x32, .f32⟩
  | 69 => ⟨S8192x32, .f32⟩
  | 70 => ⟨S1x8192x1x32, .f32⟩
  | 71 => ⟨S2x8192x2x32, .f32⟩
  | 72 => ⟨S2x8192x2x32, .f32⟩
  | 73 => ⟨S2x8192x2x32, .f32⟩
  | 74 => ⟨S2x8192x2x32, .f32⟩
  | 75 => ⟨S2x8192x2x32, .f32⟩
  | 76 => ⟨S2x8192x2x32, .f32⟩
  | 77 => ⟨S2x8192x2x32, .f32⟩
  | 78 => ⟨S2x8192x2x32, .f32⟩
  | 79 => ⟨S2x8192x2x32, .f32⟩
  | 80 => ⟨S2x8192x2x32, .f32⟩
  | 81 => ⟨S2x8192x2x32, .f32⟩
  | 82 => ⟨S2x8192x2x32, .f32⟩
  | 83 => ⟨S2x8192x2x64, .f32⟩
  | 84 => ⟨S2x8192x2x128, .f32⟩
  | 85 => ⟨S2x8448x2x128, .f32⟩
  | 86 => ⟨S2x256x8x128, .f32⟩
  | 87 => ⟨S2x8192x8x128, .f32⟩
  | 88 => ⟨S2x8192x8x64, .f32⟩
  | 89 => ⟨S8192x32, .f32⟩
  | 90 => ⟨S1x8192x1x32, .f32⟩
  | 91 => ⟨S8192x32, .f32⟩
  | 92 => ⟨S1x8192x1x32, .f32⟩
  | 93 => ⟨S2x8192x8x32, .f32⟩
  | 94 => ⟨S2x8192x8x32, .f32⟩
  | 95 => ⟨S2x8192x8x32, .f32⟩
  | 96 => ⟨S2x8192x8x32, .f32⟩
  | 97 => ⟨S2x8192x8x32, .f32⟩
  | 98 => ⟨S2x8192x8x32, .f32⟩
  | 99 => ⟨S2x8192x8x32, .f32⟩
  | 100 => ⟨S2x8192x8x32, .f32⟩
  | 101 => ⟨S2x8192x8x32, .f32⟩
  | 102 => ⟨S2x8192x8x32, .f32⟩
  | 103 => ⟨S2x8192x8x32, .f32⟩
  | 104 => ⟨S2x8192x8x32, .f32⟩
  | 105 => ⟨S2x8192x8x64, .f32⟩
  | 106 => ⟨S2x8192x8x64, .f32⟩
  | 107 => ⟨S8192x32, .f32⟩
  | 108 => ⟨S1x8192x1x32, .f32⟩
  | 109 => ⟨S8192x32, .f32⟩
  | 110 => ⟨S1x8192x1x32, .f32⟩
  | 111 => ⟨S2x8192x8x32, .f32⟩
  | 112 => ⟨S2x8192x8x32, .f32⟩
  | 113 => ⟨S2x8192x8x32, .f32⟩
  | 114 => ⟨S2x8192x8x32, .f32⟩
  | 115 => ⟨S2x8192x8x32, .f32⟩
  | 116 => ⟨S2x8192x8x32, .f32⟩
  | 117 => ⟨S2x8192x8x32, .f32⟩
  | 118 => ⟨S2x8192x8x32, .f32⟩
  | 119 => ⟨S2x8192x8x32, .f32⟩
  | 120 => ⟨S2x8192x8x32, .f32⟩
  | 121 => ⟨S2x8192x8x32, .f32⟩
  | 122 => ⟨S2x8192x8x32, .f32⟩
  | 123 => ⟨S2x8192x8x64, .f32⟩
  | 124 => ⟨S2x8192x8x128, .f32⟩
  | 125 => ⟨S2x8448x8x128, .f32⟩
  | 126 => ⟨S_, .f32⟩
  | 127 => ⟨S_, .f32⟩
  | _ => ⟨S16896x10240, .f32⟩

abbrev hbmTy0_1 (i : Nat) : BufTy := match i % 128 with
  | 0 => ⟨S_, .f32⟩
  | 1 => ⟨S_, .f32⟩
  | 2 => ⟨S_, .f32⟩
  | 3 => ⟨S2x8448x8x128, .f32⟩
  | 4 => ⟨S2x8448x8x128, .f32⟩
  | 5 => ⟨S2x8448x256, .f32⟩
  | 6 => ⟨S16896x1024, .f32⟩
  | 7 => ⟨S16896x1024, .bf16⟩
  | 8 => ⟨S16896x256, .f32⟩
  | 9 => ⟨S16896x256, .bf16⟩
  | 10 => ⟨S16896x256, .f32⟩
  | 11 => ⟨S16896x256, .bf16⟩
  | _ => ⟨S16896x10240, .f32⟩

abbrev hbmTy (i : Nat) : BufTy := match i / 128 with
  | 0 => hbmTy0_0 i
  | 1 => hbmTy0_1 i
  | _ => ⟨S16896x10240, .f32⟩

abbrev bufTy : (tb : Table) → Fin (tcTables nBuf tb) → BufTy
  | .hbm, ⟨i, _⟩ => hbmTy i
  | _, _ => ⟨S16896x10240, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst : Ref sig .tc := ⟨.hbm, 11, rfl⟩
abbrev main_v6 : Ref sig .tc := ⟨.hbm, 12, rfl⟩
abbrev main_v7 : Ref sig .tc := ⟨.hbm, 13, rfl⟩
abbrev main_cst_0 : Ref sig .tc := ⟨.hbm, 14, rfl⟩
abbrev main_v8 : Ref sig .tc := ⟨.hbm, 15, rfl⟩
abbrev main_v9 : Ref sig .tc := ⟨.hbm, 16, rfl⟩
abbrev main_cst_1 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_cst_2 : Ref sig .tc := ⟨.hbm, 31, rfl⟩
abbrev main_v23 : Ref sig .tc := ⟨.hbm, 32, rfl⟩
abbrev main_v24 : Ref sig .tc := ⟨.hbm, 33, rfl⟩
abbrev main_cst_3 : Ref sig .tc := ⟨.hbm, 34, rfl⟩
abbrev main_v25 : Ref sig .tc := ⟨.hbm, 35, rfl⟩
abbrev main_v26 : Ref sig .tc := ⟨.hbm, 36, rfl⟩
abbrev main_cst_4 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_v48 : Ref sig .tc := ⟨.hbm, 59, rfl⟩
abbrev main_v49 : Ref sig .tc := ⟨.hbm, 60, rfl⟩
abbrev main_v50 : Ref sig .tc := ⟨.hbm, 61, rfl⟩
abbrev main_v51 : Ref sig .tc := ⟨.hbm, 62, rfl⟩
abbrev main_v52 : Ref sig .tc := ⟨.hbm, 63, rfl⟩
abbrev main_v53 : Ref sig .tc := ⟨.hbm, 64, rfl⟩
abbrev main_v54 : Ref sig .tc := ⟨.hbm, 65, rfl⟩
abbrev main_v55 : Ref sig .tc := ⟨.hbm, 66, rfl⟩
abbrev main_v56 : Ref sig .tc := ⟨.hbm, 67, rfl⟩
abbrev main_v57 : Ref sig .tc := ⟨.hbm, 68, rfl⟩
abbrev main_v58 : Ref sig .tc := ⟨.hbm, 69, rfl⟩
abbrev main_v59 : Ref sig .tc := ⟨.hbm, 70, rfl⟩
abbrev main_v60 : Ref sig .tc := ⟨.hbm, 71, rfl⟩
abbrev main_v61 : Ref sig .tc := ⟨.hbm, 72, rfl⟩
abbrev main_v62 : Ref sig .tc := ⟨.hbm, 73, rfl⟩
abbrev main_v63 : Ref sig .tc := ⟨.hbm, 74, rfl⟩
abbrev main_v64 : Ref sig .tc := ⟨.hbm, 75, rfl⟩
abbrev main_v65 : Ref sig .tc := ⟨.hbm, 76, rfl⟩
abbrev main_v66 : Ref sig .tc := ⟨.hbm, 77, rfl⟩
abbrev main_v67 : Ref sig .tc := ⟨.hbm, 78, rfl⟩
abbrev main_v68 : Ref sig .tc := ⟨.hbm, 79, rfl⟩
abbrev main_v69 : Ref sig .tc := ⟨.hbm, 80, rfl⟩
abbrev main_v70 : Ref sig .tc := ⟨.hbm, 81, rfl⟩
abbrev main_v71 : Ref sig .tc := ⟨.hbm, 82, rfl⟩
abbrev main_v72 : Ref sig .tc := ⟨.hbm, 83, rfl⟩
abbrev main_v73 : Ref sig .tc := ⟨.hbm, 84, rfl⟩
abbrev main_v74 : Ref sig .tc := ⟨.hbm, 85, rfl⟩
abbrev main_v75 : Ref sig .tc := ⟨.hbm, 86, rfl⟩
abbrev main_v76 : Ref sig .tc := ⟨.hbm, 87, rfl⟩
abbrev main_v77 : Ref sig .tc := ⟨.hbm, 88, rfl⟩
abbrev main_v78 : Ref sig .tc := ⟨.hbm, 89, rfl⟩
abbrev main_v79 : Ref sig .tc := ⟨.hbm, 90, rfl⟩
abbrev main_v80 : Ref sig .tc := ⟨.hbm, 91, rfl⟩
abbrev main_v81 : Ref sig .tc := ⟨.hbm, 92, rfl⟩
abbrev main_v82 : Ref sig .tc := ⟨.hbm, 93, rfl⟩
abbrev main_v83 : Ref sig .tc := ⟨.hbm, 94, rfl⟩
abbrev main_v84 : Ref sig .tc := ⟨.hbm, 95, rfl⟩
abbrev main_v85 : Ref sig .tc := ⟨.hbm, 96, rfl⟩
abbrev main_v86 : Ref sig .tc := ⟨.hbm, 97, rfl⟩
abbrev main_v87 : Ref sig .tc := ⟨.hbm, 98, rfl⟩
abbrev main_v88 : Ref sig .tc := ⟨.hbm, 99, rfl⟩
abbrev main_v89 : Ref sig .tc := ⟨.hbm, 100, rfl⟩
abbrev main_v90 : Ref sig .tc := ⟨.hbm, 101, rfl⟩
abbrev main_v91 : Ref sig .tc := ⟨.hbm, 102, rfl⟩
abbrev main_v92 : Ref sig .tc := ⟨.hbm, 103, rfl⟩
abbrev main_v93 : Ref sig .tc := ⟨.hbm, 104, rfl⟩
abbrev main_v94 : Ref sig .tc := ⟨.hbm, 105, rfl⟩
abbrev main_v95 : Ref sig .tc := ⟨.hbm, 106, rfl⟩
abbrev main_v96 : Ref sig .tc := ⟨.hbm, 107, rfl⟩
abbrev main_v97 : Ref sig .tc := ⟨.hbm, 108, rfl⟩
abbrev main_v98 : Ref sig .tc := ⟨.hbm, 109, rfl⟩
abbrev main_v99 : Ref sig .tc := ⟨.hbm, 110, rfl⟩
abbrev main_v100 : Ref sig .tc := ⟨.hbm, 111, rfl⟩
abbrev main_v101 : Ref sig .tc := ⟨.hbm, 112, rfl⟩
abbrev main_v102 : Ref sig .tc := ⟨.hbm, 113, rfl⟩
abbrev main_v103 : Ref sig .tc := ⟨.hbm, 114, rfl⟩
abbrev main_v104 : Ref sig .tc := ⟨.hbm, 115, rfl⟩
abbrev main_v105 : Ref sig .tc := ⟨.hbm, 116, rfl⟩
abbrev main_v106 : Ref sig .tc := ⟨.hbm, 117, rfl⟩
abbrev main_v107 : Ref sig .tc := ⟨.hbm, 118, rfl⟩
abbrev main_v108 : Ref sig .tc := ⟨.hbm, 119, rfl⟩
abbrev main_v109 : Ref sig .tc := ⟨.hbm, 120, rfl⟩
abbrev main_v110 : Ref sig .tc := ⟨.hbm, 121, rfl⟩
abbrev main_v111 : Ref sig .tc := ⟨.hbm, 122, rfl⟩
abbrev main_v112 : Ref sig .tc := ⟨.hbm, 123, rfl⟩
abbrev main_v113 : Ref sig .tc := ⟨.hbm, 124, rfl⟩
abbrev main_v114 : Ref sig .tc := ⟨.hbm, 125, rfl⟩
abbrev main_cst_5 : Ref sig .tc := ⟨.hbm, 126, rfl⟩
abbrev main_v115 : Ref sig .tc := ⟨.hbm, 127, rfl⟩
abbrev main_cst_6 : Ref sig .tc := ⟨.hbm, 128, rfl⟩
abbrev main_v116 : Ref sig .tc := ⟨.hbm, 129, rfl⟩
abbrev main_v117 : Ref sig .tc := ⟨.hbm, 130, rfl⟩
abbrev main_v118 : Ref sig .tc := ⟨.hbm, 131, rfl⟩
abbrev main_v119 : Ref sig .tc := ⟨.hbm, 132, rfl⟩
abbrev main_v120 : Ref sig .tc := ⟨.hbm, 133, rfl⟩
abbrev main_v121 : Ref sig .tc := ⟨.hbm, 134, rfl⟩
abbrev main_v122 : Ref sig .tc := ⟨.hbm, 135, rfl⟩
abbrev main_v123 : Ref sig .tc := ⟨.hbm, 136, rfl⟩
abbrev main_v124 : Ref sig .tc := ⟨.hbm, 137, rfl⟩
abbrev main_v125 : Ref sig .tc := ⟨.hbm, 138, rfl⟩
abbrev main_v126 : Ref sig .tc := ⟨.hbm, 139, rfl⟩

abbrev nD : Nat := 1
abbrev τ : Topo := Topo.v7x

variable {F : FTy → Type} [FloatOps F]
-- ==== Kernel6.lean ====
abbrev S16896x512 : Shape := ⟨2, ![16896, 512]⟩
abbrev S16896x10240 : Shape := ⟨2, ![16896, 10240]⟩
abbrev S4x512 : Shape := ⟨2, ![4, 512]⟩
abbrev S4x512x512 : Shape := ⟨3, ![4, 512, 512]⟩
abbrev S1x512 : Shape := ⟨2, ![1, 512]⟩
abbrev S512 : Shape := ⟨1, ![512]⟩
abbrev S1x512x512 : Shape := ⟨3, ![1, 512, 512]⟩
abbrev S512x512 : Shape := ⟨2, ![512, 512]⟩
abbrev S1056x512 : Shape := ⟨2, ![1056, 512]⟩

abbrev nBuf : Space → Nat
  | .hbm => 12
  | .vmem => 10
  | .smem => 0
  | _ => 0

abbrev bufTy : (tb : Table) → Fin (tcTables nBuf tb) → BufTy
  | .hbm, ⟨0, _⟩ => ⟨S16896x512, .f32⟩
  | .hbm, ⟨1, _⟩ => ⟨S16896x512, .f32⟩
  | .hbm, ⟨2, _⟩ => ⟨S16896x10240, .f32⟩
  | .hbm, ⟨3, _⟩ => ⟨S4x512, .f32⟩
  | .hbm, ⟨4, _⟩ => ⟨S4x512x512, .f32⟩
  | .hbm, ⟨5, _⟩ => ⟨S1x512, .f32⟩
  | .hbm, ⟨6, _⟩ => ⟨S512, .f32⟩
  | .hbm, ⟨7, _⟩ => ⟨S1x512x512, .f32⟩
  | .hbm, ⟨8, _⟩ => ⟨S512x512, .f32⟩
  | .hbm, ⟨9, _⟩ => ⟨S512x512, .bf16⟩
  | .hbm, ⟨10, _⟩ => ⟨S1x512, .f32⟩
  | .hbm, ⟨11, _⟩ => ⟨S16896x512, .bf16⟩
  | .local _ .vmem, ⟨0, _⟩ => ⟨S1056x512, .f32⟩
  | .local _ .vmem, ⟨1, _⟩ => ⟨S1056x512, .f32⟩
  | .local _ .vmem, ⟨2, _⟩ => ⟨S1056x512, .f32⟩
  | .local _ .vmem, ⟨3, _⟩ => ⟨S1056x512, .f32⟩
  | .local _ .vmem, ⟨4, _⟩ => ⟨S1056x512, .f32⟩
  | .local _ .vmem, ⟨5, _⟩ => ⟨S1056x512, .f32⟩
  | .local _ .vmem, ⟨6, _⟩ => ⟨S1x512, .f32⟩
  | .local _ .vmem, ⟨7, _⟩ => ⟨S512x512, .bf16⟩
  | .local _ .vmem, ⟨8, _⟩ => ⟨S1056x512, .bf16⟩
  | .local _ .vmem, ⟨9, _⟩ => ⟨S1056x512, .bf16⟩
  | _, _ => ⟨S16896x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c4_i32 : BitVec 32 := 4#32
  let c0_i32 : BitVec 32 := 0#32
  ![arg0.toNat, c4_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1056x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1056x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1056x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S512x512 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1056x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference6Ideal.lean ====
abbrev S16896x512 : Shape := ⟨2, ![16896, 512]⟩
abbrev S16896x10240 : Shape := ⟨2, ![16896, 10240]⟩
abbrev S4x512 : Shape := ⟨2, ![4, 512]⟩
abbrev S4x512x512 : Shape := ⟨3, ![4, 512, 512]⟩
abbrev S1x512 : Shape := ⟨2, ![1, 512]⟩
abbrev S512 : Shape := ⟨1, ![512]⟩
abbrev S_ : Shape := ⟨0, ![]⟩
abbrev S1x512x512 : Shape := ⟨3, ![1, 512, 512]⟩
abbrev S512x512 : Shape := ⟨2, ![512, 512]⟩

abbrev nBuf : Space → Nat
  | .hbm => 43
  | .vmem => 0
  | .smem => 0
  | _ => 0

abbrev bufTy : (tb : Table) → Fin (tcTables nBuf tb) → BufTy
  | .hbm, ⟨0, _⟩ => ⟨S16896x512, .f32⟩
  | .hbm, ⟨1, _⟩ => ⟨S16896x512, .f32⟩
  | .hbm, ⟨2, _⟩ => ⟨S16896x10240, .f32⟩
  | .hbm, ⟨3, _⟩ => ⟨S4x512, .f32⟩
  | .hbm, ⟨4, _⟩ => ⟨S4x512x512, .f32⟩
  | .hbm, ⟨5, _⟩ => ⟨S16896x512, .f32⟩
  | .hbm, ⟨6, _⟩ => ⟨S16896x512, .f32⟩
  | .hbm, ⟨7, _⟩ => ⟨S1x512, .f32⟩
  | .hbm, ⟨8, _⟩ => ⟨S512, .f32⟩
  | .hbm, ⟨9, _⟩ => ⟨S1x512, .f32⟩
  | .hbm, ⟨10, _⟩ => ⟨S16896x512, .f32⟩
  | .hbm, ⟨11, _⟩ => ⟨S16896x512, .f32⟩
  | .hbm, ⟨12, _⟩ => ⟨S16896x512, .f32⟩
  | .hbm, ⟨13, _⟩ => ⟨S16896x512, .f32⟩
  | .hbm, ⟨14, _⟩ => ⟨S16896x512, .f32⟩
  | .hbm, ⟨15, _⟩ => ⟨S_, .f32⟩
  | .hbm, ⟨16, _⟩ => ⟨S16896x512, .f32⟩
  | .hbm, ⟨17, _⟩ => ⟨S16896x512, .f32⟩
  | .hbm, ⟨18, _⟩ => ⟨S16896x512, .f32⟩
  | .hbm, ⟨19, _⟩ => ⟨S_, .f32⟩
  | .hbm, ⟨20, _⟩ => ⟨S16896x512, .f32⟩
  | .hbm, ⟨21, _⟩ => ⟨S16896x512, .f32⟩
  | .hbm, ⟨22, _⟩ => ⟨S16896x512, .f32⟩
  | .hbm, ⟨23, _⟩ => ⟨S_, .f32⟩
  | .hbm, ⟨24, _⟩ => ⟨S16896x512, .f32⟩
  | .hbm, ⟨25, _⟩ => ⟨S16896x512, .f32⟩
  | .hbm, ⟨26, _⟩ => ⟨S_, .f32⟩
  | .hbm, ⟨27, _⟩ => ⟨S16896x512, .f32⟩
  | .hbm, ⟨28, _⟩ => ⟨S16896x512, .f32⟩
  | .hbm, ⟨29, _⟩ => ⟨S16896x512, .f32⟩
  | .hbm, ⟨30, _⟩ => ⟨S1x512x512, .f32⟩
  | .hbm, ⟨31, _⟩ => ⟨S512x512, .f32⟩
  | .hbm, ⟨32, _⟩ => ⟨S16896x512, .f32⟩
  | .hbm, ⟨33, _⟩ => ⟨S16896x512, .f32⟩
  | .hbm, ⟨34, _⟩ => ⟨S16896x512, .f32⟩
  | .hbm, ⟨35, _⟩ => ⟨S_, .f32⟩
  | .hbm, ⟨36, _⟩ => ⟨S16896x512, .f32⟩
  | .hbm, ⟨37, _⟩ => ⟨S16896x512, .f32⟩
  | .hbm, ⟨38, _⟩ => ⟨S_, .f32⟩
  | .hbm, ⟨39, _⟩ => ⟨S16896x512, .f32⟩
  | .hbm, ⟨40, _⟩ => ⟨S16896x512, .f32⟩
  | .hbm, ⟨41, _⟩ => ⟨S16896x512, .f32⟩
  | .hbm, ⟨42, _⟩ => ⟨S16896x512, .bf16⟩
  | _, _ => ⟨S16896x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_cst_0 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_cst_1 : Ref sig .tc := ⟨.hbm, 23, rfl⟩
abbrev main_v16 : Ref sig .tc := ⟨.hbm, 24, rfl⟩
abbrev main_v17 : Ref sig .tc := ⟨.hbm, 25, rfl⟩
abbrev main_cst_2 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_cst_3 : Ref sig .tc := ⟨.hbm, 35, rfl⟩
abbrev main_v26 : Ref sig .tc := ⟨.hbm, 36, rfl⟩
abbrev main_v27 : Ref sig .tc := ⟨.hbm, 37, rfl⟩
abbrev main_cst_4 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩

abbrev nD : Nat := 1
abbrev τ : Topo := Topo.v7x

variable {F : FTy → Type} [FloatOps F]
-- ==== Kernel7.lean ====
abbrev S2x2048 : Shape := ⟨2, ![2, 2048]⟩
abbrev S2048 : Shape := ⟨1, ![2048]⟩
abbrev S4x2048x12288 : Shape := ⟨3, ![4, 2048, 12288]⟩
abbrev S4x12288 : Shape := ⟨2, ![4, 12288]⟩
abbrev S1x2048 : Shape := ⟨2, ![1, 2048]⟩
abbrev S3x2048 : Shape := ⟨2, ![3, 2048]⟩
abbrev S2048x3 : Shape := ⟨2, ![2048, 3]⟩
abbrev S4x1x12288 : Shape := ⟨3, ![4, 1, 12288]⟩
abbrev S4x3x12288 : Shape := ⟨3, ![4, 3, 12288]⟩
abbrev S1x2048x512 : Shape := ⟨3, ![1, 2048, 512]⟩
abbrev S1x1x512 : Shape := ⟨3, ![1, 1, 512]⟩
abbrev S1x3x512 : Shape := ⟨3, ![1, 3, 512]⟩
abbrev S2048x512 : Shape := ⟨2, ![2048, 512]⟩
abbrev S2048x1 : Shape := ⟨2, ![2048, 1]⟩
abbrev S512 : Shape := ⟨1, ![512]⟩
abbrev S1x512 : Shape := ⟨2, ![1, 512]⟩

abbrev nBuf : Space → Nat
  | .hbm => 9
  | .vmem => 7
  | .smem => 0
  | _ => 0

abbrev bufTy : (tb : Table) → Fin (tcTables nBuf tb) → BufTy
  | .hbm, ⟨0, _⟩ => ⟨S2x2048, .f32⟩
  | .hbm, ⟨1, _⟩ => ⟨S2048, .f32⟩
  | .hbm, ⟨2, _⟩ => ⟨S4x2048x12288, .f32⟩
  | .hbm, ⟨3, _⟩ => ⟨S4x12288, .f32⟩
  | .hbm, ⟨4, _⟩ => ⟨S1x2048, .f32⟩
  | .hbm, ⟨5, _⟩ => ⟨S3x2048, .f32⟩
  | .hbm, ⟨6, _⟩ => ⟨S2048x3, .f32⟩
  | .hbm, ⟨7, _⟩ => ⟨S4x1x12288, .f32⟩
  | .hbm, ⟨8, _⟩ => ⟨S4x3x12288, .f32⟩
  | .local _ .vmem, ⟨0, _⟩ => ⟨S2048x3, .f32⟩
  | .local _ .vmem, ⟨1, _⟩ => ⟨S1x2048x512, .f32⟩
  | .local _ .vmem, ⟨2, _⟩ => ⟨S1x2048x512, .f32⟩
  | .local _ .vmem, ⟨3, _⟩ => ⟨S1x1x512, .f32⟩
  | .local _ .vmem, ⟨4, _⟩ => ⟨S1x1x512, .f32⟩
  | .local _ .vmem, ⟨5, _⟩ => ⟨S1x3x512, .f32⟩
  | .local _ .vmem, ⟨6, _⟩ => ⟨S1x3x512, .f32⟩
  | _, _ => ⟨S2x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![4, 24], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 1 → Memref sig .tc .vmem S2048x3 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x2048x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x3x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference7Ideal.lean ====
abbrev S2x2048 : Shape := ⟨2, ![2, 2048]⟩
abbrev S2048 : Shape := ⟨1, ![2048]⟩
abbrev S4x2048x12288 : Shape := ⟨3, ![4, 2048, 12288]⟩
abbrev S4x12288 : Shape := ⟨2, ![4, 12288]⟩
abbrev S_ : Shape := ⟨0, ![]⟩
abbrev S4x12288x2 : Shape := ⟨3, ![4, 12288, 2]⟩
abbrev S4x2x12288 : Shape := ⟨3, ![4, 2, 12288]⟩
abbrev S4x1x12288 : Shape := ⟨3, ![4, 1, 12288]⟩
abbrev S4x3x12288 : Shape := ⟨3, ![4, 3, 12288]⟩

abbrev nBuf : Space → Nat
  | .hbm => 31
  | .vmem => 0
  | .smem => 0
  | _ => 0

abbrev bufTy : (tb : Table) → Fin (tcTables nBuf tb) → BufTy
  | .hbm, ⟨0, _⟩ => ⟨S2x2048, .f32⟩
  | .hbm, ⟨1, _⟩ => ⟨S2048, .f32⟩
  | .hbm, ⟨2, _⟩ => ⟨S4x2048x12288, .f32⟩
  | .hbm, ⟨3, _⟩ => ⟨S4x12288, .f32⟩
  | .hbm, ⟨4, _⟩ => ⟨S2x2048, .f32⟩
  | .hbm, ⟨5, _⟩ => ⟨S2x2048, .f32⟩
  | .hbm, ⟨6, _⟩ => ⟨S_, .f32⟩
  | .hbm, ⟨7, _⟩ => ⟨S2x2048, .f32⟩
  | .hbm, ⟨8, _⟩ => ⟨S2x2048, .f32⟩
  | .hbm, ⟨9, _⟩ => ⟨S_, .f32⟩
  | .hbm, ⟨10, _⟩ => ⟨S2x2048, .f32⟩
  | .hbm, ⟨11, _⟩ => ⟨S2x2048, .f32⟩
  | .hbm, ⟨12, _⟩ => ⟨S2x2048, .f32⟩
  | .hbm, ⟨13, _⟩ => ⟨S2048, .f32⟩
  | .hbm, ⟨14, _⟩ => ⟨S2048, .f32⟩
  | .hbm, ⟨15, _⟩ => ⟨S_, .f32⟩
  | .hbm, ⟨16, _⟩ => ⟨S2048, .f32⟩
  | .hbm, ⟨17, _⟩ => ⟨S2048, .f32⟩
  | .hbm, ⟨18, _⟩ => ⟨S_, .f32⟩
  | .hbm, ⟨19, _⟩ => ⟨S2048, .f32⟩
  | .hbm, ⟨20, _⟩ => ⟨S2048, .f32⟩
  | .hbm, ⟨21, _⟩ => ⟨S2048, .f32⟩
  | .hbm, ⟨22, _⟩ => ⟨S4x12288x2, .f32⟩
  | .hbm, ⟨23, _⟩ => ⟨S4x2x12288, .f32⟩
  | .hbm, ⟨24, _⟩ => ⟨S4x1x12288, .f32⟩
  | .hbm, ⟨25, _⟩ => ⟨S4x2x12288, .f32⟩
  | .hbm, ⟨26, _⟩ => ⟨S4x2x12288, .f32⟩
  | .hbm, ⟨27, _⟩ => ⟨S4x12288, .f32⟩
  | .hbm, ⟨28, _⟩ => ⟨S4x12288, .f32⟩
  | .hbm, ⟨29, _⟩ => ⟨S4x1x12288, .f32⟩
  | .hbm, ⟨30, _⟩ => ⟨S4x3x12288, .f32⟩
  | _, _ => ⟨S2x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_v0 : Ref sig .tc := ⟨.hbm, 4, rfl⟩
abbrev main_call0_v1 : Ref sig .tc := ⟨.hbm, 5, rfl⟩
abbrev main_call0_cst : Ref sig .tc := ⟨.hbm, 6, rfl⟩
abbrev main_call0_v2 : Ref sig .tc := ⟨.hbm, 7, rfl⟩
abbrev main_call0_v3 : Ref sig .tc := ⟨.hbm, 8, rfl⟩
abbrev main_call0_cst_0 : Ref sig .tc := ⟨.hbm, 9, rfl⟩
abbrev main_call0_v4 : Ref sig .tc := ⟨.hbm, 10, rfl⟩
abbrev main_call0_v5 : Ref sig .tc := ⟨.hbm, 11, rfl⟩
abbrev main_v0 : Ref sig .tc := ⟨.hbm, 12, rfl⟩
abbrev main_call1_v0 : Ref sig .tc := ⟨.hbm, 13, rfl⟩
abbrev main_call1_v1 : Ref sig .tc := ⟨.hbm, 14, rfl⟩
abbrev main_call1_cst : Ref sig .tc := ⟨.hbm, 15, rfl⟩
abbrev main_call1_v2 : Ref sig .tc := ⟨.hbm, 16, rfl⟩
abbrev main_call1_v3 : Ref sig .tc := ⟨.hbm, 17, rfl⟩
abbrev main_call1_cst_0 : Ref sig .tc := ⟨.hbm, 18, rfl⟩
abbrev main_call1_v4 : Ref sig .tc := ⟨.hbm, 19, rfl⟩
abbrev main_call1_v5 : Ref sig .tc := ⟨.hbm, 20, rfl⟩
abbrev main_v1 : Ref sig .tc := ⟨.hbm, 21, rfl⟩
abbrev main_v2 : Ref sig .tc := ⟨.hbm, 22, rfl⟩
abbrev main_v3 : Ref sig .tc := ⟨.hbm, 23, rfl⟩
abbrev main_v4 : Ref sig .tc := ⟨.hbm, 24, rfl⟩
abbrev main_v5 : Ref sig .tc := ⟨.hbm, 25, rfl⟩
abbrev main_v6 : Ref sig .tc := ⟨.hbm, 26, rfl⟩
abbrev main_v7 : Ref sig .tc := ⟨.hbm, 27, rfl⟩
abbrev main_v8 : Ref sig .tc := ⟨.hbm, 28, rfl⟩
abbrev main_v9 : Ref sig .tc := ⟨.hbm, 29, rfl⟩
abbrev main_v10 : Ref sig .tc := ⟨.hbm, 30, rfl⟩

abbrev nD : Nat := 1
abbrev τ : Topo := Topo.v7x

variable {F : FTy → Type} [FloatOps F]
-- ==== Kernel8.lean ====
abbrev S16896x2048 : Shape := ⟨2, ![16896, 2048]⟩
abbrev S4x3x12288 : Shape := ⟨3, ![4, 3, 12288]⟩
abbrev S4x2048 : Shape := ⟨2, ![4, 2048]⟩
abbrev S4x2048x16 : Shape := ⟨3, ![4, 2048, 16]⟩
abbrev S1x3x12288 : Shape := ⟨3, ![1, 3, 12288]⟩
abbrev S3x12288 : Shape := ⟨2, ![3, 12288]⟩
abbrev S1x2048 : Shape := ⟨2, ![1, 2048]⟩
abbrev S2048 : Shape := ⟨1, ![2048]⟩
abbrev S1x2048x16 : Shape := ⟨3, ![1, 2048, 16]⟩
abbrev S2048x16 : Shape := ⟨2, ![2048, 16]⟩
abbrev S16x2048 : Shape := ⟨2, ![16, 2048]⟩
abbrev S16x16896 : Shape := ⟨2, ![16, 16896]⟩
abbrev S768x2048 : Shape := ⟨2, ![768, 2048]⟩
abbrev S16x768 : Shape := ⟨2, ![16, 768]⟩
abbrev S768x1 : Shape := ⟨2, ![768, 1]⟩
abbrev S768 : Shape := ⟨1, ![768]⟩
abbrev S1x768 : Shape := ⟨2, ![1, 768]⟩

abbrev nBuf : Space → Nat
  | .hbm => 14
  | .vmem => 9
  | .smem => 0
  | _ => 0

abbrev bufTy : (tb : Table) → Fin (tcTables nBuf tb) → BufTy
  | .hbm, ⟨0, _⟩ => ⟨S16896x2048, .f32⟩
  | .hbm, ⟨1, _⟩ => ⟨S4x3x12288, .f32⟩
  | .hbm, ⟨2, _⟩ => ⟨S4x2048, .f32⟩
  | .hbm, ⟨3, _⟩ => ⟨S4x2048x16, .f32⟩
  | .hbm, ⟨4, _⟩ => ⟨S1x3x12288, .f32⟩
  | .hbm, ⟨5, _⟩ => ⟨S3x12288, .f32⟩
  | .hbm, ⟨6, _⟩ => ⟨S1x2048, .f32⟩
  | .hbm, ⟨7, _⟩ => ⟨S2048, .f32⟩
  | .hbm, ⟨8, _⟩ => ⟨S1x2048x16, .f32⟩
  | .hbm, ⟨9, _⟩ => ⟨S2048x16, .f32⟩
  | .hbm, ⟨10, _⟩ => ⟨S16x2048, .f32⟩
  | .hbm, ⟨11, _⟩ => ⟨S1x2048, .f32⟩
  | .hbm, ⟨12, _⟩ => ⟨S16896x2048, .f32⟩
  | .hbm, ⟨13, _⟩ => ⟨S16x16896, .f32⟩
  | .local _ .vmem, ⟨0, _⟩ => ⟨S768x2048, .f32⟩
  | .local _ .vmem, ⟨1, _⟩ => ⟨S768x2048, .f32⟩
  | .local _ .vmem, ⟨2, _⟩ => ⟨S3x12288, .f32⟩
  | .local _ .vmem, ⟨3, _⟩ => ⟨S1x2048, .f32⟩
  | .local _ .vmem, ⟨4, _⟩ => ⟨S16x2048, .f32⟩
  | .local _ .vmem, ⟨5, _⟩ => ⟨S768x2048, .f32⟩
  | .local _ .vmem, ⟨6, _⟩ => ⟨S768x2048, .f32⟩
  | .local _ .vmem, ⟨7, _⟩ => ⟨S16x768, .f32⟩
  | .local _ .vmem, ⟨8, _⟩ => ⟨S16x768, .f32⟩
  | _, _ => ⟨S16896x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8_0 : Ref sig .tc := ⟨.hbm, 12, rfl⟩
abbrev main_v8_1 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨1, ![22], ![false]⟩

def k0_off1 (i : grid0.Coords) : Fin 2 → Nat :=
  let arg0 : BitVec 32 := BitVec.ofNat 32 (i 0).val
  let c0_i32_4 : BitVec 32 := 0#32
  let v17 : BitVec 1 := Scalar.cmpi .sgt arg0 c0_i32_4
  let v18 : BitVec 32 := Scalar.extui v17
  let c0_i32_5 : BitVec 32 := 0#32
  let v19 : BitVec 1 := Scalar.cmpi .slt arg0 c0_i32_5
  let v20 : BitVec 32 := Scalar.extui v19
  let v21 : BitVec 32 := Scalar.subi v18 v20
  let c11_i32_3 : BitVec 32 := 11#32
  let c0_i32_6 : BitVec 32 := 0#32
  let v22 : BitVec 1 := Scalar.cmpi .sgt c11_i32_3 c0_i32_6
  let v23 : BitVec 32 := Scalar.extui v22
  let c0_i32_7 : BitVec 32 := 0#32
  let v24 : BitVec 1 := Scalar.cmpi .slt c11_i32_3 c0_i32_7
  let v25 : BitVec 32 := Scalar.extui v24
  let v26 : BitVec 32 := Scalar.subi v23 v25
  let v27 : BitVec 1 := Scalar.cmpi .ne v21 v26
  let v28 : BitVec 32 := Scalar.remsi arg0 c11_i32_3
  let c0_i32_8 : BitVec 32 := 0#32
  let v29 : BitVec 1 := Scalar.cmpi .ne v28 c0_i32_8
  let v30 : BitVec 1 := Scalar.andi v27 v29
  let v16 : BitVec 32 := Scalar.divsi arg0 c11_i32_3
  let c1_i32_9 : BitVec 32 := 1#32
  let v31 : BitVec 32 := Scalar.subi v16 c1_i32_9
  let v32 : BitVec 32 := Scalar.select v30 v31 v16
  let v33 : Index := Scalar.indexCast v32
  let c6144 : Index := 6144#32
  ![v33.toNat, 6144]
def k0_off2 (i : grid0.Coords) : Fin 2 → Nat :=
  let arg0 : BitVec 32 := BitVec.ofNat 32 (i 0).val
  let c0_i32_4 : BitVec 32 := 0#32
  let v17 : BitVec 1 := Scalar.cmpi .sgt arg0 c0_i32_4
  let v18 : BitVec 32 := Scalar.extui v17
  let c0_i32_5 : BitVec 32 := 0#32
  let v19 : BitVec 1 := Scalar.cmpi .slt arg0 c0_i32_5
  let v20 : BitVec 32 := Scalar.extui v19
  let v21 : BitVec 32 := Scalar.subi v18 v20
  let c11_i32_3 : BitVec 32 := 11#32
  let c0_i32_6 : BitVec 32 := 0#32
  let v22 : BitVec 1 := Scalar.cmpi .sgt c11_i32_3 c0_i32_6
  let v23 : BitVec 32 := Scalar.extui v22
  let c0_i32_7 : BitVec 32 := 0#32
  let v24 : BitVec 1 := Scalar.cmpi .slt c11_i32_3 c0_i32_7
  let v25 : BitVec 32 := Scalar.extui v24
  let v26 : BitVec 32 := Scalar.subi v23 v25
  let v27 : BitVec 1 := Scalar.cmpi .ne v21 v26
  let v28 : BitVec 32 := Scalar.remsi arg0 c11_i32_3
  let c0_i32_8 : BitVec 32 := 0#32
  let v29 : BitVec 1 := Scalar.cmpi .ne v28 c0_i32_8
  let v30 : BitVec 1 := Scalar.andi v27 v29
  let v16 : BitVec 32 := Scalar.divsi arg0 c11_i32_3
  let c1_i32_9 : BitVec 32 := 1#32
  let v31 : BitVec 32 := Scalar.subi v16 c1_i32_9
  let v32 : BitVec 32 := Scalar.select v30 v31 v16
  let v45 : Index := Scalar.indexCast v32
  let c8192 : Index := 8192#32
  ![v45.toNat, 8192]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S768x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S3x12288 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S16x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S768x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S16x768 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference8Ideal.lean ====
abbrev S16896x2048 : Shape := ⟨2, ![16896, 2048]⟩
abbrev S4x3x12288 : Shape := ⟨3, ![4, 3, 12288]⟩
abbrev S4x2048 : Shape := ⟨2, ![4, 2048]⟩
abbrev S4x2048x16 : Shape := ⟨3, ![4, 2048, 16]⟩
abbrev S2x8448x2048 : Shape := ⟨3, ![2, 8448, 2048]⟩
abbrev S1x2x12288 : Shape := ⟨3, ![1, 2, 12288]⟩
abbrev S2x12288 : Shape := ⟨2, ![2, 12288]⟩
abbrev S2x1x6x2048 : Shape := ⟨4, ![2, 1, 6, 2048]⟩
abbrev S1x1x12288 : Shape := ⟨3, ![1, 1, 12288]⟩
abbrev S1x12288 : Shape := ⟨2, ![1, 12288]⟩
abbrev S1x1x6x2048 : Shape := ⟨4, ![1, 1, 6, 2048]⟩
abbrev S_ : Shape := ⟨0, ![]⟩
abbrev S2x8448 : Shape := ⟨2, ![2, 8448]⟩
abbrev S2x8448x1 : Shape := ⟨3, ![2, 8448, 1]⟩
abbrev S1x2048 : Shape := ⟨2, ![1, 2048]⟩
abbrev S2048 : Shape := ⟨1, ![2048]⟩
abbrev S1x1x2048 : Shape := ⟨3, ![1, 1, 2048]⟩
abbrev S2x256x2048 : Shape := ⟨3, ![2, 256, 2048]⟩
abbrev S1x1x1x2048 : Shape := ⟨4, ![1, 1, 1, 2048]⟩
abbrev S2x8192x2048 : Shape := ⟨3, ![2, 8192, 2048]⟩
abbrev S2x1x1x2048 : Shape := ⟨4, ![2, 1, 1, 2048]⟩
abbrev S2x1x2048 : Shape := ⟨3, ![2, 1, 2048]⟩
abbrev S1x2048x16 : Shape := ⟨3, ![1, 2048, 16]⟩
abbrev S2048x16 : Shape := ⟨2, ![2048, 16]⟩
abbrev S16896x16 : Shape := ⟨2, ![16896, 16]⟩
abbrev S16896 : Shape := ⟨1, ![16896]⟩
abbrev S16896x1 : Shape := ⟨2, ![16896, 1]⟩
abbrev S16x16896 : Shape := ⟨2, ![16, 16896]⟩

abbrev nBuf : Space → Nat
  | .hbm => 73
  | .vmem => 0
  | .smem => 0
  | _ => 0

abbrev bufTy : (tb : Table) → Fin (tcTables nBuf tb) → BufTy
  | .hbm, ⟨0, _⟩ => ⟨S16896x2048, .f32⟩
  | .hbm, ⟨1, _⟩ => ⟨S4x3x12288, .f32⟩
  | .hbm, ⟨2, _⟩ => ⟨S4x2048, .f32⟩
  | .hbm, ⟨3, _⟩ => ⟨S4x2048x16, .f32⟩
  | .hbm, ⟨4, _⟩ => ⟨S2x8448x2048, .f32⟩
  | .hbm, ⟨5, _⟩ => ⟨S1x2x12288, .f32⟩
  | .hbm, ⟨6, _⟩ => ⟨S2x12288, .f32⟩
  | .hbm, ⟨7, _⟩ => ⟨S2x1x6x2048, .f32⟩
  | .hbm, ⟨8, _⟩ => ⟨S1x1x12288, .f32⟩
  | .hbm, ⟨9, _⟩ => ⟨S1x12288, .f32⟩
  | .hbm, ⟨10, _⟩ => ⟨S1x1x6x2048, .f32⟩
  | .hbm, ⟨11, _⟩ => ⟨S2x8448x2048, .f32⟩
  | .hbm, ⟨12, _⟩ => ⟨S_, .f32⟩
  | .hbm, ⟨13, _⟩ => ⟨S2x8448, .f32⟩
  | .hbm, ⟨14, _⟩ => ⟨S2x8448x1, .f32⟩
  | .hbm, ⟨15, _⟩ => ⟨S_, .f32⟩
  | .hbm, ⟨16, _⟩ => ⟨S2x8448x1, .f32⟩
  | .hbm, ⟨17, _⟩ => ⟨S2x8448x1, .f32⟩
  | .hbm, ⟨18, _⟩ => ⟨S_, .f32⟩
  | .hbm, ⟨19, _⟩ => ⟨S2x8448x1, .f32⟩
  | .hbm, ⟨20, _⟩ => ⟨S2x8448x1, .f32⟩
  | .hbm, ⟨21, _⟩ => ⟨S2x8448x1, .f32⟩
  | .hbm, ⟨22, _⟩ => ⟨S2x8448x2048, .f32⟩
  | .hbm, ⟨23, _⟩ => ⟨S2x8448x2048, .f32⟩
  | .hbm, ⟨24, _⟩ => ⟨S1x2048, .f32⟩
  | .hbm, ⟨25, _⟩ => ⟨S2048, .f32⟩
  | .hbm, ⟨26, _⟩ => ⟨S1x1x2048, .f32⟩
  | .hbm, ⟨27, _⟩ => ⟨S2x8448x2048, .f32⟩
  | .hbm, ⟨28, _⟩ => ⟨S2x8448x2048, .f32⟩
  | .hbm, ⟨29, _⟩ => ⟨S2x256x2048, .f32⟩
  | .hbm, ⟨30, _⟩ => ⟨S1x1x1x2048, .f32⟩
  | .hbm, ⟨31, _⟩ => ⟨S1x1x2048, .f32⟩
  | .hbm, ⟨32, _⟩ => ⟨S_, .f32⟩
  | .hbm, ⟨33, _⟩ => ⟨S1x1x2048, .f32⟩
  | .hbm, ⟨34, _⟩ => ⟨S1x1x2048, .f32⟩
  | .hbm, ⟨35, _⟩ => ⟨S2x256x2048, .f32⟩
  | .hbm, ⟨36, _⟩ => ⟨S2x256x2048, .f32⟩
  | .hbm, ⟨37, _⟩ => ⟨S1x1x1x2048, .f32⟩
  | .hbm, ⟨38, _⟩ => ⟨S1x1x2048, .f32⟩
  | .hbm, ⟨39, _⟩ => ⟨S2x256x2048, .f32⟩
  | .hbm, ⟨40, _⟩ => ⟨S2x256x2048, .f32⟩
  | .hbm, ⟨41, _⟩ => ⟨S2x8192x2048, .f32⟩
  | .hbm, ⟨42, _⟩ => ⟨S2x1x1x2048, .f32⟩
  | .hbm, ⟨43, _⟩ => ⟨S2x1x2048, .f32⟩
  | .hbm, ⟨44, _⟩ => ⟨S_, .f32⟩
  | .hbm, ⟨45, _⟩ => ⟨S2x1x2048, .f32⟩
  | .hbm, ⟨46, _⟩ => ⟨S2x1x2048, .f32⟩
  | .hbm, ⟨47, _⟩ => ⟨S2x8192x2048, .f32⟩
  | .hbm, ⟨48, _⟩ => ⟨S2x8192x2048, .f32⟩
  | .hbm, ⟨49, _⟩ => ⟨S2x1x1x2048, .f32⟩
  | .hbm, ⟨50, _⟩ => ⟨S2x1x2048, .f32⟩
  | .hbm, ⟨51, _⟩ => ⟨S2x8192x2048, .f32⟩
  | .hbm, ⟨52, _⟩ => ⟨S2x8192x2048, .f32⟩
  | .hbm, ⟨53, _⟩ => ⟨S2x8448x2048, .f32⟩
  | .hbm, ⟨54, _⟩ => ⟨S16896x2048, .f32⟩
  | .hbm, ⟨55, _⟩ => ⟨S1x2048x16, .f32⟩
  | .hbm, ⟨56, _⟩ => ⟨S2048x16, .f32⟩
  | .hbm, ⟨57, _⟩ => ⟨S16896x16, .f32⟩
  | .hbm, ⟨58, _⟩ => ⟨S_, .f32⟩
  | .hbm, ⟨59, _⟩ => ⟨S16896, .f32⟩
  | .hbm, ⟨60, _⟩ => ⟨S_, .f32⟩
  | .hbm, ⟨61, _⟩ => ⟨S16896, .f32⟩
  | .hbm, ⟨62, _⟩ => ⟨S16896, .f32⟩
  | .hbm, ⟨63, _⟩ => ⟨S16896x1, .f32⟩
  | .hbm, ⟨64, _⟩ => ⟨S16896x16, .f32⟩
  | .hbm, ⟨65, _⟩ => ⟨S16896x16, .f32⟩
  | .hbm, ⟨66, _⟩ => ⟨S16896x16, .f32⟩
  | .hbm, ⟨67, _⟩ => ⟨S_, .f32⟩
  | .hbm, ⟨68, _⟩ => ⟨S16896, .f32⟩
  | .hbm, ⟨69, _⟩ => ⟨S16896x1, .f32⟩
  | .hbm, ⟨70, _⟩ => ⟨S16896x16, .f32⟩
  | .hbm, ⟨71, _⟩ => ⟨S16896x16, .f32⟩
  | .hbm, ⟨72, _⟩ => ⟨S16x16896, .f32⟩
  | _, _ => ⟨S16896x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst : Ref sig .tc := ⟨.hbm, 12, rfl⟩
abbrev main_v8 : Ref sig .tc := ⟨.hbm, 13, rfl⟩
abbrev main_v9 : Ref sig .tc := ⟨.hbm, 14, rfl⟩
abbrev main_cst_0 : Ref sig .tc := ⟨.hbm, 15, rfl⟩
abbrev main_v10 : Ref sig .tc := ⟨.hbm, 16, rfl⟩
abbrev main_v11 : Ref sig .tc := ⟨.hbm, 17, rfl⟩
abbrev main_cst_1 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_cst_2 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_cst_3 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_v42 : Ref sig .tc := ⟨.hbm, 51, rfl⟩
abbrev main_v43 : Ref sig .tc := ⟨.hbm, 52, rfl⟩
abbrev main_v44 : Ref sig .tc := ⟨.hbm, 53, rfl⟩
abbrev main_v45 : Ref sig .tc := ⟨.hbm, 54, rfl⟩
abbrev main_v46 : Ref sig .tc := ⟨.hbm, 55, rfl⟩
abbrev main_v47 : Ref sig .tc := ⟨.hbm, 56, rfl⟩
abbrev main_v48 : Ref sig .tc := ⟨.hbm, 57, rfl⟩
abbrev main_cst_4 : Ref sig .tc := ⟨.hbm, 58, rfl⟩
abbrev main_v49 : Ref sig .tc := ⟨.hbm, 59, rfl⟩
abbrev main_cst_5 : Ref sig .tc := ⟨.hbm, 60, rfl⟩
abbrev main_v50 : Ref sig .tc := ⟨.hbm, 61, rfl⟩
abbrev main_v51 : Ref sig .tc := ⟨.hbm, 62, rfl⟩
abbrev main_v52 : Ref sig .tc := ⟨.hbm, 63, rfl⟩
abbrev main_v53 : Ref sig .tc := ⟨.hbm, 64, rfl⟩
abbrev main_v54 : Ref sig .tc := ⟨.hbm, 65, rfl⟩
abbrev main_v55 : Ref sig .tc := ⟨.hbm, 66, rfl⟩
abbrev main_cst_6 : Ref sig .tc := ⟨.hbm, 67, rfl⟩
abbrev main_v56 : Ref sig .tc := ⟨.hbm, 68, rfl⟩
abbrev main_v57 : Ref sig .tc := ⟨.hbm, 69, rfl⟩
abbrev main_v58 : Ref sig .tc := ⟨.hbm, 70, rfl⟩
abbrev main_v59 : Ref sig .tc := ⟨.hbm, 71, rfl⟩
abbrev main_v60 : Ref sig .tc := ⟨.hbm, 72, rfl⟩

abbrev nD : Nat := 1
abbrev τ : Topo := Topo.v7x

variable {F : FTy → Type} [FloatOps F]
-- ==== Kernel9.lean ====
abbrev S16896x512 : Shape := ⟨2, ![16896, 512]⟩
abbrev S4x512 : Shape := ⟨2, ![4, 512]⟩
abbrev S512 : Shape := ⟨1, ![512]⟩
abbrev S512x1 : Shape := ⟨2, ![512, 1]⟩
abbrev S_ : Shape := ⟨0, ![]⟩
abbrev S1x512 : Shape := ⟨2, ![1, 512]⟩
abbrev S512x512 : Shape := ⟨2, ![512, 512]⟩
abbrev S1056x512 : Shape := ⟨2, ![1056, 512]⟩

abbrev nBuf : Space → Nat
  | .hbm => 56
  | .vmem => 13
  | .smem => 0
  | _ => 0

abbrev bufTy : (tb : Table) → Fin (tcTables nBuf tb) → BufTy
  | .hbm, ⟨0, _⟩ => ⟨S16896x512, .f32⟩
  | .hbm, ⟨1, _⟩ => ⟨S16896x512, .f32⟩
  | .hbm, ⟨2, _⟩ => ⟨S16896x512, .f32⟩
  | .hbm, ⟨3, _⟩ => ⟨S16896x512, .f32⟩
  | .hbm, ⟨4, _⟩ => ⟨S4x512, .f32⟩
  | .hbm, ⟨5, _⟩ => ⟨S4x512, .f32⟩
  | .hbm, ⟨6, _⟩ => ⟨S512, .i32⟩
  | .hbm, ⟨7, _⟩ => ⟨S512x1, .i32⟩
  | .hbm, ⟨8, _⟩ => ⟨S_, .i32⟩
  | .hbm, ⟨9, _⟩ => ⟨S_, .i32⟩
  | .hbm, ⟨10, _⟩ => ⟨S512x1, .i32⟩
  | .hbm, ⟨11, _⟩ => ⟨S512x1, .i32⟩
  | .hbm, ⟨12, _⟩ => ⟨S512x1, .i32⟩
  | .hbm, ⟨13, _⟩ => ⟨S_, .i32⟩
  | .hbm, ⟨14, _⟩ => ⟨S512x1, .i32⟩
  | .hbm, ⟨15, _⟩ => ⟨S512x1, .i1⟩
  | .hbm, ⟨16, _⟩ => ⟨S512x1, .i32⟩
  | .hbm, ⟨17, _⟩ => ⟨S512x1, .i32⟩
  | .hbm, ⟨18, _⟩ => ⟨S_, .i32⟩
  | .hbm, ⟨19, _⟩ => ⟨S512x1, .i32⟩
  | .hbm, ⟨20, _⟩ => ⟨S512x1, .i1⟩
  | .hbm, ⟨21, _⟩ => ⟨S512x1, .i1⟩
  | .hbm, ⟨22, _⟩ => ⟨S_, .i32⟩
  | .hbm, ⟨23, _⟩ => ⟨S512x1, .i32⟩
  | .hbm, ⟨24, _⟩ => ⟨S512x1, .i32⟩
  | .hbm, ⟨25, _⟩ => ⟨S512x1, .i32⟩
  | .hbm, ⟨26, _⟩ => ⟨S1x512, .i32⟩
  | .hbm, ⟨27, _⟩ => ⟨S_, .i32⟩
  | .hbm, ⟨28, _⟩ => ⟨S_, .i32⟩
  | .hbm, ⟨29, _⟩ => ⟨S1x512, .i32⟩
  | .hbm, ⟨30, _⟩ => ⟨S1x512, .i32⟩
  | .hbm, ⟨31, _⟩ => ⟨S1x512, .i32⟩
  | .hbm, ⟨32, _⟩ => ⟨S_, .i32⟩
  | .hbm, ⟨33, _⟩ => ⟨S1x512, .i32⟩
  | .hbm, ⟨34, _⟩ => ⟨S1x512, .i1⟩
  | .hbm, ⟨35, _⟩ => ⟨S1x512, .i32⟩
  | .hbm, ⟨36, _⟩ => ⟨S1x512, .i32⟩
  | .hbm, ⟨37, _⟩ => ⟨S_, .i32⟩
  | .hbm, ⟨38, _⟩ => ⟨S1x512, .i32⟩
  | .hbm, ⟨39, _⟩ => ⟨S1x512, .i1⟩
  | .hbm, ⟨40, _⟩ => ⟨S1x512, .i1⟩
  | .hbm, ⟨41, _⟩ => ⟨S_, .i32⟩
  | .hbm, ⟨42, _⟩ => ⟨S1x512, .i32⟩
  | .hbm, ⟨43, _⟩ => ⟨S1x512, .i32⟩
  | .hbm, ⟨44, _⟩ => ⟨S1x512, .i32⟩
  | .hbm, ⟨45, _⟩ => ⟨S512x512, .i32⟩
  | .hbm, ⟨46, _⟩ => ⟨S512x512, .i32⟩
  | .hbm, ⟨47, _⟩ => ⟨S512x512, .i1⟩
  | .hbm, ⟨48, _⟩ => ⟨S512x512, .bf16⟩
  | .hbm, ⟨49, _⟩ => ⟨S1x512, .f32⟩
  | .hbm, ⟨50, _⟩ => ⟨S512, .f32⟩
  | .hbm, ⟨51, _⟩ => ⟨S1x512, .f32⟩
  | .hbm, ⟨52, _⟩ => ⟨S512, .f32⟩
  | .hbm, ⟨53, _⟩ => ⟨S1x512, .f32⟩
  | .hbm, ⟨54, _⟩ => ⟨S1x512, .f32⟩
  | .hbm, ⟨55, _⟩ => ⟨S16896x512, .bf16⟩
  | .local _ .vmem, ⟨0, _⟩ => ⟨S1056x512, .f32⟩
  | .local _ .vmem, ⟨1, _⟩ => ⟨S1056x512, .f32⟩
  | .local _ .vmem, ⟨2, _⟩ => ⟨S1056x512, .f32⟩
  | .local _ .vmem, ⟨3, _⟩ => ⟨S1056x512, .f32⟩
  | .local _ .vmem, ⟨4, _⟩ => ⟨S1056x512, .f32⟩
  | .local _ .vmem, ⟨5, _⟩ => ⟨S1056x512, .f32⟩
  | .local _ .vmem, ⟨6, _⟩ => ⟨S1056x512, .f32⟩
  | .local _ .vmem, ⟨7, _⟩ => ⟨S1056x512, .f32⟩
  | .local _ .vmem, ⟨8, _⟩ => ⟨S1x512, .f32⟩
  | .local _ .vmem, ⟨9, _⟩ => ⟨S1x512, .f32⟩
  | .local _ .vmem, ⟨10, _⟩ => ⟨S512x512, .bf16⟩
  | .local _ .vmem, ⟨11, _⟩ => ⟨S1056x512, .bf16⟩
  | .local _ .vmem, ⟨12, _⟩ => ⟨S1056x512, .bf16⟩
  | _, _ => ⟨S16896x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_c : Ref sig .tc := ⟨.hbm, 8, rfl⟩
abbrev main_call0_v0 : Ref sig .tc := ⟨.hbm, 9, rfl⟩
abbrev main_call0_v1 : Ref sig .tc := ⟨.hbm, 10, rfl⟩
abbrev main_call0_v2 : Ref sig .tc := ⟨.hbm, 11, rfl⟩
abbrev main_call0_v3 : Ref sig .tc := ⟨.hbm, 12, rfl⟩
abbrev main_call0_v4 : Ref sig .tc := ⟨.hbm, 13, rfl⟩
abbrev main_call0_v5 : Ref sig .tc := ⟨.hbm, 14, rfl⟩
abbrev main_call0_v6 : Ref sig .tc := ⟨.hbm, 15, rfl⟩
abbrev main_call0_v7 : Ref sig .tc := ⟨.hbm, 16, rfl⟩
abbrev main_call0_v8 : Ref sig .tc := ⟨.hbm, 17, rfl⟩
abbrev main_call0_c : Ref sig .tc := ⟨.hbm, 18, rfl⟩
abbrev main_call0_v9 : Ref sig .tc := ⟨.hbm, 19, rfl⟩
abbrev main_call0_v10 : Ref sig .tc := ⟨.hbm, 20, rfl⟩
abbrev main_call0_v11 : Ref sig .tc := ⟨.hbm, 21, rfl⟩
abbrev main_call0_c_0 : Ref sig .tc := ⟨.hbm, 22, rfl⟩
abbrev main_call0_v12 : Ref sig .tc := ⟨.hbm, 23, rfl⟩
abbrev main_call0_v13 : Ref sig .tc := ⟨.hbm, 24, rfl⟩
abbrev main_v2 : Ref sig .tc := ⟨.hbm, 25, rfl⟩
abbrev main_v3 : Ref sig .tc := ⟨.hbm, 26, rfl⟩
abbrev main_c_0 : Ref sig .tc := ⟨.hbm, 27, rfl⟩
abbrev main_call1_v0 : Ref sig .tc := ⟨.hbm, 28, rfl⟩
abbrev main_call1_v1 : Ref sig .tc := ⟨.hbm, 29, rfl⟩
abbrev main_call1_v2 : Ref sig .tc := ⟨.hbm, 30, rfl⟩
abbrev main_call1_v3 : Ref sig .tc := ⟨.hbm, 31, rfl⟩
abbrev main_call1_v4 : Ref sig .tc := ⟨.hbm, 32, rfl⟩
abbrev main_call1_v5 : Ref sig .tc := ⟨.hbm, 33, rfl⟩
abbrev main_call1_v6 : Ref sig .tc := ⟨.hbm, 34, rfl⟩
abbrev main_call1_v7 : Ref sig .tc := ⟨.hbm, 35, rfl⟩
abbrev main_call1_v8 : Ref sig .tc := ⟨.hbm, 36, rfl⟩
abbrev main_call1_c : Ref sig .tc := ⟨.hbm, 37, rfl⟩
abbrev main_call1_v9 : Ref sig .tc := ⟨.hbm, 38, rfl⟩
abbrev main_call1_v10 : Ref sig .tc := ⟨.hbm, 39, rfl⟩
abbrev main_call1_v11 : Ref sig .tc := ⟨.hbm, 40, rfl⟩
abbrev main_call1_c_0 : Ref sig .tc := ⟨.hbm, 41, rfl⟩
abbrev main_call1_v12 : Ref sig .tc := ⟨.hbm, 42, rfl⟩
abbrev main_call1_v13 : Ref sig .tc := ⟨.hbm, 43, rfl⟩
abbrev main_v4 : Ref sig .tc := ⟨.hbm, 44, rfl⟩
abbrev main_v5 : Ref sig .tc := ⟨.hbm, 45, rfl⟩
abbrev main_v6 : Ref sig .tc := ⟨.hbm, 46, rfl⟩
abbrev main_v7 : Ref sig .tc := ⟨.hbm, 47, rfl⟩
abbrev main_v8 : Ref sig .tc := ⟨.hbm, 48, rfl⟩
abbrev main_v9 : Ref sig .tc := ⟨.hbm, 49, rfl⟩
abbrev main_v10 : Ref sig .tc := ⟨.hbm, 50, rfl⟩
abbrev main_v11 : Ref sig .tc := ⟨.hbm, 51, rfl⟩
abbrev main_v12 : Ref sig .tc := ⟨.hbm, 52, rfl⟩
abbrev main_v13 : Ref sig .tc := ⟨.hbm, 53, rfl⟩
abbrev main_v14 : Ref sig .tc := ⟨.hbm, 54, rfl⟩
abbrev main_v15 : Ref sig .tc := ⟨.hbm, 55, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1056x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1056x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1056x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1056x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S512x512 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S1056x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference9Ideal.lean ====
abbrev S16896x512 : Shape := ⟨2, ![16896, 512]⟩
abbrev S4x512 : Shape := ⟨2, ![4, 512]⟩
abbrev S16896x8x64 : Shape := ⟨3, ![16896, 8, 64]⟩
abbrev S_ : Shape := ⟨0, ![]⟩
abbrev S16896x8 : Shape := ⟨2, ![16896, 8]⟩
abbrev S16896x8x1 : Shape := ⟨3, ![16896, 8, 1]⟩
abbrev S1x512 : Shape := ⟨2, ![1, 512]⟩
abbrev S512 : Shape := ⟨1, ![512]⟩

abbrev nBuf : Space → Nat
  | .hbm => 45
  | .vmem => 0
  | .smem => 0
  | _ => 0

abbrev bufTy : (tb : Table) → Fin (tcTables nBuf tb) → BufTy
  | .hbm, ⟨0, _⟩ => ⟨S16896x512, .f32⟩
  | .hbm, ⟨1, _⟩ => ⟨S16896x512, .f32⟩
  | .hbm, ⟨2, _⟩ => ⟨S16896x512, .f32⟩
  | .hbm, ⟨3, _⟩ => ⟨S16896x512, .f32⟩
  | .hbm, ⟨4, _⟩ => ⟨S4x512, .f32⟩
  | .hbm, ⟨5, _⟩ => ⟨S4x512, .f32⟩
  | .hbm, ⟨6, _⟩ => ⟨S16896x512, .f32⟩
  | .hbm, ⟨7, _⟩ => ⟨S16896x8x64, .f32⟩
  | .hbm, ⟨8, _⟩ => ⟨S_, .f32⟩
  | .hbm, ⟨9, _⟩ => ⟨S16896x8, .f32⟩
  | .hbm, ⟨10, _⟩ => ⟨S16896x8x1, .f32⟩
  | .hbm, ⟨11, _⟩ => ⟨S_, .f32⟩
  | .hbm, ⟨12, _⟩ => ⟨S16896x8x1, .f32⟩
  | .hbm, ⟨13, _⟩ => ⟨S16896x8x1, .f32⟩
  | .hbm, ⟨14, _⟩ => ⟨S16896x8x64, .f32⟩
  | .hbm, ⟨15, _⟩ => ⟨S16896x8x64, .f32⟩
  | .hbm, ⟨16, _⟩ => ⟨S16896x8x64, .f32⟩
  | .hbm, ⟨17, _⟩ => ⟨S_, .f32⟩
  | .hbm, ⟨18, _⟩ => ⟨S16896x8, .f32⟩
  | .hbm, ⟨19, _⟩ => ⟨S16896x8x1, .f32⟩
  | .hbm, ⟨20, _⟩ => ⟨S_, .f32⟩
  | .hbm, ⟨21, _⟩ => ⟨S16896x8x1, .f32⟩
  | .hbm, ⟨22, _⟩ => ⟨S16896x8x1, .f32⟩
  | .hbm, ⟨23, _⟩ => ⟨S16896x8x64, .f32⟩
  | .hbm, ⟨24, _⟩ => ⟨S16896x8x64, .f32⟩
  | .hbm, ⟨25, _⟩ => ⟨S_, .f32⟩
  | .hbm, ⟨26, _⟩ => ⟨S16896x8x1, .f32⟩
  | .hbm, ⟨27, _⟩ => ⟨S16896x8x1, .f32⟩
  | .hbm, ⟨28, _⟩ => ⟨S16896x8x1, .f32⟩
  | .hbm, ⟨29, _⟩ => ⟨S16896x8x64, .f32⟩
  | .hbm, ⟨30, _⟩ => ⟨S16896x8x64, .f32⟩
  | .hbm, ⟨31, _⟩ => ⟨S16896x512, .f32⟩
  | .hbm, ⟨32, _⟩ => ⟨S1x512, .f32⟩
  | .hbm, ⟨33, _⟩ => ⟨S512, .f32⟩
  | .hbm, ⟨34, _⟩ => ⟨S1x512, .f32⟩
  | .hbm, ⟨35, _⟩ => ⟨S16896x512, .f32⟩
  | .hbm, ⟨36, _⟩ => ⟨S16896x512, .f32⟩
  | .hbm, ⟨37, _⟩ => ⟨S1x512, .f32⟩
  | .hbm, ⟨38, _⟩ => ⟨S512, .f32⟩
  | .hbm, ⟨39, _⟩ => ⟨S1x512, .f32⟩
  | .hbm, ⟨40, _⟩ => ⟨S16896x512, .f32⟩
  | .hbm, ⟨41, _⟩ => ⟨S16896x512, .f32⟩
  | .hbm, ⟨42, _⟩ => ⟨S16896x512, .f32⟩
  | .hbm, ⟨43, _⟩ => ⟨S16896x512, .f32⟩
  | .hbm, ⟨44, _⟩ => ⟨S16896x512, .bf16⟩
  | _, _ => ⟨S16896x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_cst_0 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_1 : Ref sig .tc := ⟨.hbm, 17, rfl⟩
abbrev main_v9 : Ref sig .tc := ⟨.hbm, 18, rfl⟩
abbrev main_v10 : Ref sig .tc := ⟨.hbm, 19, rfl⟩
abbrev main_cst_2 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst_3 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩

abbrev nD : Nat := 1
abbrev τ : Topo := Topo.v7x

variable {F : FTy → Type} [FloatOps F]
-- ==== Proof.ProjBody.lean ====
/-
  What one grid point of the input projection computes, over the extended reals.

  A row block of 1056 rows is normalised and modulated into the scratch once, at the block's first point, in three
  chunks of 352 rows; every point of the block then multiplies the scratch by its own 512 columns of the weight.
  Here both are read at an index: the scratch entry `(a, k)` is `modulated` of row `a`, with the modulation row that the
  context mask selects (`mrow`), and the output entry `(a, n)` is the plain sum over the 2048 features.
-/
module

public import proofs.«01_k».proof.Proof.Gen.KernelIdeal.Frame
public import Idealize.ShloMosaic.Lib.Pipeline.ValueKit
public import Idealize.ShloMosaic.Lib.Pointwise

@[expose] public section

set_option maxRecDepth 16384

noncomputable section

namespace Cert.KernelIdeal.Proj

open Cert.KernelIdeal Cert.KernelIdeal.Gen Idealize.ShloMosaic Idealize.ShloMosaic.TcCoe Idealize.SL.Sem

/-- One feature of a row after the norm and the modulation: the row over the root of its mean square, times the
    norm's gain, times one plus the scale, plus the shift. -/
def modulated (x g sc sh : Fin 2048 → EReal) (k : Fin 2048) : EReal :=
  x k * Ideal.rsqrt (Ideal.div (∑ j, x j * x j) (Ideal.ofBits FTy.f32 0x45000000#32) + Ideal.ofBits FTy.f32 0x358637BD#32)
    * g k * (1 + sc k) + sh k

/-- The row of the modulation table that row `a` of row block `b` takes: the last one for a context row, the
    batch entry's own otherwise. -/
def mrow (b : Fin 16) (a : ℕ) : Fin 3 :=
  if b.val % 8 * 1056 + a < 256 then 2 else ⟨b.val / 8, by omega⟩

/-- Whether a row is a context row, as the kernel computes it on words from the row block and the row in it. -/
def ctxBit (w : BitVec 32) (v : BitVec 32) : BitVec 1 :=
  IntOp.cmpi CmpIPredicate.slt
    (IntOp.addi
      (Scalar.muli
        (Scalar.select
          (Scalar.andi
            (Scalar.xori (Scalar.cmpi CmpIPredicate.slt (Scalar.remsi w 8#32) 0#32) (Scalar.cmpi CmpIPredicate.slt 8#32 0#32))
            (Scalar.cmpi CmpIPredicate.ne (Scalar.remsi w 8#32) 0#32))
          (Scalar.addi (Scalar.remsi w 8#32) 8#32) (Scalar.remsi w 8#32))
        1056#32) v)
    256#32

theorem ctxBit_eq : ∀ (b : Fin 16) (a : Fin 1056),
    ctxBit (BitVec.ofNat 32 b.val) (BitVec.ofNat 32 a.val) = BitVec.ofBool (decide (b.val % 8 * 1056 + a.val < 256)) := by
  decide +kernel

/-- Selecting a modulation row by the context bit is reading the table at `mrow`. -/
theorem select_ctx {α : Type} (b : Fin 16) (a : ℕ) (ha : a < 1056) (f : Fin 3 → α) :
    Scalar.select (ctxBit (BitVec.ofNat 32 b.val) (BitVec.ofNat 32 a)) (f 2) (f ⟨b.val / 8, by omega⟩) = f (mrow b a) := by
  rw [ctxBit_eq b ⟨a, ha⟩]
  unfold mrow
  by_cases h : b.val % 8 * 1056 + a < 256
  · simp [h, Scalar.select]
  · simp [h, Scalar.select]

theorem off1_eq : ∀ i : grid0.Coords, k0_off1 i = ![(i 0).val / 8, 0] := by decide +kernel

theorem off2_eq : ∀ i : grid0.Coords, k0_off2 i = ![(i 0).val / 8, 2048] := by decide +kernel

/-- The first chunk's rows. -/
theorem chunk0 (w : BitVec 32) (sh shc sc scc : Vec Ideal S1x2048 .f32) (x : Vec Ideal S352x2048 .f32)
    (g : Vec Ideal S1x2048 .f32) (a : Fin 352) (k : Fin 2048) :
    k0_pay7 (k0_pay3 w) (k0_pay4 sh) (k0_pay5 w) (k0_pay6 shc) sc scc x g (ix2 a k)
      = modulated (fun j => x (ix2 a j)) (fun j => g (ix2 0 j))
          (fun j => Scalar.select (ctxBit w (BitVec.ofNat 32 a.val)) (scc (ix2 0 j)) (sc (ix2 0 j)))
          (fun j => Scalar.select (ctxBit w (BitVec.ofNat 32 a.val)) (shc (ix2 0 j)) (sh (ix2 0 j))) k := by
  pointwise [k0_pay7, k0_pay3, k0_pay4, k0_pay5, k0_pay6]
  rfl

/-- The second chunk's rows. -/
theorem chunk1 (w : BitVec 32) (sh shc sc scc : Vec Ideal S1x2048 .f32) (x : Vec Ideal S352x2048 .f32)
    (g : Vec Ideal S1x2048 .f32) (a : Fin 352) (k : Fin 2048) :
    k0_pay13 (k0_pay9 8#32 (Scalar.remsi w 8#32) sh shc) (k0_pay10 8#32 (Scalar.remsi w 8#32) sc scc) (k0_pay11 x)
        (k0_pay12 x) g (ix2 a k)
      = modulated (fun j => x (ix2 a j)) (fun j => g (ix2 0 j))
          (fun j => Scalar.select (ctxBit w (BitVec.ofNat 32 (352 + a.val))) (scc (ix2 0 j)) (sc (ix2 0 j)))
          (fun j => Scalar.select (ctxBit w (BitVec.ofNat 32 (352 + a.val))) (shc (ix2 0 j)) (sh (ix2 0 j))) k := by
  pointwise [k0_pay13, k0_pay9, k0_pay10, k0_pay11, k0_pay12, k0_pay8]
  rfl

/-- The third chunk's rows. -/
theorem chunk2 (w : BitVec 32) (sh shc sc scc : Vec Ideal S1x2048 .f32) (x : Vec Ideal S352x2048 .f32)
    (g : Vec Ideal S1x2048 .f32) (a : Fin 352) (k : Fin 2048) :
    k0_pay1 (k0_pay14 w) (k0_pay15 sh) (k0_pay16 w) (k0_pay17 shc) sc scc x g (ix2 a k)
      = modulated (fun j => x (ix2 a j)) (fun j => g (ix2 0 j))
          (fun j => Scalar.select (ctxBit w (BitVec.ofNat 32 (704 + a.val))) (scc (ix2 0 j)) (sc (ix2 0 j)))
          (fun j => Scalar.select (ctxBit w (BitVec.ofNat 32 (704 + a.val))) (shc (ix2 0 j)) (sh (ix2 0 j))) k := by
  pointwise [k0_pay1, k0_pay14, k0_pay15, k0_pay16, k0_pay17]
  rfl

/-- The product's entry is the sum over the features. -/
theorem pay2_at (h : Vec Ideal S1056x2048 .bf16) (w : Vec Ideal S1x2048x512 .f32) (a : Fin 1056) (n : Fin 512) :
    k0_pay2 h w (ix2 a n) = ∑ j : Fin 2048, h (ix2 a j) * w (ix3 0 j n) := by
  pointwise [k0_pay2]

/-- The row block's modulated rows over the staged blocks of the stream, the modulation table and the gain. -/
def rows (b : Fin 16) (x : Vec Ideal S1056x2048 .f32) (t : Vec Ideal S3x12288 .f32) (g : Vec Ideal S1x2048 .f32)
    (y : S1056x2048.Idx) : EReal :=
  modulated (fun j => x (ix2 (y 0) j)) (fun j => g (ix2 0 j))
    (fun j => t (ix2 (mrow b (y 0).val) ⟨2048 + j.val, by omega⟩))
    (fun j => t (ix2 (mrow b (y 0).val) ⟨j.val, by omega⟩)) (y 1)

/-- A load of 352 whole rows from row `o`. -/
theorem ld_row (x : Vec Ideal S1056x2048 .f32) (o : ℕ) (inb) (p : Fin 352) (j : Fin 2048) (r : Fin 1056)
    (hr : r.val = o + p.val) :
    View.ld x (Rect.unit (s := S1056x2048) ![o, 0] ![352, 2048] inb) (ix2 p j) = x (ix2 r j) := by
  refine View.ld_unit_apply_of _ _ _ _ _ _ fun a => ?_
  match a with
  | ⟨0, _⟩ => exact hr
  | ⟨1, _⟩ => exact (Nat.zero_add _).symm

/-- A load of one table row's 2048 entries from column `q`. -/
theorem ld_mod (t : Vec Ideal S3x12288 .f32) (off : Fin 2 → ℕ) (r q : ℕ) (hr : r < 3) (hq : q + 2048 ≤ 12288) (inb) (e : off = ![r, q]) (j : Fin 2048) :
    View.ld t (Rect.unit (s := S3x12288) off ![1, 2048] inb) (ix2 0 j) = t (ix2 ⟨r, hr⟩ ⟨q + j.val, by omega⟩) := by
  subst e
  refine View.ld_unit_apply_of _ _ _ _ _ _ fun a => ?_
  match a with
  | ⟨0, _⟩ => rfl
  | ⟨1, _⟩ => rfl

/-- A chunk of 352 rows from row `o` of the block, each entry `modulated` of the loads the kernel makes, is the
    block's modulated rows there. -/
theorem rows_of (b : Fin 16) (o : ℕ) (x0 : Vec Ideal S1056x2048 .f32) (x1 : Vec Ideal S3x12288 .f32)
    (x2 : Vec Ideal S1x2048 .f32) (y : S1056x2048.Idx) (x : S352x2048.Idx) (h0 : (y 0).val = o + (x 0).val)
    (h1 : (y 1).val = (x 1).val) (off1 off2 : Fin 2 → ℕ) (inbx) (inb1) (inb2) (inb3) (inb4)
    (e1 : off1 = ![b.val / 8, 0]) (e2 : off2 = ![b.val / 8, 2048]) (v : S352x2048.Idx → EReal)
    (hv : ∀ (p : Fin 352) (k : Fin 2048), v (ix2 p k)
      = modulated (fun j => View.ld x0 (Rect.unit (s := S1056x2048) ![o, 0] ![352, 2048] inbx) (ix2 p j)) (fun j => x2 (ix2 0 j))
          (fun j => Scalar.select (ctxBit (BitVec.ofNat 32 b.val) (BitVec.ofNat 32 (o + p.val)))
            (View.ld x1 (Rect.unit (s := S3x12288) ![2, 2048] ![1, 2048] inb4) (ix2 0 j))
            (View.ld x1 (Rect.unit (s := S3x12288) off2 ![1, 2048] inb2) (ix2 0 j)))
          (fun j => Scalar.select (ctxBit (BitVec.ofNat 32 b.val) (BitVec.ofNat 32 (o + p.val)))
            (View.ld x1 (Rect.unit (s := S3x12288) ![2, 0] ![1, 2048] inb3) (ix2 0 j))
            (View.ld x1 (Rect.unit (s := S3x12288) off1 ![1, 2048] inb1) (ix2 0 j))) k) :
    v x = rows b x0 x1 x2 y := by
  have hb : b.val / 8 < 3 := by omega
  have hy : (y 0).val < 1056 := (y 0).isLt
  obtain ⟨p, k, rfl⟩ : ∃ (p : Fin 352) (k : Fin 2048), x = ix2 p k := ⟨x 0, x 1, eq_ix2 x⟩
  have hop : o + p.val < 1056 := h0 ▸ hy
  have hk : k = y 1 := Fin.ext h1.symm
  rw [hv, hk]
  unfold rows
  have hm : mrow b (y 0).val = mrow b (o + p.val) := congrArg (mrow b) h0
  rw [hm]
  congr 1
  · funext j; exact ld_row x0 o _ p j _ h0
  · funext j
    rw [ld_mod x1 _ 2 2048 (by omega) (by omega) _ rfl, ld_mod x1 _ _ 2048 hb (by omega) _ e2]
    exact select_ctx b (o + p.val) hop fun r => x1 (ix2 r ⟨2048 + j.val, by omega⟩)
  · funext j
    rw [ld_mod x1 _ 2 0 (by omega) (by omega) _ rfl, ld_mod x1 _ _ 0 hb (by omega) _ e1]
    refine (select_ctx b (o + p.val) hop fun r => x1 (ix2 r ⟨0 + j.val, by omega⟩)).trans ?_
    exact congrArg (fun q => x1 (ix2 _ q)) (Fin.ext (Nat.zero_add _))

/-- The product over a scratch just stored is the product over what the stores left. -/
theorem pay2_readCov (v : View sig .tc .vmem S1056x2048 .bf16) (L : List (View.Piece (Elt Ideal) S1056x2048 .bf16))
    (inb) (w : Vec Ideal S1x2048x512 .f32) :
    k0_pay2 (v.readCov L (Rect.unit (s := S1056x2048) ![0, 0] ![1056, 2048] inb).toLoadRect) w = k0_pay2 (View.canon L) w := by
  rw [View.readCov_eq_canon']
  refine congrArg (fun h => k0_pay2 h w) (funext fun j => congrArg (View.canon L) (funext fun a => Fin.ext ?_))
  refine (Rect.idx_unit_val _ _ _ _ _).trans ?_
  match a with
  | ⟨0, _⟩ => exact Nat.zero_add _
  | ⟨1, _⟩ => exact Nat.zero_add _

section Body

variable (c : Dev nD) (i : grid0.Coords) (arg2 : Memref sig .tc .vmem S1056x2048 .f32) (harg2 : arg2.IsWhole)
  (arg3 : Memref sig .tc .vmem S3x12288 .f32) (harg3 : arg3.IsWhole) (arg4 : Memref sig .tc .vmem S1x2048 .f32)
  (harg4 : arg4.IsWhole) (arg5 : Memref sig .tc .vmem S1x2048x512 .f32) (harg5 : arg5.IsWhole)
  (arg6 : Memref sig .tc .vmem S1056x512 .f32) (harg6 : arg6.IsWhole) (arg7 : Memref sig .tc .vmem S1056x2048 .bf16)
  (harg7 : arg7.IsWhole) (x0 : Vec Ideal S1056x2048 .f32) (x1 : Vec Ideal S3x12288 .f32) (x2 : Vec Ideal S1x2048 .f32)
  (x3 : Vec Ideal S1x2048x512 .f32)

/-- A block's first point leaves the modulated rows in the scratch. -/
theorem scratch_A (hc0 : cond0_0 i) (y : S1056x2048.Idx) :
    sout0_A_0 c i arg2 harg2 arg3 harg3 arg4 harg4 arg5 harg5 arg6 harg6 arg7 harg7 hc0 x0 x1 x2 x3 y
      = rows (i 0) x0 x1 x2 y := by
  frame_out
  have e1 := off1_eq i
  have e2 := off2_eq i
  canon_tiles x h
  · exact rows_of (i 0) 704 x0 x1 x2 y x h0 h1 _ _ _ _ _ _ _ e1 e2 _ (chunk2 _ _ _ _ _ _ _)
  · exact rows_of (i 0) 352 x0 x1 x2 y x h0 h1 _ _ _ _ _ _ _ e1 e2 _ (chunk1 _ _ _ _ _ _ _)
  · exact rows_of (i 0) 0 x0 x1 x2 y x (by omega) h1 _ _ _ _ _ _ _ e1 e2 _
      (fun p k => by rw [chunk0, Nat.zero_add])

/-- A later point of the block multiplies the scratch as it stands. -/
theorem out_B (hc0 : ¬cond0_0 i) (xs : Vec Ideal S1056x2048 .bf16) :
    out0_B_4 c i arg2 harg2 arg3 harg3 arg4 harg4 arg5 harg5 arg6 harg6 arg7 harg7 hc0 x0 x1 x2 x3 xs = k0_pay2 xs x3 := by
  frame_out

/-- The block's first point multiplies what it has just stored. -/
theorem out_A (hc0 : cond0_0 i) :
    out0_A_4 c i arg2 harg2 arg3 harg3 arg4 harg4 arg5 harg5 arg6 harg6 arg7 harg7 hc0 x0 x1 x2 x3
      = k0_pay2 (sout0_A_0 c i arg2 harg2 arg3 harg3 arg4 harg4 arg5 harg5 arg6 harg6 arg7 harg7 hc0 x0 x1 x2 x3) x3 := by
  frame_out
  exact pay2_readCov _ _ _ _

end Body

end Cert.KernelIdeal.Proj

end
-- ==== Proof.ProjArray.lean ====
/-
  The array that the input projection leaves, entry by entry over the program's arguments.
-/
module

public import proofs.«01_k».proof.Proof.ProjBody
public import Idealize.ShloMosaic.Lib.Pipeline.ValueKit.Held
public import Idealize.ShloMosaic.Lib.Pipeline.Covers
public import Idealize.ShloMosaic.Lib.Claim

@[expose] public section

set_option maxRecDepth 16384

noncomputable section

namespace Cert.KernelIdeal.Proj

open Cert.KernelIdeal Cert.KernelIdeal.Gen Idealize.ShloMosaic Idealize.ShloMosaic.TcCoe Idealize.SL.Sem
open Idealize.ShloMosaic.Pipeline (Dat)

variable (m : (ℓ : Loc nD τ sig) → Buf (Elt Ideal) ℓ) (ρ : Dev nD → PrngReg)

/-- After any point the scratch holds the modulated rows of the point's row block. -/
theorem scratch_eq (c : Dev nD) (t : Fin cfg0.N) (y : S1056x2048.Idx) :
    (outsAt0 m c t.val t.isLt).2 y
      = (fun s : Fin cfg0.N => rows (grid0.coords s 0) (iblk m c 0 s) (iblk m c 1 s) (iblk m c 2 s))
          ⟨20 * (t.val / 20), Pipeline.run_start_lt t⟩ y := by
  refine congrFun (Pipeline.eq_of_write_hold (fun n h => (outsAt0 m c n h).2) 20
    (fun s : Fin cfg0.N => rows (grid0.coords s 0) (iblk m c 0 s) (iblk m c 1 s) (iblk m c 2 s)) ?_ ?_ t) y
  · intro s hs
    funext z
    show (outsAt0 m c s.val s.isLt).2 z = _
    rw [outsAt0_A m c s hs]
    dsimp only
    exact scratch_A ..
  · intro s hs
    show (outsAt0 m c s.val s.isLt).2 = _
    rw [outsAt0_B m c s hs]
    rfl

/-- What a point leaves in the output block is the product of the scratch as it stands after the point. -/
theorem out_eq (c : Dev nD) (t : Fin cfg0.N) :
    (outsAt0 m c t.val t.isLt).1 = k0_pay2 (outsAt0 m c t.val t.isLt).2 (iblk m c 3 t) := by
  by_cases h : t.val % 20 = 0
  · rw [outsAt0_A m c t h]; dsimp only; exact out_A ..
  · rw [outsAt0_B m c t h]; dsimp only; exact out_B ..

theorem index0 : ∀ t : Fin cfg0.N, win0_0.index t = ![t.val / 20, 0] := (by decide +kernel : ∀ t : Fin grid0.N, _)
theorem index1 : ∀ t : Fin cfg0.N, win0_1.index t = ![0, 0] := (by decide +kernel : ∀ t : Fin grid0.N, _)
theorem index2 : ∀ t : Fin cfg0.N, win0_2.index t = ![0, 0] := (by decide +kernel : ∀ t : Fin grid0.N, _)
theorem index4 : ∀ t : Fin cfg0.N, win0_4.index t = ![t.val / 20, t.val % 20] := (by decide +kernel : ∀ t : Fin grid0.N, _)

/-- The column of the weight that column `n` of the result takes: the gate's columns, then the keys and values, then
    the queries, then the rest, each group a whole number of tiles. -/
def wcol (n : Fin 10240) : Fin 10112 :=
  if h : n.val < 2048 then ⟨n.val, by omega⟩
  else if h : n.val < 2560 then ⟨n.val - 2048 + 1920, by omega⟩
  else if h : n.val < 3072 then ⟨n.val - 2560 + 3456, by omega⟩
  else if h : n.val < 4096 then ⟨n.val - 3072 + 2432, by omega⟩
  else ⟨n.val - 4096 + 3968, by omega⟩

theorem wcol_val (n : Fin 10240) : (wcol n).val =
    if n.val < 2048 then n.val else if n.val < 2560 then n.val - 2048 + 1920 else if n.val < 3072 then n.val - 2560 + 3456
    else if n.val < 4096 then n.val - 3072 + 2432 else n.val - 4096 + 3968 := by
  unfold wcol
  split_ifs <;> rfl

/-- The element-indexed window starts at layer 0, feature 0 and the tile's first weight column. -/
theorem index3 : ∀ t : Fin cfg0.N, win0_3.index t = ![0, 0, (wcol ⟨t.val % 20 * 512, by omega⟩).val] :=
  (by decide +kernel : ∀ t : Fin grid0.N, _)

theorem wcol_tile : ∀ (q : Fin 20) (n : Fin 512),
    (wcol ⟨q.val * 512 + n.val, by omega⟩).val = (wcol ⟨q.val * 512, by omega⟩).val + n.val := by decide +kernel

/-- Row `r` of the joined stream: the batch entry's context rows first, then its latent rows. -/
def stream (x : FVec Ideal S2x8192x2048 .f32) (ctx : FVec Ideal S2x256x2048 .f32) (r : Fin 16896) (j : Fin 2048) : EReal :=
  if h : r.val % 8448 < 256 then ctx (ix3 ⟨r.val / 8448, by omega⟩ ⟨r.val % 8448, h⟩ j)
  else x (ix3 ⟨r.val / 8448, by omega⟩ ⟨r.val % 8448 - 256, by omega⟩ j)

/-- The modulation row of stream row `r`: the third for a context row, else the batch entry's. -/
def owner (r : Fin 16896) : Fin 3 := if r.val % 8448 < 256 then 2 else ⟨r.val / 8448, by omega⟩

theorem mrow_owner (b : Fin 16) (a : Fin 1056) (r : Fin 16896) (h : r.val = b.val * 1056 + a.val) :
    mrow b a.val = owner r := by
  have h1 : r.val % 8448 = b.val % 8 * 1056 + a.val := by omega
  have h2 : r.val / 8448 = b.val / 8 := by omega
  unfold mrow owner
  simp only [h1, h2]

theorem blk0 (c : Dev nD) (t : Fin cfg0.N) (a : Fin 1056) (j : Fin 2048) (r : Fin 16896) (hr : r.val = t.val / 20 * 1056 + a.val) :
    iblk m c 0 t (ix2 a j) = stream (m ((c : Thread nD τ).loc main_arg0)) (m ((c : Thread nD τ).loc main_arg1)) r j := by
  blk_simp [iblk]
  entry_read
  pointwise [stream]
  have e0 : (((View.whole main_v1).slice (win0_0.rect t)).emb (ix2 a j) 0).val = r.val := by
    blk_simp [index0 t]
    omega
  have e1 : ((View.whole main_v1).slice (win0_0.rect t)).emb (ix2 a j) 1 = j := Fin.ext (by
    blk_simp [index0 t])
  simp only [e0, e1]

theorem blk1 (c : Dev nD) (t : Fin cfg0.N) (a : Fin 3) (j : Fin 12288) :
    iblk m c 1 t (ix2 a j) = (show FVec Ideal S4x3x12288 .f32 from m ((c : Thread nD τ).loc main_arg2)) (ix3 0 a j) := by
  blk_simp [iblk]
  entry_read
  pointwise []
  have e0 : ((View.whole main_v3).slice (win0_1.rect t)).emb (ix2 a j) 0 = a := Fin.ext (by blk_simp [index1 t])
  have e1 : ((View.whole main_v3).slice (win0_1.rect t)).emb (ix2 a j) 1 = j := Fin.ext (by blk_simp [index1 t])
  simp only [e0, e1]

theorem blk2 (c : Dev nD) (t : Fin cfg0.N) (j : Fin 2048) :
    iblk m c 2 t (ix2 0 j) = (show FVec Ideal S4x2048 .f32 from m ((c : Thread nD τ).loc main_arg3)) (ix2 0 j) := by
  blk_simp [iblk]
  entry_read
  pointwise []
  have e1 : ((View.whole main_v6).slice (win0_2.rect t)).emb (ix2 0 j) 1 = j := Fin.ext (by blk_simp [index2 t])
  simp only [e1]

theorem blk3 (c : Dev nD) (t : Fin cfg0.N) (j : Fin 2048) (n : Fin 512) (q : Fin 10112)
    (hq : q.val = (wcol ⟨t.val % 20 * 512, by omega⟩).val + n.val) :
    iblk m c 3 t (ix3 0 j n) = (show FVec Ideal S4x2048x10112 .f32 from m ((c : Thread nD τ).loc main_arg4)) (ix3 0 j q) := by
  blk_simp [iblk]
  rw [V_main_arg4]
  refine congrArg (m (c.tc.loc main_arg4)) (funext fun d => Fin.ext ?_)
  refine (Pipeline.Window.rect_emb_val_off win0_3 t (ix3 0 j n) d).trans ?_
  rw [index3 t]
  fin_cases d
  · rfl
  · exact Nat.zero_add _
  · exact hq.symm

/-- The kernel's result over the five arguments: row `r` is the stream's row, normalised by its root mean square with the
    layer's gain, scaled and shifted by its owner's modulation (the third one for a context row, the batch entry's for a
    latent row), times the weight's columns in the result's order. -/
def proj (x : FVec Ideal S2x8192x2048 .f32) (ctx : FVec Ideal S2x256x2048 .f32) (mods : FVec Ideal S4x3x12288 .f32)
    (g : FVec Ideal S4x2048 .f32) (w : FVec Ideal S4x2048x10112 .f32) : FVec Ideal S16896x10240 .f32 := fun y =>
  ∑ j : Fin 2048, modulated (fun k => stream x ctx (y 0) k) (fun k => g (ix2 0 k))
    (fun k => mods (ix3 0 (owner (y 0)) ⟨2048 + k.val, by omega⟩)) (fun k => mods (ix3 0 (owner (y 0)) ⟨k.val, by omega⟩)) j
      * w (ix3 0 j (wcol (y 1)))

/-- What a point leaves in the output block is the block of `proj` it stands on. -/
theorem out_proj (c : Dev nD) (t : Fin cfg0.N) (a : Fin 1056) (n : Fin 512) (y : S16896x10240.Idx)
    (h0 : (y 0).val = t.val / 20 * 1056 + a.val) (h1 : (y 1).val = t.val % 20 * 512 + n.val) :
    (outsAt0 m c t.val t.isLt).1 (ix2 a n)
      = proj (m (c.tc.loc main_arg0)) (m (c.tc.loc main_arg1)) (m (c.tc.loc main_arg2)) (m (c.tc.loc main_arg3))
          (m (c.tc.loc main_arg4)) y := by
  rw [out_eq, pay2_at]
  refine Finset.sum_congr rfl fun j _ => ?_
  have hq : (wcol (y 1)).val = (wcol ⟨t.val % 20 * 512, by omega⟩).val + n.val :=
    (congrArg (fun q => (wcol q).val) (Fin.ext h1)).trans (wcol_tile ⟨t.val % 20, by omega⟩ n)
  rw [scratch_eq, blk3 m c t j n _ hq]
  refine congrArg (· * _) ?_
  have ht : t.val < 320 := t.isLt
  have hi : (grid0.coords ⟨20 * (t.val / 20), Pipeline.run_start_lt t⟩ 0).val = t.val / 20 :=
    by
      rw [Pipeline.Grid.coords_val ⟨20 * (t.val / 20), Pipeline.run_start_lt t⟩ 0 (S := 20) (B := 16) (by decide) rfl]
      show 20 * (t.val / 20) / 20 % 16 = _
      omega
  have hs : 20 * (t.val / 20) / 20 = t.val / 20 := by omega
  have ho : mrow (grid0.coords ⟨20 * (t.val / 20), Pipeline.run_start_lt t⟩ 0) a.val = owner (y 0) :=
    mrow_owner _ a _ (h0.trans (congrArg (· * 1056 + a.val) hi.symm))
  show modulated (fun k => iblk m c 0 _ (ix2 a k)) (fun k => iblk m c 2 _ (ix2 0 k))
      (fun k => iblk m c 1 _ (ix2 (mrow _ a.val) ⟨2048 + k.val, _⟩)) (fun k => iblk m c 1 _ (ix2 (mrow _ a.val) ⟨k.val, _⟩)) j = _
  rw [ho]
  simp only [blk1, blk2]
  refine congrArg (fun f => modulated f _ _ _ j) (funext fun k => ?_)
  exact blk0 m c _ a k (y 0) (by rw [h0]; show _ = 20 * (t.val / 20) / 20 * 1056 + a.val; rw [hs])

/-- The output array after the run. -/
theorem final (c : Dev nD) :
    (dats m 0 c).arrAt 4 cfg0.N
      = proj (m (c.tc.loc main_arg0)) (m (c.tc.loc main_arg1)) (m (c.tc.loc main_arg2)) (m (c.tc.loc main_arg3))
          (m (c.tc.loc main_arg4)) := by
  refine (dats m 0 c).arrAt_eq_of_covers 4 _ (Pipeline.Window.covers_of_index_surj _ rfl (by decide) fun β => ?_)
    fun t hf y => ?_
  · have hb0 : (β 0).val < 16 := (β 0).isLt
    have hb1 : (β 1).val < 20 := (β 1).isLt
    refine ⟨⟨20 * (β 0).val + (β 1).val, by show _ < 320; omega⟩, fun a => ?_⟩
    refine (congrFun (index4 _) a).trans ?_
    match a with
    | ⟨0, _⟩ => show (20 * (β 0).val + (β 1).val) / 20 = (β 0).val; omega
    | ⟨1, _⟩ => show (20 * (β 0).val + (β 1).val) % 20 = (β 1).val; omega
  · blk_simp
    rw [after0_4]
    refine Eq.trans ?_ (out_proj m c t (y 0) (y 1) _ (by blk_simp [index4 t]) (by blk_simp [index4 t]))
    exact congrArg _ (ix2_eta y).symm

/-- The run: every device's result is `proj` of its arguments, and the arguments are unchanged. -/
theorem run : θ_run defs (onTc (τ := τ) (main (F := Ideal))) ⟨m, fun _ => 0, ρ⟩ fun r => ∀ c : Dev nD,
      r.2.mem ((c.tc : Thread nD τ).loc main_v7)
        = proj (m (c.tc.loc main_arg0)) (m (c.tc.loc main_arg1)) (m (c.tc.loc main_arg2)) (m (c.tc.loc main_arg3))
            (m (c.tc.loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun r h c => ⟨((h c).1 4).trans (final m c),
    ((h c).2 main_arg0 (Pipeline.mem_restRefs_of main_arg0 (by decide) (by decide))).trans (V_main_arg0 m c),
    ((h c).2 main_arg1 (Pipeline.mem_restRefs_of main_arg1 (by decide) (by decide))).trans (V_main_arg1 m c),
    ((h c).2 main_arg2 (Pipeline.mem_restRefs_of main_arg2 (by decide) (by decide))).trans (V_main_arg2 m c),
    ((h c).2 main_arg3 (Pipeline.mem_restRefs_of main_arg3 (by decide) (by decide))).trans (V_main_arg3 m c),
    ((h c).1 3).trans (((dats m 0 c).arrAt_in 3 rfl _).trans ((A_eq m c 3).trans (V_main_arg4 m c)))⟩) (run_main m ρ)

end Cert.KernelIdeal.Proj

end
-- ==== Proof.ProjRef.lean ====
/-
  The plain projection's result, entry by entry: the same function of the arguments as the kernel's array.
-/
module

public import proofs.«01_k».proof.Proof.ProjArray
public import proofs.«01_k».proof.Proof.Gen.ReferenceIdeal.Run
public import Idealize.ShloMosaic.Lib.Tactic.ValueTie

@[expose] public section

set_option maxRecDepth 16384

noncomputable section

namespace Cert.ReferenceIdeal.Proj

open Cert.ReferenceIdeal Cert.ReferenceIdeal.Value Idealize.ShloMosaic Idealize.ShloMosaic.TcCoe Idealize.SL.Sem

/-- The plain program's result is `proj` of its arguments. -/
theorem result (m : (ℓ : Loc nD τ sig) → Buf (Elt Ideal) ℓ) (c : Dev nD) :
    res_out0 m c = Cert.KernelIdeal.Proj.proj (m (c.tc.loc main_arg0)) (m (c.tc.loc main_arg1)) (m (c.tc.loc main_arg2))
      (m (c.tc.loc main_arg3)) (m (c.tc.loc main_arg4)) := by
  funext y
  unfold res_out0 res_main_v69
  generalize (m (c.tc.loc main_arg0)) = x
  generalize (m (c.tc.loc main_arg1)) = ctx
  generalize (m (c.tc.loc main_arg2)) = mods
  generalize (m (c.tc.loc main_arg3)) = g
  generalize (m (c.tc.loc main_arg4)) = w
  clean_types
  generalize hP : concatenate S2x8448x10112 1 _ _ = P
  idx_vars y
  pointwise [Cert.KernelIdeal.Proj.proj]
  refine Eq.trans (b := P (ix3 ⟨y0.val / 8448, by omega⟩ ⟨y0.val % 8448, by omega⟩ (Cert.KernelIdeal.Proj.wcol y1))) ?_ ?_
  · clear hP
    split_ifs <;> refine congrArg (fun q => P (ix3 _ _ q)) (Fin.ext ?_) <;> rw [Cert.KernelIdeal.Proj.wcol_val] <;>
      dsimp only <;> split_ifs <;> omega
  · generalize Cert.KernelIdeal.Proj.wcol y1 = q
    rw [← hP]
    clear hP
    pointwise [Cert.KernelIdeal.Proj.modulated, Cert.KernelIdeal.Proj.stream, Cert.KernelIdeal.Proj.owner]
    by_cases h : y0.val % 8448 < 256
    · simp only [h, ↓reduceDIte, ↓reduceIte]
    · simp only [h, ↓reduceDIte, ↓reduceIte]

end Cert.ReferenceIdeal.Proj

end
-- ==== Proof.MergeArray.lean ====
/-
  The array that the merge of the three branches leaves, entry by entry over the program's arguments.
-/
module

public import proofs.«01_k».proof.Proof.Gen.Kernel2Ideal.Frame
public import Idealize.ShloMosaic.Lib.Pipeline.ValueKit
public import Idealize.ShloMosaic.Lib.Pipeline.Covers
public import Idealize.ShloMosaic.Lib.Pointwise
public import Idealize.ShloMosaic.Lib.Claim

@[expose] public section

set_option maxRecDepth 16384

noncomputable section

namespace Cert.Kernel2Ideal.Merge

open Cert.Kernel2Ideal Cert.Kernel2Ideal.Gen Idealize.ShloMosaic Idealize.ShloMosaic.TcCoe Idealize.SL.Sem
open Idealize.ShloMosaic.Pipeline (Dat)

/-- The logistic function of a gate. -/
def logistic (x : EReal) : EReal := Ideal.div 1 (1 + Ideal.exp (-x))

/-- One row's merged feature: the three branches' projections, each under its gate. -/
def mix (yr ys : Fin 512 → EReal) (ya : Fin 1024 → EReal) (g0 g1 g2 : EReal) (wr ws : Fin 512 → EReal)
    (wa : Fin 1024 → EReal) : EReal :=
  logistic g0 * (∑ j, yr j * wr j) + logistic g1 * (∑ j, ys j * ws j) + logistic g2 * (∑ j, ya j * wa j)

/-- A point's block entry. -/
theorem pay_at (x0 : Vec Ideal S1056x512 .bf16) (x1 : Vec Ideal S1056x512 .bf16) (x2 : Vec Ideal S1056x1024 .bf16)
    (x3 x4 x5 : Vec Ideal S1056x512 .f32) (x6 x7 : Vec Ideal S512x512 .bf16) (x8 : Vec Ideal S1024x512 .bf16)
    (a : Fin 1056) (n : Fin 512) :
    k0_pay1 (k0_pay2 x3 x0 x6 x4 x1 x7) (k0_pay3 x5) (Scalar.ofBits .f32 0x3F800000#32) x2 x8 (ix2 a n)
      = mix (fun j => x0 (ix2 a j)) (fun j => x1 (ix2 a j)) (fun j => x2 (ix2 a j)) (x3 (ix2 a n)) (x4 (ix2 a n))
          (x5 (ix2 a n)) (fun j => x6 (ix2 j n)) (fun j => x7 (ix2 j n)) (fun j => x8 (ix2 j n)) := by
  pointwise [k0_pay1, k0_pay2, k0_pay3, mix, logistic]
  simp only [zero_sub]

/-- What the body leaves in its output block, entry by entry. -/
theorem out_at (x0 : Vec Ideal S1056x512 .bf16) (x1 : Vec Ideal S1056x512 .bf16) (x2 : Vec Ideal S1056x1024 .bf16)
    (x3 x4 x5 : Vec Ideal S1056x512 .f32) (x6 x7 : Vec Ideal S512x512 .bf16) (x8 : Vec Ideal S1024x512 .bf16)
    (a : Fin 1056) (n : Fin 512) :
    out0_9 x0 x1 x2 x3 x4 x5 x6 x7 x8 (ix2 a n)
      = mix (fun j => x0 (ix2 a j)) (fun j => x1 (ix2 a j)) (fun j => x2 (ix2 a j)) (x3 (ix2 a n)) (x4 (ix2 a n))
          (x5 (ix2 a n)) (fun j => x6 (ix2 j n)) (fun j => x7 (ix2 j n)) (fun j => x8 (ix2 j n)) := by
  frame_out
  exact pay_at _ _ _ _ _ _ _ _ _ a n

variable (m : (ℓ : Loc nD τ sig) → Buf (Elt Ideal) ℓ) (ρ : Dev nD → PrngReg)

theorem index0 : ∀ t : Fin cfg0.N, win0_0.index t = ![t.val / 4, 0] := (by decide +kernel : ∀ t : Fin grid0.N, _)
theorem index1 : ∀ t : Fin cfg0.N, win0_1.index t = ![t.val / 4, 0] := (by decide +kernel : ∀ t : Fin grid0.N, _)
theorem index2 : ∀ t : Fin cfg0.N, win0_2.index t = ![t.val / 4, 0] := (by decide +kernel : ∀ t : Fin grid0.N, _)
theorem index3 : ∀ t : Fin cfg0.N, win0_3.index t = ![t.val / 4, 8 + t.val % 4] := (by decide +kernel : ∀ t : Fin grid0.N, _)
theorem index4 : ∀ t : Fin cfg0.N, win0_4.index t = ![t.val / 4, 12 + t.val % 4] := (by decide +kernel : ∀ t : Fin grid0.N, _)
theorem index5 : ∀ t : Fin cfg0.N, win0_5.index t = ![t.val / 4, 16 + t.val % 4] := (by decide +kernel : ∀ t : Fin grid0.N, _)
theorem index6 : ∀ t : Fin cfg0.N, win0_6.index t = ![0, t.val % 4] := (by decide +kernel : ∀ t : Fin grid0.N, _)
theorem index7 : ∀ t : Fin cfg0.N, win0_7.index t = ![1, t.val % 4] := (by decide +kernel : ∀ t : Fin grid0.N, _)
theorem index8 : ∀ t : Fin cfg0.N, win0_8.index t = ![1, t.val % 4] := (by decide +kernel : ∀ t : Fin grid0.N, _)
theorem index9 : ∀ t : Fin cfg0.N, win0_9.index t = ![t.val / 4, t.val % 4] := (by decide +kernel : ∀ t : Fin grid0.N, _)

/-- The merged array: row `r` is the sum of the recurrent, the state-space and the attention branch's rows, each
    projected by its part of the weight and gated by its part of the projection's row. -/
def merged (yr ys : FVec Ideal S16896x512 .bf16) (ya : FVec Ideal S16896x1024 .bf16) (p : FVec Ideal S16896x10240 .f32)
    (w : FVec Ideal S4x2048x2048 .f32) (y : S16896x2048.Idx) : EReal :=
  mix (fun j => yr (ix2 (y 0) j)) (fun j => ys (ix2 (y 0) j)) (fun j => ya (ix2 (y 0) j))
    (p (ix2 (y 0) ⟨4096 + (y 1).val, by have := (y 1).isLt; change _ < 2048 at this; omega⟩))
    (p (ix2 (y 0) ⟨6144 + (y 1).val, by have := (y 1).isLt; change _ < 2048 at this; omega⟩))
    (p (ix2 (y 0) ⟨8192 + (y 1).val, by have := (y 1).isLt; change _ < 2048 at this; omega⟩))
    (fun j => w (ix3 0 ⟨j.val, by omega⟩ (y 1))) (fun j => w (ix3 0 ⟨512 + j.val, by omega⟩ (y 1)))
    (fun j => w (ix3 0 ⟨1024 + j.val, by omega⟩ (y 1)))

section Blocks

variable (c : Dev nD) (t : Fin cfg0.N) (a : Fin 1056) (n : Fin 512) (r : Fin 16896) (k : Fin 2048)
  (hr : r.val = t.val / 4 * 1056 + a.val) (hk : k.val = t.val % 4 * 512 + n.val)

include hr in
theorem blk0 (j : Fin 512) : iblk0 (V1 m ρ) c 0 t (ix2 a j) = m (c.tc.loc main_arg0) (ix2 r j) := by
  blk_simp [iblk0]
  refine (congrFun (W1_args m ρ c main_arg0 (by decide)) _).trans ?_
  refine congrArg (m (c.tc.loc main_arg0)) (funext fun d => Fin.ext ?_)
  match d with
  | ⟨0, _⟩ => blk_simp [index0 t]; exact hr.symm
  | ⟨1, _⟩ => blk_simp [index0 t]

include hr in
theorem blk1 (j : Fin 512) : iblk0 (V1 m ρ) c 1 t (ix2 a j) = m (c.tc.loc main_arg1) (ix2 r j) := by
  blk_simp [iblk0]
  refine (congrFun (W1_args m ρ c main_arg1 (by decide)) _).trans ?_
  refine congrArg (m (c.tc.loc main_arg1)) (funext fun d => Fin.ext ?_)
  match d with
  | ⟨0, _⟩ => blk_simp [index1 t]; exact hr.symm
  | ⟨1, _⟩ => blk_simp [index1 t]

include hr in
theorem blk2 (j : Fin 1024) : iblk0 (V1 m ρ) c 2 t (ix2 a j) = m (c.tc.loc main_arg2) (ix2 r j) := by
  blk_simp [iblk0]
  refine (congrFun (W1_args m ρ c main_arg2 (by decide)) _).trans ?_
  refine congrArg (m (c.tc.loc main_arg2)) (funext fun d => Fin.ext ?_)
  match d with
  | ⟨0, _⟩ => blk_simp [index2 t]; exact hr.symm
  | ⟨1, _⟩ => blk_simp [index2 t]

include hr hk in
theorem blk3 : iblk0 (V1 m ρ) c 3 t (ix2 a n) = m (c.tc.loc main_arg3) (ix2 r (⟨4096 + k.val, by omega⟩ : Fin 10240)) := by
  blk_simp [iblk0]
  refine (congrFun (W1_args m ρ c main_arg3 (by decide)) _).trans ?_
  refine congrArg (m (c.tc.loc main_arg3)) (funext fun d => Fin.ext ?_)
  match d with
  | ⟨0, _⟩ => blk_simp [index3 t]; exact hr.symm
  | ⟨1, _⟩ => blk_simp [index3 t]; show (8 + t.val % 4) * 512 + n.val = 4096 + k.val; omega

include hr hk in
theorem blk4 : iblk0 (V1 m ρ) c 4 t (ix2 a n) = m (c.tc.loc main_arg3) (ix2 r (⟨6144 + k.val, by omega⟩ : Fin 10240)) := by
  blk_simp [iblk0]
  refine (congrFun (W1_args m ρ c main_arg3 (by decide)) _).trans ?_
  refine congrArg (m (c.tc.loc main_arg3)) (funext fun d => Fin.ext ?_)
  match d with
  | ⟨0, _⟩ => blk_simp [index4 t]; exact hr.symm
  | ⟨1, _⟩ => blk_simp [index4 t]; show (12 + t.val % 4) * 512 + n.val = 6144 + k.val; omega

include hr hk in
theorem blk5 : iblk0 (V1 m ρ) c 5 t (ix2 a n) = m (c.tc.loc main_arg3) (ix2 r (⟨8192 + k.val, by omega⟩ : Fin 10240)) := by
  blk_simp [iblk0]
  refine (congrFun (W1_args m ρ c main_arg3 (by decide)) _).trans ?_
  refine congrArg (m (c.tc.loc main_arg3)) (funext fun d => Fin.ext ?_)
  match d with
  | ⟨0, _⟩ => blk_simp [index5 t]; exact hr.symm
  | ⟨1, _⟩ => blk_simp [index5 t]; show (16 + t.val % 4) * 512 + n.val = 8192 + k.val; omega

include hk in
theorem blk6 (j : Fin 512) : iblk0 (V1 m ρ) c 6 t (ix2 j n)
    = m (c.tc.loc main_arg4) (ix3 (0 : Fin 4) (⟨j.val, by omega⟩ : Fin 2048) k) := by
  blk_simp [iblk0]
  dsimp only [V1, W1]
  entry_read
  pointwise []
  have e0 : ((View.whole main_v2).slice (win0_6.rect t)).emb (ix2 j n) 0 = (⟨j.val, by omega⟩ : Fin 2048) :=
    Fin.ext (by blk_simp [index6 t])
  have e1 : ((View.whole main_v2).slice (win0_6.rect t)).emb (ix2 j n) 1 = k := Fin.ext (by blk_simp [index6 t]; omega)
  simp only [e0, e1]

include hk in
theorem blk7 (j : Fin 512) : iblk0 (V1 m ρ) c 7 t (ix2 j n)
    = m (c.tc.loc main_arg4) (ix3 (0 : Fin 4) (⟨512 + j.val, by omega⟩ : Fin 2048) k) := by
  blk_simp [iblk0]
  dsimp only [V1, W1]
  entry_read
  pointwise []
  have e0 : ((View.whole main_v2).slice (win0_7.rect t)).emb (ix2 j n) 0 = (⟨512 + j.val, by omega⟩ : Fin 2048) :=
    Fin.ext (by blk_simp [index7 t])
  have e1 : ((View.whole main_v2).slice (win0_7.rect t)).emb (ix2 j n) 1 = k := Fin.ext (by blk_simp [index7 t]; omega)
  simp only [e0, e1]

include hk in
theorem blk8 (j : Fin 1024) : iblk0 (V1 m ρ) c 8 t (ix2 j n)
    = m (c.tc.loc main_arg4) (ix3 (0 : Fin 4) (⟨1024 + j.val, by omega⟩ : Fin 2048) k) := by
  blk_simp [iblk0]
  dsimp only [V1, W1]
  entry_read
  pointwise []
  have e0 : ((View.whole main_v2).slice (win0_8.rect t)).emb (ix2 j n) 0 = (⟨1024 + j.val, by omega⟩ : Fin 2048) :=
    Fin.ext (by blk_simp [index8 t])
  have e1 : ((View.whole main_v2).slice (win0_8.rect t)).emb (ix2 j n) 1 = k := Fin.ext (by blk_simp [index8 t]; omega)
  simp only [e0, e1]

end Blocks

/-- What a point leaves in the output block is the block of `merged` it stands on. -/
theorem out_merged (c : Dev nD) (t : Fin cfg0.N) (a : Fin 1056) (n : Fin 512) (y : S16896x2048.Idx)
    (h0 : (y 0).val = t.val / 4 * 1056 + a.val) (h1 : (y 1).val = t.val % 4 * 512 + n.val) :
    (dat0 (V1 m ρ) c).after 9 t (ix2 a n)
      = merged (m (c.tc.loc main_arg0)) (m (c.tc.loc main_arg1)) (m (c.tc.loc main_arg2)) (m (c.tc.loc main_arg3))
          (m (c.tc.loc main_arg4)) y := by
  rw [after0_9]
  refine (out_at _ _ _ _ _ _ _ _ _ a n).trans ?_
  rw [blk3 m ρ c t a n (y 0) (y 1) h0 h1, blk4 m ρ c t a n (y 0) (y 1) h0 h1, blk5 m ρ c t a n (y 0) (y 1) h0 h1]
  simp only [blk0 m ρ c t a (y 0) h0, blk1 m ρ c t a (y 0) h0, blk2 m ρ c t a (y 0) h0, blk6 m ρ c t a n (y 0) (y 1) h1,
    blk7 m ρ c t a n (y 0) (y 1) h1, blk8 m ρ c t a n (y 0) (y 1) h1]
  rfl

/-- The merged array after the first region. -/
theorem final (c : Dev nD) :
    (dat0 (V1 m ρ) c).arrAt 9 cfg0.N
      = merged (m (c.tc.loc main_arg0)) (m (c.tc.loc main_arg1)) (m (c.tc.loc main_arg2)) (m (c.tc.loc main_arg3))
          (m (c.tc.loc main_arg4)) := by
  refine (dat0 (V1 m ρ) c).arrAt_eq_of_covers 9 _ (Pipeline.Window.covers_of_index_surj _ rfl (by decide) fun β => ?_)
    fun t hf y => ?_
  · have hb0 : (β 0).val < 16 := (β 0).isLt
    have hb1 : (β 1).val < 4 := (β 1).isLt
    refine ⟨⟨4 * (β 0).val + (β 1).val, by show _ < 64; omega⟩, fun a => ?_⟩
    refine (congrFun (index9 _) a).trans ?_
    match a with
    | ⟨0, _⟩ => show (4 * (β 0).val + (β 1).val) / 4 = (β 0).val; omega
    | ⟨1, _⟩ => show (4 * (β 0).val + (β 1).val) % 4 = (β 1).val; omega
  · blk_simp
    refine Eq.trans ?_ (out_merged m ρ c t (y 0) (y 1) _ (by blk_simp [index9 t]) (by blk_simp [index9 t]))
    exact congrArg _ (ix2_eta y).symm

end Cert.Kernel2Ideal.Merge

end
-- ==== Proof.OutArray.lean ====
/-
  The array that the output projection leaves on the merged one, entry by entry over the program's arguments, and the run
  of the two calls one after the other.
-/
module

public import proofs.«01_k».proof.Proof.MergeArray
public import proofs.«01_k».proof.Proof.ProjArray

@[expose] public section

set_option maxRecDepth 16384

noncomputable section

namespace Cert.Kernel2Ideal.Out

open Cert.Kernel2Ideal Cert.Kernel2Ideal.Gen Idealize.ShloMosaic Idealize.ShloMosaic.TcCoe Idealize.SL.Sem
open Idealize.ShloMosaic.Pipeline (Dat)
open Cert.Kernel2Ideal.Merge (merged)
open Cert.KernelIdeal.Proj (ctxBit select_ctx mrow owner mrow_owner)

theorem off_eq : ∀ i : grid1.Coords, k1_off1 i = ![(i 0).val / 8, 0] := by decide +kernel

/-- A load of one row of the modulation block. -/
theorem ld_gate (t : Vec Ideal S3x512 .f32) (off : Fin 2 → ℕ) (r : ℕ) (hr : r < 3) (inb) (e : off = ![r, 0]) (n : Fin 512) :
    View.ld t (Rect.unit (s := S3x512) off ![1, 512] inb) (ix2 0 n) = t (ix2 ⟨r, hr⟩ n) := by
  subst e
  refine View.ld_unit_apply_of _ _ _ _ _ _ fun a => ?_
  match a with
  | ⟨0, _⟩ => rfl
  | ⟨1, _⟩ => exact (Nat.zero_add _).symm

/-- A point's block entry: the stream's entry plus the selected gate times the product. -/
theorem pay_at (i : grid1.Coords) (gc gl : Vec Ideal S1x512 .f32) (x0 : Vec Ideal S1056x2048 .bf16)
    (x1 : Vec Ideal S2048x512 .bf16) (x2 : Vec Ideal S1056x512 .f32) (a : Fin 1056) (n : Fin 512) :
    k1_pay1 (k1_pay2 gc) (k1_pay3 gl) (k1_pay4 i) x2 x0 x1 (ix2 a n)
      = x2 (ix2 a n) + Scalar.select (ctxBit (BitVec.ofNat 32 (i 0).val) (BitVec.ofNat 32 a.val)) (gc (ix2 0 n)) (gl (ix2 0 n))
          * ∑ j : Fin 2048, x0 (ix2 a j) * x1 (ix2 j n) := by
  pointwise [k1_pay1, k1_pay2, k1_pay3, k1_pay4]
  rfl

section Body

variable (c : Dev nD) (i : grid1.Coords) (arg2 : Memref sig .tc .vmem S1056x2048 .bf16) (harg2 : arg2.IsWhole)
  (arg3 : Memref sig .tc .vmem S2048x512 .bf16) (harg3 : arg3.IsWhole) (arg4 : Memref sig .tc .vmem S1056x512 .f32)
  (harg4 : arg4.IsWhole) (arg5 : Memref sig .tc .vmem S3x512 .f32) (harg5 : arg5.IsWhole)
  (arg6 : Memref sig .tc .vmem S1056x512 .f32) (harg6 : arg6.IsWhole)
  (x0 : Vec Ideal S1056x2048 .bf16) (x1 : Vec Ideal S2048x512 .bf16) (x2 : Vec Ideal S1056x512 .f32) (x3 : Vec Ideal S3x512 .f32)

/-- What the body leaves in its output block, entry by entry. -/
theorem out_at (a : Fin 1056) (n : Fin 512) :
    out1_A_4 c i arg2 harg2 arg3 harg3 arg4 harg4 arg5 harg5 arg6 harg6 x0 x1 x2 x3 (ix2 a n)
      = x2 (ix2 a n) + x3 (ix2 (mrow (i 0) a.val) n) * ∑ j : Fin 2048, x0 (ix2 a j) * x1 (ix2 j n) := by
  frame_out
  have e := off_eq i
  have hi : (i 0).val < 16 := (i 0).isLt
  refine (pay_at i _ _ _ _ _ a n).trans ?_
  rw [ld_gate x3 _ 2 (by omega) _ rfl, ld_gate x3 _ _ (by omega) _ e]
  refine congrArg (fun g : EReal => x2 (ix2 a n) + g * ∑ j : Fin 2048, x0 (ix2 a j) * x1 (ix2 j n)) ?_
  exact select_ctx (i 0) a.val a.isLt fun r => x3 (ix2 r n)

end Body

variable (m : (ℓ : Loc nD τ sig) → Buf (Elt Ideal) ℓ) (ρ : Dev nD → PrngReg)

theorem index0 : ∀ t : Fin cfg1.N, win1_0.index t = ![t.val / 4, 0] := (by decide +kernel : ∀ t : Fin grid1.N, _)
theorem index1 : ∀ t : Fin cfg1.N, win1_1.index t = ![0, t.val % 4] := (by decide +kernel : ∀ t : Fin grid1.N, _)
theorem index2 : ∀ t : Fin cfg1.N, win1_2.index t = ![t.val / 4, t.val % 4] := (by decide +kernel : ∀ t : Fin grid1.N, _)
theorem index3 : ∀ t : Fin cfg1.N, win1_3.index t = ![0, 8 + t.val % 4] := (by decide +kernel : ∀ t : Fin grid1.N, _)
theorem index4 : ∀ t : Fin cfg1.N, win1_4.index t = ![t.val / 4, t.val % 4] := (by decide +kernel : ∀ t : Fin grid1.N, _)

/-- The result: the stream's row plus the row of the merged array times the weight, under the row's owner's gate. -/
def added (yr ys : FVec Ideal S16896x512 .bf16) (ya : FVec Ideal S16896x1024 .bf16) (p : FVec Ideal S16896x10240 .f32)
    (wb wo : FVec Ideal S4x2048x2048 .f32) (xa : FVec Ideal S16896x2048 .f32) (mods : FVec Ideal S4x3x12288 .f32)
    (y : S16896x2048.Idx) : EReal :=
  xa (ix2 (y 0) (y 1))
    + mods (ix3 0 (owner (y 0)) ⟨4096 + (y 1).val, by have := (y 1).isLt; change _ < 2048 at this; omega⟩)
      * ∑ j : Fin 2048, merged yr ys ya p wb (ix2 (y 0) j) * wo (ix3 0 j (y 1))

section Blocks

variable (c : Dev nD) (t : Fin cfg1.N)

theorem blk0 (a : Fin 1056) (r : Fin 16896) (hr : r.val = t.val / 4 * 1056 + a.val) (j : Fin 2048) :
    iblk1 (V3 m ρ) c 0 t (ix2 a j)
      = merged (m (c.tc.loc main_arg0)) (m (c.tc.loc main_arg1)) (m (c.tc.loc main_arg2)) (m (c.tc.loc main_arg3))
          (m (c.tc.loc main_arg4)) (ix2 r j) := by
  blk_simp [iblk1]
  refine (congrFun ((W3_of m ρ c main_v3 (by decide)).trans ((W2_arr m ρ c 9).trans (Merge.final m ρ c))) _).trans ?_
  refine congrArg (merged _ _ _ _ _) (funext fun d => Fin.ext ?_)
  match d with
  | ⟨0, _⟩ => blk_simp [index0 t]; exact hr.symm
  | ⟨1, _⟩ => blk_simp [index0 t]

theorem blk1 (n : Fin 512) (k : Fin 2048) (hk : k.val = t.val % 4 * 512 + n.val) (j : Fin 2048) :
    iblk1 (V3 m ρ) c 1 t (ix2 j n) = m (c.tc.loc main_arg5) (ix3 (0 : Fin 4) j k) := by
  blk_simp [iblk1]
  dsimp only [V3, W3]
  entry_read
  rw [W2_args m ρ c main_arg5 (by decide)]
  pointwise []
  have e0 : ((View.whole main_v6).slice (win1_1.rect t)).emb (ix2 j n) 0 = j := Fin.ext (by blk_simp [index1 t])
  have e1 : ((View.whole main_v6).slice (win1_1.rect t)).emb (ix2 j n) 1 = k := Fin.ext (by blk_simp [index1 t]; omega)
  simp only [e0, e1]

theorem blk2 (a : Fin 1056) (n : Fin 512) (r : Fin 16896) (k : Fin 2048) (hr : r.val = t.val / 4 * 1056 + a.val)
    (hk : k.val = t.val % 4 * 512 + n.val) :
    iblk1 (V3 m ρ) c 2 t (ix2 a n) = m (c.tc.loc main_arg6) (ix2 r k) := by
  blk_simp [iblk1]
  refine (congrFun (W3_args m ρ c main_arg6 (by decide)) _).trans ?_
  refine congrArg (m (c.tc.loc main_arg6)) (funext fun d => Fin.ext ?_)
  match d with
  | ⟨0, _⟩ => blk_simp [index2 t]; exact hr.symm
  | ⟨1, _⟩ => blk_simp [index2 t]; exact hk.symm

theorem blk3 (a : Fin 3) (n : Fin 512) (q : Fin 12288) (hq : q.val = 4096 + (t.val % 4 * 512 + n.val)) :
    iblk1 (V3 m ρ) c 3 t (ix2 a n) = m (c.tc.loc main_arg7) (ix3 (0 : Fin 4) a q) := by
  blk_simp [iblk1]
  dsimp only [V3, W3]
  entry_read
  rw [W2_args m ρ c main_arg7 (by decide)]
  pointwise []
  have e0 : ((View.whole main_v8).slice (win1_3.rect t)).emb (ix2 a n) 0 = a := Fin.ext (by blk_simp [index3 t])
  have e1 : ((View.whole main_v8).slice (win1_3.rect t)).emb (ix2 a n) 1 = q := Fin.ext (by blk_simp [index3 t]; omega)
  simp only [e0, e1]

end Blocks

/-- What a point leaves in the output block is the block of `added` it stands on. -/
theorem out_added (c : Dev nD) (t : Fin cfg1.N) (a : Fin 1056) (n : Fin 512) (y : S16896x2048.Idx)
    (h0 : (y 0).val = t.val / 4 * 1056 + a.val) (h1 : (y 1).val = t.val % 4 * 512 + n.val) :
    (dat1 (V3 m ρ) c).after 4 t (ix2 a n)
      = added (m (c.tc.loc main_arg0)) (m (c.tc.loc main_arg1)) (m (c.tc.loc main_arg2)) (m (c.tc.loc main_arg3))
          (m (c.tc.loc main_arg4)) (m (c.tc.loc main_arg5)) (m (c.tc.loc main_arg6)) (m (c.tc.loc main_arg7)) y := by
  have ht : t.val < 64 := t.isLt
  have hi : (grid1.coords t 0).val = t.val / 4 := by
    rw [Pipeline.Grid.coords_val t 0 (S := 4) (B := 16) (by decide) rfl]
    omega
  rw [after1_4]
  unfold outsAt1
  refine (out_at c _ _ _ _ _ _ _ _ _ _ _ _ _ _ _ a n).trans ?_
  rw [mrow_owner _ a (y 0) (h0.trans (congrArg (· * 1056 + a.val) hi.symm)), blk2 m ρ c t a n (y 0) (y 1) h0 h1,
    blk3 m ρ c t _ n ⟨4096 + (y 1).val, by have := (y 1).isLt; change _ < 2048 at this; omega⟩ (congrArg (4096 + ·) h1)]
  simp only [blk0 m ρ c t a (y 0) h0, blk1 m ρ c t n (y 1) h1]
  rfl

/-- The result array after the second region. -/
theorem final (c : Dev nD) :
    (dat1 (V3 m ρ) c).arrAt 4 cfg1.N
      = added (m (c.tc.loc main_arg0)) (m (c.tc.loc main_arg1)) (m (c.tc.loc main_arg2)) (m (c.tc.loc main_arg3))
          (m (c.tc.loc main_arg4)) (m (c.tc.loc main_arg5)) (m (c.tc.loc main_arg6)) (m (c.tc.loc main_arg7)) := by
  refine (dat1 (V3 m ρ) c).arrAt_eq_of_covers 4 _ (Pipeline.Window.covers_of_index_surj _ rfl (by decide) fun β => ?_)
    fun t hf y => ?_
  · have hb0 : (β 0).val < 16 := (β 0).isLt
    have hb1 : (β 1).val < 4 := (β 1).isLt
    refine ⟨⟨4 * (β 0).val + (β 1).val, by show _ < 64; omega⟩, fun a => ?_⟩
    refine (congrFun (index4 _) a).trans ?_
    match a with
    | ⟨0, _⟩ => show (4 * (β 0).val + (β 1).val) / 4 = (β 0).val; omega
    | ⟨1, _⟩ => show (4 * (β 0).val + (β 1).val) % 4 = (β 1).val; omega
  · blk_simp
    refine Eq.trans ?_ (out_added m ρ c t (y 0) (y 1) _ (by blk_simp [index4 t]) (by blk_simp [index4 t]))
    exact congrArg _ (ix2_eta y).symm

end Cert.Kernel2Ideal.Out

end
-- ==== Proof.OutRun.lean ====
/-
  The run of the merge and the output projection: what the result array holds at the end, and that the arguments stay.
-/
module

public import proofs.«01_k».proof.Proof.OutArray

@[expose] public section

set_option maxRecDepth 16384

noncomputable section

namespace Cert.Kernel2Ideal.Out

open Cert.Kernel2Ideal Cert.Kernel2Ideal.Gen Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

local notation "𝕄" => MT nD τ sig Unit (Elt Ideal) ℕ (UR sig nD τ) ℕ

variable (m : (ℓ : Loc nD τ sig) → Buf (Elt Ideal) ℓ) (ρ : Dev nD → PrngReg)

set_option backward.isDefEq.respectTransparency.types false in
/-- The run: every device's result is `added` of its arguments, and the arguments are unchanged. The two regions run one
    after the other, each from what the stretch of host operations before it leaves; at the end every buffer holds the last
    boundary's contents. -/
theorem run : θ_run defs (onTc (τ := τ) (main (F := Ideal))) ⟨m, fun _ => 0, ρ⟩ fun r => ∀ c : Dev nD,
      r.2.mem ((c.tc : Thread nD τ).loc main_v9)
        = added (m (c.tc.loc main_arg0)) (m (c.tc.loc main_arg1)) (m (c.tc.loc main_arg2)) (m (c.tc.loc main_arg3))
            (m (c.tc.loc main_arg4)) (m (c.tc.loc main_arg5)) (m (c.tc.loc main_arg6)) (m (c.tc.loc main_arg7))
        ∧ r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2)
        ∧ r.2.mem ((c.tc : Thread nD τ).loc main_arg3) = m ((c.tc : Thread nD τ).loc main_arg3)
        ∧ r.2.mem ((c.tc : Thread nD τ).loc main_arg4) = m ((c.tc : Thread nD τ).loc main_arg4)
        ∧ r.2.mem ((c.tc : Thread nD τ).loc main_arg5) = m ((c.tc : Thread nD τ).loc main_arg5)
        ∧ r.2.mem ((c.tc : Thread nD τ).loc main_arg6) = m ((c.tc : Thread nD τ).loc main_arg6)
        ∧ r.2.mem ((c.tc : Thread nD τ).loc main_arg7) = m ((c.tc : Thread nD τ).loc main_arg7) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h _ c =>
      ⟨((h c _ (mem_uc main_v9 (by decide))).trans (W4_arr m ρ c 4)).trans (final m ρ c),
        (h c _ (mem_uc main_arg0 (by decide))).trans (W4_main_arg0 m ρ c),
        (h c _ (mem_uc main_arg1 (by decide))).trans (W4_main_arg1 m ρ c),
        (h c _ (mem_uc main_arg2 (by decide))).trans (W4_main_arg2 m ρ c),
        (h c _ (mem_uc main_arg3 (by decide))).trans (W4_main_arg3 m ρ c),
        (h c _ (mem_uc main_arg4 (by decide))).trans (W4_main_arg4 m ρ c),
        (h c _ (mem_uc main_arg5 (by decide))).trans (W4_main_arg5 m ρ c),
        (h c _ (mem_uc main_arg6 (by decide))).trans (W4_main_arg6 m ρ c),
        (h c _ (mem_uc main_arg7 (by decide))).trans (W4_main_arg7 m ρ c)⟩)

end Cert.Kernel2Ideal.Out

end
-- ==== Proof.OutRef.lean ====
/-
  The plain merge and output projection's result, entry by entry: the same function of the arguments as the kernel's array.
-/
module

public import proofs.«01_k».proof.Proof.OutArray
public import proofs.«01_k».proof.Proof.Gen.Reference2Ideal.Run
public import Idealize.ShloMosaic.Lib.Tactic.ValueTie

@[expose] public section

set_option maxRecDepth 16384

noncomputable section

namespace Cert.Reference2Ideal.Out

open Cert.Reference2Ideal Cert.Reference2Ideal.Value Idealize.ShloMosaic Idealize.ShloMosaic.TcCoe Idealize.SL.Sem

/-- The plain program's result is `added` of its arguments. -/
theorem result (m : (ℓ : Loc nD τ sig) → Buf (Elt Ideal) ℓ) (c : Dev nD) :
    res_out0 m c = Cert.Kernel2Ideal.Out.added (m (c.tc.loc main_arg0)) (m (c.tc.loc main_arg1)) (m (c.tc.loc main_arg2))
      (m (c.tc.loc main_arg3)) (m (c.tc.loc main_arg4)) (m (c.tc.loc main_arg5)) (m (c.tc.loc main_arg6))
      (m (c.tc.loc main_arg7)) := by
  funext y
  unfold res_out0 res_main_v57
  generalize (m (c.tc.loc main_arg0)) = yr
  generalize (m (c.tc.loc main_arg1)) = ys
  generalize (m (c.tc.loc main_arg2)) = ya
  generalize (m (c.tc.loc main_arg3)) = p
  generalize (m (c.tc.loc main_arg4)) = wb
  generalize (m (c.tc.loc main_arg5)) = wo
  generalize (m (c.tc.loc main_arg6)) = xa
  generalize (m (c.tc.loc main_arg7)) = mods
  clean_types
  generalize hP : (addf (F := Ideal) (addf (mulf _ _) (mulf _ _)) (mulf _ _) : FVec Ideal S16896x2048 .f32) = P
  idx_vars y
  pointwise [Cert.Kernel2Ideal.Out.added, Cert.KernelIdeal.Proj.owner]
  have hm : ∀ j : Fin 2048, P (ix2 y0 j) = Cert.Kernel2Ideal.Merge.merged yr ys ya p wb (ix2 y0 j) := by
    intro j
    rw [← hP]
    pointwise [Cert.Kernel2Ideal.Merge.merged, Cert.Kernel2Ideal.Merge.mix, Cert.Kernel2Ideal.Merge.logistic]
    have e1 : (⟨4096 + (2048 + j.val), by omega⟩ : Fin 10240) = ⟨6144 + j.val, by omega⟩ := Fin.ext (by dsimp only; omega)
    have e2 : (⟨4096 + (4096 + j.val), by omega⟩ : Fin 10240) = ⟨8192 + j.val, by omega⟩ := Fin.ext (by dsimp only; omega)
    simp only [e1, e2]
  clear hP
  simp only [← hm]
  by_cases h : y0.val % 8448 < 256
  · simp only [h, ↓reduceDIte, ↓reduceIte]
  · have hy : (⟨y0.val / 8448 * 8448 + (256 + (y0.val % 8448 - 256)), by omega⟩ : Fin 16896) = y0 :=
      Fin.ext (by dsimp only; omega)
    simp only [h, hy, ↓reduceDIte, ↓reduceIte]

end Cert.Reference2Ideal.Out

end
-- ==== Proof.NormArray.lean ====
/-
  The final norm: the kernel's array and the plain program's result, both the same function of the arguments.
-/
module

public import proofs.«01_k».proof.Proof.Gen.Kernel3Ideal.Frame
public import proofs.«01_k».proof.Proof.Gen.Reference3Ideal.Run
public import Idealize.ShloMosaic.Lib.Pipeline.ValueKit
public import Idealize.ShloMosaic.Lib.Pipeline.Covers
public import Idealize.ShloMosaic.Lib.Pointwise
public import Idealize.ShloMosaic.Lib.Claim
public import Idealize.ShloMosaic.Lib.Tactic.ValueTie

@[expose] public section

set_option maxRecDepth 16384

noncomputable section

namespace Cert.Kernel3Ideal.Norm

open Cert.Kernel3Ideal Cert.Kernel3Ideal.Gen Idealize.ShloMosaic Idealize.ShloMosaic.TcCoe Idealize.SL.Sem
open Idealize.ShloMosaic.Pipeline (Dat)

/-- One feature of a row over the root of the row's mean square, times the gain. -/
def normed (x g : Fin 2048 → EReal) (k : Fin 2048) : EReal :=
  x k * Ideal.rsqrt (Ideal.div (∑ j, x j * x j) (Ideal.ofBits FTy.f32 0x45000000#32) + Ideal.ofBits FTy.f32 0x358637BD#32) * g k

/-- The result over the arguments: the latent rows of the stream, normed. -/
def result (xa : FVec Ideal S16896x2048 .f32) (g : FVec Ideal S2048 .f32) (y : S2x8192x2048.Idx) : EReal :=
  normed (fun k => xa (ix2 ⟨(y 0).val * 8448 + (256 + (y 1).val), by
    have h0 := (y 0).isLt; have h1 := (y 1).isLt; change _ < 2 at h0; change _ < 8192 at h1; omega⟩ k)) (fun k => g (ix1 k)) (y 2)

/-- A point's block, entry by entry. -/
theorem out_at (x0 : Vec Ideal S1x256x2048 .f32) (x1 : Vec Ideal S1x2048 .f32) (a : Fin 256) (n : Fin 2048) :
    out0_2 x0 x1 (ix3 0 a n) = normed (fun k => x0 (ix3 0 a k)) (fun k => x1 (ix2 0 k)) n := by
  frame_out
  pointwise [k0_pay1]
  rfl

variable (m : (ℓ : Loc nD τ sig) → Buf (Elt Ideal) ℓ) (ρ : Dev nD → PrngReg)

theorem index0 : ∀ t : Fin cfg0.N, win0_0.index t = ![t.val / 32, t.val % 32 + 1, 0] := (by decide +kernel : ∀ t : Fin grid0.N, _)
theorem index1 : ∀ t : Fin cfg0.N, win0_1.index t = ![0, 0] := (by decide +kernel : ∀ t : Fin grid0.N, _)
theorem index2 : ∀ t : Fin cfg0.N, win0_2.index t = ![t.val / 32, t.val % 32, 0] := (by decide +kernel : ∀ t : Fin grid0.N, _)

theorem blk0 (c : Dev nD) (t : Fin cfg0.N) (a : Fin 256) (k : Fin 2048) (r : Fin 16896)
    (hr : r.val = t.val / 32 * 8448 + (256 + (t.val % 32 * 256 + a.val))) :
    iblk m c 0 t (ix3 0 a k) = m (c.tc.loc main_arg0) (ix2 r k) := by
  blk_simp [iblk]
  entry_read
  pointwise []
  refine congrArg (m (c.tc.loc main_arg0)) (congrArg₂ ix2 (Fin.ext ?_) (Fin.ext ?_))
  · have e0 : (((View.whole main_v0).slice (win0_0.rect t)).emb (ix3 0 a k) 0).val = t.val / 32 := by
      blk_simp [index0 t]; exact Nat.add_zero _
    have e1 : (((View.whole main_v0).slice (win0_0.rect t)).emb (ix3 0 a k) 1).val = 256 + (t.val % 32 * 256 + a.val) := by
      blk_simp [index0 t]; omega
    dsimp only
    rw [e0, e1, hr]
  · blk_simp [index0 t]

theorem blk1 (c : Dev nD) (t : Fin cfg0.N) (k : Fin 2048) :
    iblk m c 1 t (ix2 0 k) = m (c.tc.loc main_arg1) (ix1 k) := by
  blk_simp [iblk]
  entry_read
  pointwise []
  refine congrArg (m (c.tc.loc main_arg1)) (congrArg ix1 (Fin.ext ?_))
  blk_simp [index1 t]

/-- What a point leaves in the output block is the block of `result` it stands on. -/
theorem out_result (c : Dev nD) (t : Fin cfg0.N) (z : Fin 1) (a : Fin 256) (n : Fin 2048) (y : S2x8192x2048.Idx)
    (h0 : (y 0).val = t.val / 32) (h1 : (y 1).val = t.val % 32 * 256 + a.val) (h2 : (y 2).val = n.val) :
    (dats m 0 c).after 2 t (ix3 z a n) = result (m (c.tc.loc main_arg0)) (m (c.tc.loc main_arg1)) y := by
  obtain rfl : z = 0 := Subsingleton.elim _ _
  rw [after0_2]
  refine (out_at _ _ a n).trans ?_
  simp only [blk1]
  obtain rfl : n = y 2 := Fin.ext h2.symm
  unfold result
  refine congrArg (fun f => normed f _ _) (funext fun k => ?_)
  exact blk0 m c t a k _ (congrArg₂ (fun p q => p * 8448 + (256 + q)) h0 h1)

/-- The output array after the run. -/
theorem final (c : Dev nD) :
    (dats m 0 c).arrAt 2 cfg0.N = result (m (c.tc.loc main_arg0)) (m (c.tc.loc main_arg1)) := by
  refine (dats m 0 c).arrAt_eq_of_covers 2 _ (Pipeline.Window.covers_of_index_surj _ rfl (by decide) fun β => ?_)
    fun t hf y => ?_
  · have hb0 : (β 0).val < 2 := (β 0).isLt
    have hb1 : (β 1).val < 32 := (β 1).isLt
    have hb2 : (β 2).val < 1 := (β 2).isLt
    refine ⟨⟨32 * (β 0).val + (β 1).val, by show _ < 64; omega⟩, fun a => ?_⟩
    refine (congrFun (index2 _) a).trans ?_
    match a with
    | ⟨0, _⟩ => show (32 * (β 0).val + (β 1).val) / 32 = (β 0).val; omega
    | ⟨1, _⟩ => show (32 * (β 0).val + (β 1).val) % 32 = (β 1).val; omega
    | ⟨2, _⟩ => show 0 = (β 2).val; omega
  · blk_simp
    refine Eq.trans ?_ (out_result m c t (y 0) (y 1) (y 2) _ (by blk_simp [index2 t]) (by blk_simp [index2 t])
      (by blk_simp [index2 t]))
    exact congrArg _ (ix3_eta y).symm

/-- The run: every device's result is `result` of its arguments, and the arguments are unchanged. -/
theorem run : θ_run defs (onTc (τ := τ) (main (F := Ideal))) ⟨m, fun _ => 0, ρ⟩ fun r => ∀ c : Dev nD,
      r.2.mem ((c.tc : Thread nD τ).loc main_v2) = result (m (c.tc.loc main_arg0)) (m (c.tc.loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun r h c => ⟨((h c).1 2).trans (final m c),
    ((h c).2 main_arg0 (Pipeline.mem_restRefs_of main_arg0 (by decide) (by decide))).trans (V_main_arg0 m c),
    ((h c).2 main_arg1 (Pipeline.mem_restRefs_of main_arg1 (by decide) (by decide))).trans (V_main_arg1 m c)⟩) (run_main m ρ)

end Cert.Kernel3Ideal.Norm

namespace Cert.Reference3Ideal.Norm

open Cert.Reference3Ideal Cert.Reference3Ideal.Value Idealize.ShloMosaic Idealize.ShloMosaic.TcCoe Idealize.SL.Sem

/-- The plain program's run: its result is the same function of its arguments, which are unchanged. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v14)
        = Cert.Kernel3Ideal.Norm.result (m (c.tc.loc main_arg0)) (m (c.tc.loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) := by
  refine (θ_run defs _ _).mono (fun r h c => ⟨(h c).1.trans ?_, (h c).2⟩) (Cert.Reference3Ideal.Value.run (F := Ideal) m ρ)
  funext y
  clear h
  generalize (m (c.tc.loc main_arg0)) = xa
  generalize (m (c.tc.loc main_arg1)) = g
  clean_types
  idx_vars y
  pointwise [Cert.Kernel3Ideal.Norm.result, Cert.Kernel3Ideal.Norm.normed]

end Cert.Reference3Ideal.Norm

end
-- ==== Proof.FlashPre.lean ====
/-
  The precondition of the attention's claim, read: every query and every key is a real number.
-/
module

public import proofs.«01_k».proof.Defs
public import Idealize.ShloMosaic.Lib.ReduceAll

@[expose] public section

noncomputable section

namespace Cert.Pre_finite_queries_and_keys

open Idealize.ShloMosaic

instance facts : Facts where
  bcast_S_S16896x1024 := by decide
  reducesTo_S16896x1024_S_d0_1 := by decide
  h_S_ := by decide
  bcast_S_S16896x256 := by decide
  reducesTo_S16896x256_S_d0_1 := by decide

/-- The word of infinity. -/
theorem inf_word : Ideal.ofBits .f32 0x7F800000#32 = (⊤ : EReal) := by simp [Ideal.ofBits, Ideal.ieee]

/-- What is less than infinity in size is a real number. -/
theorem real_of_lt {x : EReal} (h : max x (-x) < ⊤) : x = ((x.toReal : ℝ) : EReal) := by
  refine (EReal.coe_toReal ?_ ?_).symm
  · rintro rfl
    simp at h
  · rintro rfl
    simp at h

/-- One array's part of the test: all its entries are real. -/
theorem real_of_all {s : Shape} {axes : List (Fin s.rank)} (x : FVec Ideal s .f32) (hb : (⟨0, ![]⟩ : Shape).BroadcastsInDim s ![])
    (hr : s.ReducesTo axes ⟨0, ![]⟩) (hu : 0 < (⟨0, ![]⟩ : Shape).numel) (j : (⟨0, ![]⟩ : Shape).Idx)
    (e : Host.reduce IntOp.andi (cmpf .olt (Host.absf x) (broadcastInDim s ![] hb (constant ⟨0, ![]⟩ .f32 0x7F800000#32)))
      (constantI ⟨0, ![]⟩ 1 1#1) hr hu j = 1#1) (y : s.Idx) : x y = ((EReal.toReal (x y) : ℝ) : EReal) := by
  haveI : Subsingleton (⟨0, ![]⟩ : Shape).Idx := ⟨fun a b => funext fun d => d.elim0⟩
  have h1 := Host.reduce_andi_all _ _ hr hu j e y
  have h2 : BitVec.ofBool (decide (max (x y) (-(x y)) < Ideal.ofBits .f32 0x7F800000#32)) = 1#1 := h1
  rw [inf_word] at h2
  by_cases h : max (x y) (-(x y)) < ⊤
  · exact real_of_lt h
  · rw [decide_eq_false h] at h2
    exact absurd h2 (by decide)

/-- The whole test: queries and keys are real. -/
theorem real (q : FVec Ideal S16896x1024 .f32) (k v : FVec Ideal S16896x256 .f32) (h : fn (F := Ideal) q k v = fun _ => 1#1) :
    (∀ y, q y = ((EReal.toReal (q y) : ℝ) : EReal)) ∧ ∀ y, k y = ((EReal.toReal (k y) : ℝ) : EReal) := by
  have e := congrFun h (Shape.Idx.first Facts.h_S_)
  dsimp only [fn] at e
  obtain ⟨e1, e2⟩ := IntOp.andi_eq_one.1 e
  exact ⟨real_of_all q _ _ _ _ e1, real_of_all k _ _ _ _ e2⟩

end Cert.Pre_finite_queries_and_keys

end
-- ==== Proof.FlashBody.lean ====
/-
  What one grid point of the flash attention computes, over the extended reals.

  A point holds 1056 query rows of four heads that share one key head, and 768 keys with their values. Per head it takes
  the scores of its rows against the keys, raises the running maximum (`newMax`), and carries the running accumulator over
  to the new maximum before adding this tile's weighted values (`newAcc`). The accumulator has 256 columns: the 128 values
  and 128 columns of ones, which sum the weights. A context row's scores against keys past the context are `⊥`.
-/
module

public import proofs.«01_k».proof.Proof.Gen.Kernel4Ideal.Frame
public import Idealize.ShloMosaic.Lib.Pipeline.ValueKit
public import Idealize.ShloMosaic.Lib.Pipeline.ReadBack
public import Idealize.ShloMosaic.Lib.Pointwise

@[expose] public section

set_option maxRecDepth 16384

noncomputable section

namespace Cert.Kernel4Ideal.Flash

open Cert.Kernel4Ideal Cert.Kernel4Ideal.Gen Idealize.ShloMosaic Idealize.ShloMosaic.TcCoe Idealize.SL.Sem

/-- The score of query row `r` of head `g` against key `x` of the tile. -/
def score (q : Vec Ideal S1056x512 .bf16) (k : Vec Ideal S768x128 .bf16) (g : Fin 4) (r : Fin 1056) (x : Fin 768) : EReal :=
  ∑ d : Fin 128, q (ix2 r ⟨g.val * 128 + d.val, by omega⟩) * k (ix2 x d)

/-- The score with the mask: a context row sees no key past the context. -/
def mscore (qi ki : ℕ) (q : Vec Ideal S1056x512 .bf16) (k : Vec Ideal S768x128 .bf16) (g : Fin 4) (r : Fin 1056)
    (x : Fin 768) : EReal :=
  if qi * 1056 + r.val < 256 ∧ 256 ≤ ki * 768 + x.val then ⊥ else score q k g r x

/-- The values beside 128 columns of ones. -/
def vext (v : Vec Ideal S768x128 .bf16) (cc : Fin 256) (x : Fin 768) : EReal :=
  if h : cc.val < 128 then v (ix2 x ⟨cc.val, h⟩) else 1

/-- The running maximum after a tile of scores. -/
def newMax (s : Fin 768 → EReal) (M : EReal) : EReal := max M (Finset.univ.fold max ⊥ s)

/-- The running accumulator after a tile of scores and one column of its values. -/
def newAcc (s v : Fin 768 → EReal) (M A : EReal) : EReal :=
  Ideal.exp2 (M - newMax s M) * A + ∑ x, Ideal.exp2 (s x - newMax s M) * v x

theorem bot_word : Ideal.ofBits FTy.f32 4286578688#32 = (⊥ : EReal) := by
  simp [Ideal.ofBits, Ideal.ieee]

theorem mask_named : (Named.named (F := Ideal) κ "mask" 4048155338#32 : Ideal .f32) = (⊥ : EReal) := rfl

theorem score_0 (q : Vec Ideal S1056x512 .bf16) (k : Vec Ideal S768x128 .bf16) (r : Fin 1056) (x : Fin 768) :
    score q k 0 r x = ∑ d : Fin 128, q (ix2 r ⟨d.val, by omega⟩) * k (ix2 x d) :=
  Finset.sum_congr rfl fun d _ => congrArg (fun j => q (ix2 r j) * k (ix2 x d)) (Fin.ext (Nat.zero_add _))

theorem row_hidden : ∀ (a : Fin 8) (r : Fin 1056),
    IntOp.cmpi CmpIPredicate.slt (IntOp.addi (Scalar.muli (BitVec.ofNat 32 a.val) 1056#32) (BitVec.ofNat 32 r.val)) 256#32
      = BitVec.ofBool (decide (a.val * 1056 + r.val < 256)) := by
  decide +kernel

theorem key_hidden : ∀ (b : Fin 11) (x : Fin 768),
    IntOp.cmpi CmpIPredicate.sge (IntOp.addi (Scalar.muli (BitVec.ofNat 32 b.val) 768#32) (BitVec.ofNat 32 x.val)) 256#32
      = BitVec.ofBool (decide (256 ≤ b.val * 768 + x.val)) := by
  decide +kernel

/-- Selecting by the kernel's mask bit is `mscore`'s condition. -/
theorem select_hidden (a : Fin 8) (b : Fin 11) (r : Fin 1056) (x : Fin 768) (u w : EReal) :
    Scalar.select
      (IntOp.andi
        (IntOp.cmpi CmpIPredicate.slt (IntOp.addi (Scalar.muli (BitVec.ofNat 32 a.val) 1056#32) (BitVec.ofNat 32 r.val)) 256#32)
        (IntOp.cmpi CmpIPredicate.sge (IntOp.addi (Scalar.muli (BitVec.ofNat 32 b.val) 768#32) (BitVec.ofNat 32 x.val)) 256#32))
      u w = if a.val * 1056 + r.val < 256 ∧ 256 ≤ b.val * 768 + x.val then u else w := by
  rw [row_hidden, key_hidden]
  by_cases h : a.val * 1056 + r.val < 256 <;> by_cases h' : 256 ≤ b.val * 768 + x.val <;>
    simp [h, h', Scalar.select, IntOp.andi]

/-- The kernel's select between the mask and a score, at a grid point. -/
theorem mscore_of (i : grid0.Coords) (q : Vec Ideal S1056x512 .bf16) (k : Vec Ideal S768x128 .bf16) (g : Fin 4) (r : Fin 1056)
    (x : Fin 768) (u : EReal) (h : u = score q k g r x) :
    Scalar.select
      (IntOp.andi
        (IntOp.cmpi CmpIPredicate.slt (IntOp.addi (Scalar.muli (BitVec.ofNat 32 (i 2).val) 1056#32) (BitVec.ofNat 32 r.val)) 256#32)
        (IntOp.cmpi CmpIPredicate.sge (IntOp.addi (Scalar.muli (BitVec.ofNat 32 (i 3).val) 768#32) (BitVec.ofNat 32 x.val)) 256#32))
      (Named.named (F := Ideal) κ "mask" 4048155338#32 : Ideal .f32) u = mscore (i 2).val (i 3).val q k g r x := by
  subst h
  exact select_hidden (i 2) (i 3) r x _ _

/-- A maximum as the kernel takes it is `newMax`. -/
theorem newMax_of (s s' : Fin 768 → EReal) (M : EReal) (h : ∀ x, s' x = s x) :
    max M (Finset.fold max (Ideal.ofBits FTy.f32 4286578688#32) s' Finset.univ) = newMax s M := by
  rw [bot_word, funext h]
  rfl

/-- An accumulator as the kernel updates it is `newAcc`. -/
theorem newAcc_of (s s' v : Fin 768 → EReal) (M A : EReal) (h : ∀ x, s' x = s x) :
    FloatOps.exp2 (F := Ideal) (φ := .f32) (M - max M (Finset.fold max (Ideal.ofBits FTy.f32 4286578688#32) s' Finset.univ)) * A
      + ∑ x, FloatOps.exp2 (F := Ideal) (φ := .f32)
          (s' x - max M (Finset.fold max (Ideal.ofBits FTy.f32 4286578688#32) s' Finset.univ)) * v x = newAcc s v M A := by
  rw [newMax_of s s' M h, funext h]
  rfl

/-- Stores beneath others that cover an index do not show there. -/
theorem canon_append {s : Shape} {e : EltTy} (L L' : List (View.Piece (Elt Ideal) s e)) (y : s.Idx)
    (h : ∃ p ∈ L, y ∈ p.1.set) : View.canon (L ++ L') y = View.canon L y := by
  induction L with
  | nil => obtain ⟨p, hp, _⟩ := h; simp at hp
  | cons p L ih =>
    by_cases hy : y ∈ p.1.set
    · obtain ⟨x, rfl⟩ := p.1.exists_idx_of_mem hy
      exact (View.canon_cons_emb p.1 p.2 _ x).trans (View.canon_cons_emb p.1 p.2 _ x).symm
    · refine (View.canon_cons_of_not_mem p _ hy).trans (Eq.trans (ih ?_) (View.canon_cons_of_not_mem p _ hy).symm)
      obtain ⟨q, hq, hyq⟩ := h
      rcases List.mem_cons.mp hq with rfl | hq
      · exact absurd hyq hy
      · exact ⟨q, hq, hyq⟩

theorem later_rows : ∀ i : grid0.Coords, cond0_2 i → 1 ≤ (i 2).val := by decide +kernel

/-- Rows past the first block are never masked. -/
theorem mscore_of_later (i : grid0.Coords) (h : cond0_2 i) (ki : ℕ) (q : Vec Ideal S1056x512 .bf16)
    (k : Vec Ideal S768x128 .bf16) (g : Fin 4) (r : Fin 1056) : mscore (i 2).val ki q k g r = score q k g r := by
  have := later_rows i h
  funext x
  exact if_neg fun hh => by omega

end Cert.Kernel4Ideal.Flash

end
-- ==== Proof.FlashFirst.lean ====
/-
  The first key tile of a row block: the running maximum starts from `⊥` and the accumulator from zero.
  Case A is the row block that holds context rows, case D any other.
-/
module

public import proofs.«01_k».proof.Proof.FlashBody

@[expose] public section

set_option maxRecDepth 16384

noncomputable section

namespace Cert.Kernel4Ideal.Flash

open Cert.Kernel4Ideal Cert.Kernel4Ideal.Gen Idealize.ShloMosaic Idealize.ShloMosaic.TcCoe Idealize.SL.Sem

section Body

variable (c : Dev nD) (i : grid0.Coords) (arg4 : Memref sig .tc .vmem S1056x512 .bf16) (harg4 : arg4.IsWhole)
  (arg5 : Memref sig .tc .vmem S768x128 .bf16) (harg5 : arg5.IsWhole) (arg6 : Memref sig .tc .vmem S768x128 .bf16)
  (harg6 : arg6.IsWhole) (arg7 : Memref sig .tc .vmem S1056x512 .bf16) (harg7 : arg7.IsWhole)
  (arg8 : Memref sig .tc .vmem S4x1056x1 .f32) (harg8 : arg8.IsWhole) (arg9 : Memref sig .tc .vmem S4x1056x256 .f32)
  (harg9 : arg9.IsWhole) (arg10 : Memref sig .tc .vmem S2x1056x768 .f32) (harg10 : arg10.IsWhole)
  (arg11 : Memref sig .tc .vmem S2x1056x768 .bf16) (harg11 : arg11.IsWhole) (x0 : Vec Ideal S1056x512 .bf16)
  (x1 : Vec Ideal S768x128 .bf16) (x2 : Vec Ideal S768x128 .bf16) (xs0 : Vec Ideal S4x1056x1 .f32)
  (xs1 : Vec Ideal S4x1056x256 .f32)

theorem max_A (hc0 : cond0_0 i) (hc1 : cond0_1 i) (hc2 : ¬cond0_2 i) (hc3 : ¬cond0_3 i) (g : Fin 4) (r : Fin 1056) :
    sout0_A_0 c i arg4 harg4 arg5 harg5 arg6 harg6 arg7 harg7 arg8 harg8 arg9 harg9 arg10 harg10
      arg11 harg11 hc0 hc1 hc2 hc3 x0 x1 x2 (ix3 g r 0)
      = newMax (mscore (i 2).val (i 3).val x0 x1 g r) ⊥ := by
  frame_open
  simp (disch := decide) only [↓ View.readCov_skip, ↓ View.readCov_cons_toLoadRect, ↓ View.readCov_fill]
  frame_out
  refine (canon_append [_, _, _, _] [_] _ ?_).trans ?_
  · refine View.cover_of_tiledL (s := S4x1056x1) _ S1x1056x1.size ?_ _
    sl_kernel_rfl
  canon_tiles w h
  case piece0 =>
    idx_vars w
    pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33]
    obtain rfl : r = w1 := Fin.ext h1
    obtain rfl : g = 3 := Fin.ext (by omega)
    exact newMax_of _ _ _ fun x => mscore_of i x0 x1 3 r x _ rfl
  case piece1 =>
    idx_vars w
    pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33]
    obtain rfl : r = w1 := Fin.ext h1
    obtain rfl : g = 2 := Fin.ext (by omega)
    exact newMax_of _ _ _ fun x => mscore_of i x0 x1 2 r x _ rfl
  case piece2 =>
    idx_vars w
    pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33]
    obtain rfl : r = w1 := Fin.ext h1
    obtain rfl : g = 1 := Fin.ext (by omega)
    exact newMax_of _ _ _ fun x => mscore_of i x0 x1 1 r x _ rfl
  case piece3 =>
    idx_vars w
    pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33]
    obtain rfl : r = w1 := Fin.ext h1
    obtain rfl : g = 0 := Fin.ext (by omega)
    exact newMax_of _ _ _ fun x => mscore_of i x0 x1 0 r x _ (score_0 x0 x1 r x).symm

theorem acc_A (hc0 : cond0_0 i) (hc1 : cond0_1 i) (hc2 : ¬cond0_2 i) (hc3 : ¬cond0_3 i) (g : Fin 4) (r : Fin 1056) (cc : Fin 256) :
    sout0_A_1 c i arg4 harg4 arg5 harg5 arg6 harg6 arg7 harg7 arg8 harg8 arg9 harg9 arg10 harg10
      arg11 harg11 hc0 hc1 hc2 hc3 x0 x1 x2 (ix3 g r cc)
      = newAcc (mscore (i 2).val (i 3).val x0 x1 g r) (vext x2 cc) ⊥ 0 := by
  frame_open
  simp (disch := decide) only [↓ View.readCov_skip, ↓ View.readCov_cons_toLoadRect, ↓ View.readCov_fill]
  frame_out
  refine (canon_append [_, _, _, _] [_] _ ?_).trans ?_
  · refine View.cover_of_tiledL (s := S4x1056x256) _ S1x1056x256.size ?_ _
    sl_kernel_rfl
  canon_tiles w h
  case piece0 =>
    idx_vars w
    pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33]
    obtain rfl : r = w1 := Fin.ext h1
    obtain rfl : g = 3 := Fin.ext (by omega)
    obtain rfl : cc = w2 := Fin.ext h2
    exact newAcc_of _ _ (vext x2 cc) _ _ fun x => mscore_of i x0 x1 3 r x _ rfl
  case piece1 =>
    idx_vars w
    pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33]
    obtain rfl : r = w1 := Fin.ext h1
    obtain rfl : g = 2 := Fin.ext (by omega)
    obtain rfl : cc = w2 := Fin.ext h2
    exact newAcc_of _ _ (vext x2 cc) _ _ fun x => mscore_of i x0 x1 2 r x _ rfl
  case piece2 =>
    idx_vars w
    pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33]
    obtain rfl : r = w1 := Fin.ext h1
    obtain rfl : g = 1 := Fin.ext (by omega)
    obtain rfl : cc = w2 := Fin.ext h2
    exact newAcc_of _ _ (vext x2 cc) _ _ fun x => mscore_of i x0 x1 1 r x _ rfl
  case piece3 =>
    idx_vars w
    pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33]
    obtain rfl : r = w1 := Fin.ext h1
    obtain rfl : g = 0 := Fin.ext (by omega)
    obtain rfl : cc = w2 := Fin.ext h2
    exact newAcc_of _ _ (vext x2 cc) _ _ fun x => mscore_of i x0 x1 0 r x _ (score_0 x0 x1 r x).symm

theorem max_D (hc0 : cond0_0 i) (hc1 : ¬cond0_1 i) (hc2 : cond0_2 i) (hc3 : ¬cond0_3 i) (g : Fin 4) (r : Fin 1056) :
    sout0_D_0 c i arg4 harg4 arg5 harg5 arg6 harg6 arg7 harg7 arg8 harg8 arg9 harg9 arg10 harg10
      arg11 harg11 hc0 hc1 hc2 hc3 x0 x1 x2 (ix3 g r 0)
      = newMax (mscore (i 2).val (i 3).val x0 x1 g r) ⊥ := by
  rw [mscore_of_later i hc2]
  frame_open
  simp (disch := decide) only [↓ View.readCov_skip, ↓ View.readCov_cons_toLoadRect, ↓ View.readCov_fill]
  frame_out
  refine (canon_append [_, _, _, _] [_] _ ?_).trans ?_
  · refine View.cover_of_tiledL (s := S4x1056x1) _ S1x1056x1.size ?_ _
    sl_kernel_rfl
  canon_tiles w h
  case piece0 =>
    idx_vars w
    pointwise [k0_pay5, k0_pay1, k0_pay2, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60]
    obtain rfl : r = w1 := Fin.ext h1
    obtain rfl : g = 3 := Fin.ext (by omega)
    exact newMax_of _ _ _ fun x => rfl
  case piece1 =>
    idx_vars w
    pointwise [k0_pay5, k0_pay1, k0_pay2, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60]
    obtain rfl : r = w1 := Fin.ext h1
    obtain rfl : g = 2 := Fin.ext (by omega)
    exact newMax_of _ _ _ fun x => rfl
  case piece2 =>
    idx_vars w
    pointwise [k0_pay5, k0_pay1, k0_pay2, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60]
    obtain rfl : r = w1 := Fin.ext h1
    obtain rfl : g = 1 := Fin.ext (by omega)
    exact newMax_of _ _ _ fun x => rfl
  case piece3 =>
    idx_vars w
    pointwise [k0_pay5, k0_pay1, k0_pay2, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60]
    obtain rfl : r = w1 := Fin.ext h1
    obtain rfl : g = 0 := Fin.ext (by omega)
    exact newMax_of _ _ _ fun x => (score_0 x0 x1 r x).symm

theorem acc_D (hc0 : cond0_0 i) (hc1 : ¬cond0_1 i) (hc2 : cond0_2 i) (hc3 : ¬cond0_3 i) (g : Fin 4) (r : Fin 1056) (cc : Fin 256) :
    sout0_D_1 c i arg4 harg4 arg5 harg5 arg6 harg6 arg7 harg7 arg8 harg8 arg9 harg9 arg10 harg10
      arg11 harg11 hc0 hc1 hc2 hc3 x0 x1 x2 (ix3 g r cc)
      = newAcc (mscore (i 2).val (i 3).val x0 x1 g r) (vext x2 cc) ⊥ 0 := by
  rw [mscore_of_later i hc2]
  frame_open
  simp (disch := decide) only [↓ View.readCov_skip, ↓ View.readCov_cons_toLoadRect, ↓ View.readCov_fill]
  frame_out
  refine (canon_append [_, _, _, _] [_] _ ?_).trans ?_
  · refine View.cover_of_tiledL (s := S4x1056x256) _ S1x1056x256.size ?_ _
    sl_kernel_rfl
  canon_tiles w h
  case piece0 =>
    idx_vars w
    pointwise [k0_pay5, k0_pay1, k0_pay2, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60]
    obtain rfl : r = w1 := Fin.ext h1
    obtain rfl : g = 3 := Fin.ext (by omega)
    obtain rfl : cc = w2 := Fin.ext h2
    exact newAcc_of _ _ (vext x2 cc) _ _ fun x => rfl
  case piece1 =>
    idx_vars w
    pointwise [k0_pay5, k0_pay1, k0_pay2, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60]
    obtain rfl : r = w1 := Fin.ext h1
    obtain rfl : g = 2 := Fin.ext (by omega)
    obtain rfl : cc = w2 := Fin.ext h2
    exact newAcc_of _ _ (vext x2 cc) _ _ fun x => rfl
  case piece2 =>
    idx_vars w
    pointwise [k0_pay5, k0_pay1, k0_pay2, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60]
    obtain rfl : r = w1 := Fin.ext h1
    obtain rfl : g = 1 := Fin.ext (by omega)
    obtain rfl : cc = w2 := Fin.ext h2
    exact newAcc_of _ _ (vext x2 cc) _ _ fun x => rfl
  case piece3 =>
    idx_vars w
    pointwise [k0_pay5, k0_pay1, k0_pay2, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60]
    obtain rfl : r = w1 := Fin.ext h1
    obtain rfl : g = 0 := Fin.ext (by omega)
    obtain rfl : cc = w2 := Fin.ext h2
    exact newAcc_of _ _ (vext x2 cc) _ _ fun x => (score_0 x0 x1 r x).symm

end Body

end Cert.Kernel4Ideal.Flash

end
-- ==== Proof.FlashLater.lean ====
/-
  A later key tile of a row block: the running maximum and the accumulator go on from what the last tile left.
  Cases B and C are the row block that holds context rows, E and F any other; C and F are the last tile.
-/
module

public import proofs.«01_k».proof.Proof.FlashBody

@[expose] public section

set_option maxRecDepth 16384

noncomputable section

namespace Cert.Kernel4Ideal.Flash

open Cert.Kernel4Ideal Cert.Kernel4Ideal.Gen Idealize.ShloMosaic Idealize.ShloMosaic.TcCoe Idealize.SL.Sem

section Body

variable (c : Dev nD) (i : grid0.Coords) (arg4 : Memref sig .tc .vmem S1056x512 .bf16) (harg4 : arg4.IsWhole)
  (arg5 : Memref sig .tc .vmem S768x128 .bf16) (harg5 : arg5.IsWhole) (arg6 : Memref sig .tc .vmem S768x128 .bf16)
  (harg6 : arg6.IsWhole) (arg7 : Memref sig .tc .vmem S1056x512 .bf16) (harg7 : arg7.IsWhole)
  (arg8 : Memref sig .tc .vmem S4x1056x1 .f32) (harg8 : arg8.IsWhole) (arg9 : Memref sig .tc .vmem S4x1056x256 .f32)
  (harg9 : arg9.IsWhole) (arg10 : Memref sig .tc .vmem S2x1056x768 .f32) (harg10 : arg10.IsWhole)
  (arg11 : Memref sig .tc .vmem S2x1056x768 .bf16) (harg11 : arg11.IsWhole) (x0 : Vec Ideal S1056x512 .bf16)
  (x1 : Vec Ideal S768x128 .bf16) (x2 : Vec Ideal S768x128 .bf16) (xs0 : Vec Ideal S4x1056x1 .f32)
  (xs1 : Vec Ideal S4x1056x256 .f32)

theorem max_B (hc0 : ¬cond0_0 i) (hc1 : cond0_1 i) (hc2 : ¬cond0_2 i) (hc3 : ¬cond0_3 i) (g : Fin 4) (r : Fin 1056) :
    sout0_B_0 c i arg4 harg4 arg5 harg5 arg6 harg6 arg7 harg7 arg8 harg8 arg9 harg9 arg10 harg10
      arg11 harg11 hc0 hc1 hc2 hc3 x0 x1 x2 xs0 xs1 (ix3 g r 0)
      = newMax (mscore (i 2).val (i 3).val x0 x1 g r) (xs0 (ix3 g r 0)) := by
  frame_out
  canon_tiles w h
  case piece0 =>
    simp only [View.readCov_cons_toLoadRect]
    idx_vars w
    pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33]
    obtain rfl : r = w1 := Fin.ext h1
    obtain rfl : g = 3 := Fin.ext (by omega)
    exact newMax_of _ _ _ fun x => mscore_of i x0 x1 3 r x _ rfl
  case piece1 =>
    simp only [View.readCov_cons_toLoadRect]
    idx_vars w
    pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33]
    obtain rfl : r = w1 := Fin.ext h1
    obtain rfl : g = 2 := Fin.ext (by omega)
    exact newMax_of _ _ _ fun x => mscore_of i x0 x1 2 r x _ rfl
  case piece2 =>
    simp only [View.readCov_cons_toLoadRect]
    idx_vars w
    pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33]
    obtain rfl : r = w1 := Fin.ext h1
    obtain rfl : g = 1 := Fin.ext (by omega)
    exact newMax_of _ _ _ fun x => mscore_of i x0 x1 1 r x _ rfl
  case piece3 =>
    simp only [View.readCov_cons_toLoadRect]
    idx_vars w
    pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33]
    obtain rfl : r = w1 := Fin.ext h1
    obtain rfl : g = 0 := Fin.ext (by omega)
    exact newMax_of _ _ _ fun x => mscore_of i x0 x1 0 r x _ (score_0 x0 x1 r x).symm

theorem acc_B (hc0 : ¬cond0_0 i) (hc1 : cond0_1 i) (hc2 : ¬cond0_2 i) (hc3 : ¬cond0_3 i) (g : Fin 4) (r : Fin 1056) (cc : Fin 256) :
    sout0_B_1 c i arg4 harg4 arg5 harg5 arg6 harg6 arg7 harg7 arg8 harg8 arg9 harg9 arg10 harg10
      arg11 harg11 hc0 hc1 hc2 hc3 x0 x1 x2 xs0 xs1 (ix3 g r cc)
      = newAcc (mscore (i 2).val (i 3).val x0 x1 g r) (vext x2 cc) (xs0 (ix3 g r 0)) (xs1 (ix3 g r cc)) := by
  frame_out
  canon_tiles w h
  case piece0 =>
    simp only [View.readCov_cons_toLoadRect]
    idx_vars w
    pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33]
    obtain rfl : r = w1 := Fin.ext h1
    obtain rfl : g = 3 := Fin.ext (by omega)
    obtain rfl : cc = w2 := Fin.ext h2
    exact newAcc_of _ _ (vext x2 cc) _ _ fun x => mscore_of i x0 x1 3 r x _ rfl
  case piece1 =>
    simp only [View.readCov_cons_toLoadRect]
    idx_vars w
    pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33]
    obtain rfl : r = w1 := Fin.ext h1
    obtain rfl : g = 2 := Fin.ext (by omega)
    obtain rfl : cc = w2 := Fin.ext h2
    exact newAcc_of _ _ (vext x2 cc) _ _ fun x => mscore_of i x0 x1 2 r x _ rfl
  case piece2 =>
    simp only [View.readCov_cons_toLoadRect]
    idx_vars w
    pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33]
    obtain rfl : r = w1 := Fin.ext h1
    obtain rfl : g = 1 := Fin.ext (by omega)
    obtain rfl : cc = w2 := Fin.ext h2
    exact newAcc_of _ _ (vext x2 cc) _ _ fun x => mscore_of i x0 x1 1 r x _ rfl
  case piece3 =>
    simp only [View.readCov_cons_toLoadRect]
    idx_vars w
    pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33]
    obtain rfl : r = w1 := Fin.ext h1
    obtain rfl : g = 0 := Fin.ext (by omega)
    obtain rfl : cc = w2 := Fin.ext h2
    exact newAcc_of _ _ (vext x2 cc) _ _ fun x => mscore_of i x0 x1 0 r x _ (score_0 x0 x1 r x).symm

theorem max_C (hc0 : ¬cond0_0 i) (hc1 : cond0_1 i) (hc2 : ¬cond0_2 i) (hc3 : cond0_3 i) (g : Fin 4) (r : Fin 1056) :
    sout0_C_0 c i arg4 harg4 arg5 harg5 arg6 harg6 arg7 harg7 arg8 harg8 arg9 harg9 arg10 harg10
      arg11 harg11 hc0 hc1 hc2 hc3 x0 x1 x2 xs0 xs1 (ix3 g r 0)
      = newMax (mscore (i 2).val (i 3).val x0 x1 g r) (xs0 (ix3 g r 0)) := by
  frame_out
  canon_tiles w h
  case piece0 =>
    simp only [View.readCov_cons_toLoadRect]
    idx_vars w
    pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33]
    obtain rfl : r = w1 := Fin.ext h1
    obtain rfl : g = 3 := Fin.ext (by omega)
    exact newMax_of _ _ _ fun x => mscore_of i x0 x1 3 r x _ rfl
  case piece1 =>
    simp only [View.readCov_cons_toLoadRect]
    idx_vars w
    pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33]
    obtain rfl : r = w1 := Fin.ext h1
    obtain rfl : g = 2 := Fin.ext (by omega)
    exact newMax_of _ _ _ fun x => mscore_of i x0 x1 2 r x _ rfl
  case piece2 =>
    simp only [View.readCov_cons_toLoadRect]
    idx_vars w
    pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33]
    obtain rfl : r = w1 := Fin.ext h1
    obtain rfl : g = 1 := Fin.ext (by omega)
    exact newMax_of _ _ _ fun x => mscore_of i x0 x1 1 r x _ rfl
  case piece3 =>
    simp only [View.readCov_cons_toLoadRect]
    idx_vars w
    pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33]
    obtain rfl : r = w1 := Fin.ext h1
    obtain rfl : g = 0 := Fin.ext (by omega)
    exact newMax_of _ _ _ fun x => mscore_of i x0 x1 0 r x _ (score_0 x0 x1 r x).symm

theorem acc_C (hc0 : ¬cond0_0 i) (hc1 : cond0_1 i) (hc2 : ¬cond0_2 i) (hc3 : cond0_3 i) (g : Fin 4) (r : Fin 1056) (cc : Fin 256) :
    sout0_C_1 c i arg4 harg4 arg5 harg5 arg6 harg6 arg7 harg7 arg8 harg8 arg9 harg9 arg10 harg10
      arg11 harg11 hc0 hc1 hc2 hc3 x0 x1 x2 xs0 xs1 (ix3 g r cc)
      = newAcc (mscore (i 2).val (i 3).val x0 x1 g r) (vext x2 cc) (xs0 (ix3 g r 0)) (xs1 (ix3 g r cc)) := by
  frame_out
  canon_tiles w h
  case piece0 =>
    simp only [View.readCov_cons_toLoadRect]
    idx_vars w
    pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33]
    obtain rfl : r = w1 := Fin.ext h1
    obtain rfl : g = 3 := Fin.ext (by omega)
    obtain rfl : cc = w2 := Fin.ext h2
    exact newAcc_of _ _ (vext x2 cc) _ _ fun x => mscore_of i x0 x1 3 r x _ rfl
  case piece1 =>
    simp only [View.readCov_cons_toLoadRect]
    idx_vars w
    pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33]
    obtain rfl : r = w1 := Fin.ext h1
    obtain rfl : g = 2 := Fin.ext (by omega)
    obtain rfl : cc = w2 := Fin.ext h2
    exact newAcc_of _ _ (vext x2 cc) _ _ fun x => mscore_of i x0 x1 2 r x _ rfl
  case piece2 =>
    simp only [View.readCov_cons_toLoadRect]
    idx_vars w
    pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33]
    obtain rfl : r = w1 := Fin.ext h1
    obtain rfl : g = 1 := Fin.ext (by omega)
    obtain rfl : cc = w2 := Fin.ext h2
    exact newAcc_of _ _ (vext x2 cc) _ _ fun x => mscore_of i x0 x1 1 r x _ rfl
  case piece3 =>
    simp only [View.readCov_cons_toLoadRect]
    idx_vars w
    pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33]
    obtain rfl : r = w1 := Fin.ext h1
    obtain rfl : g = 0 := Fin.ext (by omega)
    obtain rfl : cc = w2 := Fin.ext h2
    exact newAcc_of _ _ (vext x2 cc) _ _ fun x => mscore_of i x0 x1 0 r x _ (score_0 x0 x1 r x).symm

theorem max_E (hc0 : ¬cond0_0 i) (hc1 : ¬cond0_1 i) (hc2 : cond0_2 i) (hc3 : ¬cond0_3 i) (g : Fin 4) (r : Fin 1056) :
    sout0_E_0 c i arg4 harg4 arg5 harg5 arg6 harg6 arg7 harg7 arg8 harg8 arg9 harg9 arg10 harg10
      arg11 harg11 hc0 hc1 hc2 hc3 x0 x1 x2 xs0 xs1 (ix3 g r 0)
      = newMax (mscore (i 2).val (i 3).val x0 x1 g r) (xs0 (ix3 g r 0)) := by
  rw [mscore_of_later i hc2]
  frame_out
  canon_tiles w h
  case piece0 =>
    simp only [View.readCov_cons_toLoadRect]
    idx_vars w
    pointwise [k0_pay5, k0_pay1, k0_pay2, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60]
    obtain rfl : r = w1 := Fin.ext h1
    obtain rfl : g = 3 := Fin.ext (by omega)
    exact newMax_of _ _ _ fun x => rfl
  case piece1 =>
    simp only [View.readCov_cons_toLoadRect]
    idx_vars w
    pointwise [k0_pay5, k0_pay1, k0_pay2, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60]
    obtain rfl : r = w1 := Fin.ext h1
    obtain rfl : g = 2 := Fin.ext (by omega)
    exact newMax_of _ _ _ fun x => rfl
  case piece2 =>
    simp only [View.readCov_cons_toLoadRect]
    idx_vars w
    pointwise [k0_pay5, k0_pay1, k0_pay2, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60]
    obtain rfl : r = w1 := Fin.ext h1
    obtain rfl : g = 1 := Fin.ext (by omega)
    exact newMax_of _ _ _ fun x => rfl
  case piece3 =>
    simp only [View.readCov_cons_toLoadRect]
    idx_vars w
    pointwise [k0_pay5, k0_pay1, k0_pay2, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60]
    obtain rfl : r = w1 := Fin.ext h1
    obtain rfl : g = 0 := Fin.ext (by omega)
    exact newMax_of _ _ _ fun x => (score_0 x0 x1 r x).symm

theorem acc_E (hc0 : ¬cond0_0 i) (hc1 : ¬cond0_1 i) (hc2 : cond0_2 i) (hc3 : ¬cond0_3 i) (g : Fin 4) (r : Fin 1056) (cc : Fin 256) :
    sout0_E_1 c i arg4 harg4 arg5 harg5 arg6 harg6 arg7 harg7 arg8 harg8 arg9 harg9 arg10 harg10
      arg11 harg11 hc0 hc1 hc2 hc3 x0 x1 x2 xs0 xs1 (ix3 g r cc)
      = newAcc (mscore (i 2).val (i 3).val x0 x1 g r) (vext x2 cc) (xs0 (ix3 g r 0)) (xs1 (ix3 g r cc)) := by
  rw [mscore_of_later i hc2]
  frame_out
  canon_tiles w h
  case piece0 =>
    simp only [View.readCov_cons_toLoadRect]
    idx_vars w
    pointwise [k0_pay5, k0_pay1, k0_pay2, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60]
    obtain rfl : r = w1 := Fin.ext h1
    obtain rfl : g = 3 := Fin.ext (by omega)
    obtain rfl : cc = w2 := Fin.ext h2
    exact newAcc_of _ _ (vext x2 cc) _ _ fun x => rfl
  case piece1 =>
    simp only [View.readCov_cons_toLoadRect]
    idx_vars w
    pointwise [k0_pay5, k0_pay1, k0_pay2, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60]
    obtain rfl : r = w1 := Fin.ext h1
    obtain rfl : g = 2 := Fin.ext (by omega)
    obtain rfl : cc = w2 := Fin.ext h2
    exact newAcc_of _ _ (vext x2 cc) _ _ fun x => rfl
  case piece2 =>
    simp only [View.readCov_cons_toLoadRect]
    idx_vars w
    pointwise [k0_pay5, k0_pay1, k0_pay2, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60]
    obtain rfl : r = w1 := Fin.ext h1
    obtain rfl : g = 1 := Fin.ext (by omega)
    obtain rfl : cc = w2 := Fin.ext h2
    exact newAcc_of _ _ (vext x2 cc) _ _ fun x => rfl
  case piece3 =>
    simp only [View.readCov_cons_toLoadRect]
    idx_vars w
    pointwise [k0_pay5, k0_pay1, k0_pay2, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60]
    obtain rfl : r = w1 := Fin.ext h1
    obtain rfl : g = 0 := Fin.ext (by omega)
    obtain rfl : cc = w2 := Fin.ext h2
    exact newAcc_of _ _ (vext x2 cc) _ _ fun x => (score_0 x0 x1 r x).symm

theorem max_F (hc0 : ¬cond0_0 i) (hc1 : ¬cond0_1 i) (hc2 : cond0_2 i) (hc3 : cond0_3 i) (g : Fin 4) (r : Fin 1056) :
    sout0_F_0 c i arg4 harg4 arg5 harg5 arg6 harg6 arg7 harg7 arg8 harg8 arg9 harg9 arg10 harg10
      arg11 harg11 hc0 hc1 hc2 hc3 x0 x1 x2 xs0 xs1 (ix3 g r 0)
      = newMax (mscore (i 2).val (i 3).val x0 x1 g r) (xs0 (ix3 g r 0)) := by
  rw [mscore_of_later i hc2]
  frame_out
  canon_tiles w h
  case piece0 =>
    simp only [View.readCov_cons_toLoadRect]
    idx_vars w
    pointwise [k0_pay5, k0_pay1, k0_pay2, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60]
    obtain rfl : r = w1 := Fin.ext h1
    obtain rfl : g = 3 := Fin.ext (by omega)
    exact newMax_of _ _ _ fun x => rfl
  case piece1 =>
    simp only [View.readCov_cons_toLoadRect]
    idx_vars w
    pointwise [k0_pay5, k0_pay1, k0_pay2, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60]
    obtain rfl : r = w1 := Fin.ext h1
    obtain rfl : g = 2 := Fin.ext (by omega)
    exact newMax_of _ _ _ fun x => rfl
  case piece2 =>
    simp only [View.readCov_cons_toLoadRect]
    idx_vars w
    pointwise [k0_pay5, k0_pay1, k0_pay2, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60]
    obtain rfl : r = w1 := Fin.ext h1
    obtain rfl : g = 1 := Fin.ext (by omega)
    exact newMax_of _ _ _ fun x => rfl
  case piece3 =>
    simp only [View.readCov_cons_toLoadRect]
    idx_vars w
    pointwise [k0_pay5, k0_pay1, k0_pay2, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60]
    obtain rfl : r = w1 := Fin.ext h1
    obtain rfl : g = 0 := Fin.ext (by omega)
    exact newMax_of _ _ _ fun x => (score_0 x0 x1 r x).symm

theorem acc_F (hc0 : ¬cond0_0 i) (hc1 : ¬cond0_1 i) (hc2 : cond0_2 i) (hc3 : cond0_3 i) (g : Fin 4) (r : Fin 1056) (cc : Fin 256) :
    sout0_F_1 c i arg4 harg4 arg5 harg5 arg6 harg6 arg7 harg7 arg8 harg8 arg9 harg9 arg10 harg10
      arg11 harg11 hc0 hc1 hc2 hc3 x0 x1 x2 xs0 xs1 (ix3 g r cc)
      = newAcc (mscore (i 2).val (i 3).val x0 x1 g r) (vext x2 cc) (xs0 (ix3 g r 0)) (xs1 (ix3 g r cc)) := by
  rw [mscore_of_later i hc2]
  frame_out
  canon_tiles w h
  case piece0 =>
    simp only [View.readCov_cons_toLoadRect]
    idx_vars w
    pointwise [k0_pay5, k0_pay1, k0_pay2, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60]
    obtain rfl : r = w1 := Fin.ext h1
    obtain rfl : g = 3 := Fin.ext (by omega)
    obtain rfl : cc = w2 := Fin.ext h2
    exact newAcc_of _ _ (vext x2 cc) _ _ fun x => rfl
  case piece1 =>
    simp only [View.readCov_cons_toLoadRect]
    idx_vars w
    pointwise [k0_pay5, k0_pay1, k0_pay2, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60]
    obtain rfl : r = w1 := Fin.ext h1
    obtain rfl : g = 2 := Fin.ext (by omega)
    obtain rfl : cc = w2 := Fin.ext h2
    exact newAcc_of _ _ (vext x2 cc) _ _ fun x => rfl
  case piece2 =>
    simp only [View.readCov_cons_toLoadRect]
    idx_vars w
    pointwise [k0_pay5, k0_pay1, k0_pay2, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60]
    obtain rfl : r = w1 := Fin.ext h1
    obtain rfl : g = 1 := Fin.ext (by omega)
    obtain rfl : cc = w2 := Fin.ext h2
    exact newAcc_of _ _ (vext x2 cc) _ _ fun x => rfl
  case piece3 =>
    simp only [View.readCov_cons_toLoadRect]
    idx_vars w
    pointwise [k0_pay5, k0_pay1, k0_pay2, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60]
    obtain rfl : r = w1 := Fin.ext h1
    obtain rfl : g = 0 := Fin.ext (by omega)
    obtain rfl : cc = w2 := Fin.ext h2
    exact newAcc_of _ _ (vext x2 cc) _ _ fun x => (score_0 x0 x1 r x).symm

end Body

end Cert.Kernel4Ideal.Flash

end
-- ==== Proof.FlashOut.lean ====
/-
  The last key tile of a row block divides each head's weighted sums by its sums of weights.
-/
module

public import proofs.«01_k».proof.Proof.FlashBody

@[expose] public section

set_option maxRecDepth 16384

noncomputable section

namespace Cert.Kernel4Ideal.Flash

open Cert.Kernel4Ideal Cert.Kernel4Ideal.Gen Idealize.ShloMosaic Idealize.ShloMosaic.TcCoe Idealize.SL.Sem

/-- A load of 128 columns of one head's slab, after stores, reads what they left. -/
theorem load_at (v : View sig .tc .vmem S4x1056x256 .f32) (L : List (View.Piece (Elt Ideal) S4x1056x256 .f32)) (g : ℕ)
    (hg : g < 4) (o : ℕ) (inb) (r : Fin 1056) (d : Fin 128)
    (cc : Fin 256) (hc : cc.val = o + d.val) :
    v.readCov L (Rect.unit (s := S4x1056x256) ![g, 0, o] ![1, 1056, 128] inb).toLoadRect (ix3 0 r d)
      = View.canon L (ix3 ⟨g, hg⟩ r cc) := by
  rw [View.readCov_eq_canon']
  refine congrArg (View.canon L) (funext fun a => Fin.ext ?_)
  refine (Rect.idx_unit_val _ _ _ _ _).trans ?_
  match a with
  | ⟨0, _⟩ => rfl
  | ⟨1, _⟩ => exact Nat.zero_add _
  | ⟨2, _⟩ => exact hc.symm

theorem quot_3 (v : View sig .tc .vmem S4x1056x256 .f32) (L : List (View.Piece (Elt Ideal) S4x1056x256 .f32)) (inb) (inb')
    (r : Fin 1056) (d : Fin 128) :
    k0_pay64 (v.readCov L (Rect.unit (s := S4x1056x256) ![3, 0, 0] ![1, 1056, 128] inb).toLoadRect)
        (v.readCov L (Rect.unit (s := S4x1056x256) ![3, 0, 128] ![1, 1056, 128] inb').toLoadRect) (ix2 r d)
      = Ideal.div (View.canon L (ix3 3 r ⟨d.val, by omega⟩)) (View.canon L (ix3 3 r ⟨128 + d.val, by omega⟩)) := by
  pointwise [k0_pay64]
  exact congrArg₂ Ideal.div (load_at v L 3 (by omega) 0 _ r d _ (Nat.zero_add _).symm) (load_at v L 3 (by omega) 128 _ r d _ rfl)

theorem quot_2 (v : View sig .tc .vmem S4x1056x256 .f32) (L : List (View.Piece (Elt Ideal) S4x1056x256 .f32)) (inb) (inb')
    (r : Fin 1056) (d : Fin 128) :
    k0_pay63 (v.readCov L (Rect.unit (s := S4x1056x256) ![2, 0, 0] ![1, 1056, 128] inb).toLoadRect)
        (v.readCov L (Rect.unit (s := S4x1056x256) ![2, 0, 128] ![1, 1056, 128] inb').toLoadRect) (ix2 r d)
      = Ideal.div (View.canon L (ix3 2 r ⟨d.val, by omega⟩)) (View.canon L (ix3 2 r ⟨128 + d.val, by omega⟩)) := by
  pointwise [k0_pay63]
  exact congrArg₂ Ideal.div (load_at v L 2 (by omega) 0 _ r d _ (Nat.zero_add _).symm) (load_at v L 2 (by omega) 128 _ r d _ rfl)

theorem quot_1 (v : View sig .tc .vmem S4x1056x256 .f32) (L : List (View.Piece (Elt Ideal) S4x1056x256 .f32)) (inb) (inb')
    (r : Fin 1056) (d : Fin 128) :
    k0_pay62 (v.readCov L (Rect.unit (s := S4x1056x256) ![1, 0, 0] ![1, 1056, 128] inb).toLoadRect)
        (v.readCov L (Rect.unit (s := S4x1056x256) ![1, 0, 128] ![1, 1056, 128] inb').toLoadRect) (ix2 r d)
      = Ideal.div (View.canon L (ix3 1 r ⟨d.val, by omega⟩)) (View.canon L (ix3 1 r ⟨128 + d.val, by omega⟩)) := by
  pointwise [k0_pay62]
  exact congrArg₂ Ideal.div (load_at v L 1 (by omega) 0 _ r d _ (Nat.zero_add _).symm) (load_at v L 1 (by omega) 128 _ r d _ rfl)

theorem quot_0 (v : View sig .tc .vmem S4x1056x256 .f32) (L : List (View.Piece (Elt Ideal) S4x1056x256 .f32)) (inb) (inb')
    (r : Fin 1056) (d : Fin 128) :
    k0_pay61 (v.readCov L (Rect.unit (s := S4x1056x256) ![0, 0, 0] ![1, 1056, 128] inb).toLoadRect)
        (v.readCov L (Rect.unit (s := S4x1056x256) ![0, 0, 128] ![1, 1056, 128] inb').toLoadRect) (ix2 r d)
      = Ideal.div (View.canon L (ix3 0 r ⟨d.val, by omega⟩)) (View.canon L (ix3 0 r ⟨128 + d.val, by omega⟩)) := by
  pointwise [k0_pay61]
  exact congrArg₂ Ideal.div (load_at v L 0 (by omega) 0 _ r d _ (Nat.zero_add _).symm) (load_at v L 0 (by omega) 128 _ r d _ rfl)

section Body

variable (c : Dev nD) (i : grid0.Coords) (arg4 : Memref sig .tc .vmem S1056x512 .bf16) (harg4 : arg4.IsWhole)
  (arg5 : Memref sig .tc .vmem S768x128 .bf16) (harg5 : arg5.IsWhole) (arg6 : Memref sig .tc .vmem S768x128 .bf16)
  (harg6 : arg6.IsWhole) (arg7 : Memref sig .tc .vmem S1056x512 .bf16) (harg7 : arg7.IsWhole)
  (arg8 : Memref sig .tc .vmem S4x1056x1 .f32) (harg8 : arg8.IsWhole) (arg9 : Memref sig .tc .vmem S4x1056x256 .f32)
  (harg9 : arg9.IsWhole) (arg10 : Memref sig .tc .vmem S2x1056x768 .f32) (harg10 : arg10.IsWhole)
  (arg11 : Memref sig .tc .vmem S2x1056x768 .bf16) (harg11 : arg11.IsWhole) (x0 : Vec Ideal S1056x512 .bf16)
  (x1 : Vec Ideal S768x128 .bf16) (x2 : Vec Ideal S768x128 .bf16) (xs0 : Vec Ideal S4x1056x1 .f32)
  (xs1 : Vec Ideal S4x1056x256 .f32)

theorem out_C (hc0 : ¬cond0_0 i) (hc1 : cond0_1 i) (hc2 : ¬cond0_2 i) (hc3 : cond0_3 i) (g : Fin 4) (r : Fin 1056) (d : Fin 128) :
    out0_C_3 c i arg4 harg4 arg5 harg5 arg6 harg6 arg7 harg7 arg8 harg8 arg9 harg9 arg10 harg10
      arg11 harg11 hc0 hc1 hc2 hc3 x0 x1 x2 xs0 xs1
      (ix2 r ⟨g.val * 128 + d.val, by omega⟩)
      = Ideal.div (sout0_C_1 c i arg4 harg4 arg5 harg5 arg6 harg6 arg7 harg7 arg8 harg8 arg9 harg9 arg10 harg10
      arg11 harg11 hc0 hc1 hc2 hc3 x0 x1 x2 xs0 xs1
          (ix3 g r ⟨d.val, by omega⟩))
        (sout0_C_1 c i arg4 harg4 arg5 harg5 arg6 harg6 arg7 harg7 arg8 harg8 arg9 harg9 arg10 harg10
      arg11 harg11 hc0 hc1 hc2 hc3 x0 x1 x2 xs0 xs1
          (ix3 g r ⟨128 + d.val, by omega⟩)) := by
  frame_out
  canon_tiles w h
  case piece0 =>
    idx_vars w
    obtain rfl : r = w0 := Fin.ext h0
    have hg : g.val * 128 + d.val = 384 + w1.val := h1
    obtain rfl : g = 3 := Fin.ext (by omega)
    obtain rfl : d = w1 := Fin.ext (by omega)
    exact quot_3 _ _ _ _ r d
  case piece1 =>
    idx_vars w
    obtain rfl : r = w0 := Fin.ext h0
    have hg : g.val * 128 + d.val = 256 + w1.val := h1
    obtain rfl : g = 2 := Fin.ext (by omega)
    obtain rfl : d = w1 := Fin.ext (by omega)
    exact quot_2 _ _ _ _ r d
  case piece2 =>
    idx_vars w
    obtain rfl : r = w0 := Fin.ext h0
    have hg : g.val * 128 + d.val = 128 + w1.val := h1
    obtain rfl : g = 1 := Fin.ext (by omega)
    obtain rfl : d = w1 := Fin.ext (by omega)
    exact quot_1 _ _ _ _ r d
  case piece3 =>
    idx_vars w
    obtain rfl : r = w0 := Fin.ext h0
    have hg : g.val * 128 + d.val = 0 + w1.val := h1.trans (Nat.zero_add _).symm
    obtain rfl : g = 0 := Fin.ext (by omega)
    obtain rfl : d = w1 := Fin.ext (by omega)
    exact quot_0 _ _ _ _ r d

theorem out_F (hc0 : ¬cond0_0 i) (hc1 : ¬cond0_1 i) (hc2 : cond0_2 i) (hc3 : cond0_3 i) (g : Fin 4) (r : Fin 1056) (d : Fin 128) :
    out0_F_3 c i arg4 harg4 arg5 harg5 arg6 harg6 arg7 harg7 arg8 harg8 arg9 harg9 arg10 harg10
      arg11 harg11 hc0 hc1 hc2 hc3 x0 x1 x2 xs0 xs1
      (ix2 r ⟨g.val * 128 + d.val, by omega⟩)
      = Ideal.div (sout0_F_1 c i arg4 harg4 arg5 harg5 arg6 harg6 arg7 harg7 arg8 harg8 arg9 harg9 arg10 harg10
      arg11 harg11 hc0 hc1 hc2 hc3 x0 x1 x2 xs0 xs1
          (ix3 g r ⟨d.val, by omega⟩))
        (sout0_F_1 c i arg4 harg4 arg5 harg5 arg6 harg6 arg7 harg7 arg8 harg8 arg9 harg9 arg10 harg10
      arg11 harg11 hc0 hc1 hc2 hc3 x0 x1 x2 xs0 xs1
          (ix3 g r ⟨128 + d.val, by omega⟩)) := by
  frame_out
  canon_tiles w h
  case piece0 =>
    idx_vars w
    obtain rfl : r = w0 := Fin.ext h0
    have hg : g.val * 128 + d.val = 384 + w1.val := h1
    obtain rfl : g = 3 := Fin.ext (by omega)
    obtain rfl : d = w1 := Fin.ext (by omega)
    exact quot_3 _ _ _ _ r d
  case piece1 =>
    idx_vars w
    obtain rfl : r = w0 := Fin.ext h0
    have hg : g.val * 128 + d.val = 256 + w1.val := h1
    obtain rfl : g = 2 := Fin.ext (by omega)
    obtain rfl : d = w1 := Fin.ext (by omega)
    exact quot_2 _ _ _ _ r d
  case piece2 =>
    idx_vars w
    obtain rfl : r = w0 := Fin.ext h0
    have hg : g.val * 128 + d.val = 128 + w1.val := h1
    obtain rfl : g = 1 := Fin.ext (by omega)
    obtain rfl : d = w1 := Fin.ext (by omega)
    exact quot_1 _ _ _ _ r d
  case piece3 =>
    idx_vars w
    obtain rfl : r = w0 := Fin.ext h0
    have hg : g.val * 128 + d.val = 0 + w1.val := h1.trans (Nat.zero_add _).symm
    obtain rfl : g = 0 := Fin.ext (by omega)
    obtain rfl : d = w1 := Fin.ext (by omega)
    exact quot_0 _ _ _ _ r d

end Body

end Cert.Kernel4Ideal.Flash

end
-- ==== Proof.FlashBlocks.lean ====
/-
  The blocks of queries, keys and values that a point of the flash attention reads, entry by entry over the arguments.
-/
module

public import proofs.«01_k».proof.Proof.FlashBody
public import Idealize.ShloMosaic.Lib.Pipeline.ValueKit
public import Idealize.ShloMosaic.Lib.Pipeline.Covers
public import Idealize.ShloMosaic.Lib.Pointwise
public import Idealize.ShloMosaic.Lib.Claim

@[expose] public section

set_option maxRecDepth 16384

noncomputable section

namespace Cert.Kernel4Ideal.Flash

open Cert.Kernel4Ideal Cert.Kernel4Ideal.Gen Idealize.ShloMosaic Idealize.ShloMosaic.TcCoe Idealize.SL.Sem
open Idealize.ShloMosaic.Pipeline (Dat)

variable (m : (ℓ : Loc nD τ sig) → Buf (Elt Ideal) ℓ)

theorem index0 : ∀ t : Fin cfg0.N, win0_0.index t = ![t.val / 176 * 8 + t.val / 11 % 8, t.val / 88 % 2] :=
  (by decide +kernel : ∀ t : Fin grid0.N, _)
theorem index1 : ∀ t : Fin cfg0.N, win0_1.index t = ![t.val / 176 * 11 + t.val % 11, t.val / 88 % 2] :=
  (by decide +kernel : ∀ t : Fin grid0.N, _)
theorem index2 : ∀ t : Fin cfg0.N, win0_2.index t = ![t.val / 176 * 11 + t.val % 11, t.val / 88 % 2] :=
  (by decide +kernel : ∀ t : Fin grid0.N, _)
theorem index3 : ∀ t : Fin cfg0.N, win0_3.index t = ![t.val / 176 * 8 + t.val / 11 % 8, t.val / 88 % 2] :=
  (by decide +kernel : ∀ t : Fin grid0.N, _)

theorem coord2 (t : Fin cfg0.N) : (grid0.coords t 2).val = t.val / 11 % 8 := Pipeline.Grid.coords_val t 2 (by decide) rfl
theorem coord3 (t : Fin cfg0.N) : (grid0.coords t 3).val = t.val % 11 :=
  (Pipeline.Grid.coords_val t 3 (S := 1) (B := 11) (by decide) rfl).trans (by rw [Nat.div_one])

/-- What the queries are divided by before the kernel: the root of the head's width, in units of the natural logarithm of two. -/
def scale : EReal := Ideal.sqrt (Ideal.ofBits .f32 0x43000000#32) * Ideal.log (Ideal.ofBits .f32 0x40000000#32)

theorem blk_q (c : Dev nD) (t : Fin cfg0.N) (a : Fin 1056) (n : Fin 512) (r : Fin 16896) (k : Fin 1024)
    (hr : r.val = (t.val / 176 * 8 + t.val / 11 % 8) * 1056 + a.val) (hk : k.val = t.val / 88 % 2 * 512 + n.val) :
    iblk m c 0 t (ix2 a n) = Ideal.div (m (c.tc.loc main_arg0) (ix2 r k)) scale := by
  blk_simp [iblk]
  entry_read
  pointwise []
  have e : ((View.whole main_v5).slice (win0_0.rect t)).emb (ix2 a n) = ix2 r k := by
    funext d
    match d with
    | ⟨0, _⟩ => exact Fin.ext (by blk_simp [index0 t]; exact hr.symm)
    | ⟨1, _⟩ => exact Fin.ext (by blk_simp [index0 t]; exact hk.symm)
  exact congrArg (fun z => Ideal.div (m (c.tc.loc main_arg0) z) scale) e

theorem blk_k (c : Dev nD) (t : Fin cfg0.N) (a : Fin 768) (n : Fin 128) (r : Fin 16896) (k : Fin 256)
    (hr : r.val = (t.val / 176 * 11 + t.val % 11) * 768 + a.val) (hk : k.val = t.val / 88 % 2 * 128 + n.val) :
    iblk m c 1 t (ix2 a n) = m (c.tc.loc main_arg1) (ix2 r k) := by
  blk_simp [iblk]
  entry_read
  pointwise []
  have e : ((View.whole main_v6).slice (win0_1.rect t)).emb (ix2 a n) = ix2 r k := by
    funext d
    match d with
    | ⟨0, _⟩ => exact Fin.ext (by blk_simp [index1 t]; exact hr.symm)
    | ⟨1, _⟩ => exact Fin.ext (by blk_simp [index1 t]; exact hk.symm)
  exact congrArg (m (c.tc.loc main_arg1)) e

theorem blk_v (c : Dev nD) (t : Fin cfg0.N) (a : Fin 768) (n : Fin 128) (r : Fin 16896) (k : Fin 256)
    (hr : r.val = (t.val / 176 * 11 + t.val % 11) * 768 + a.val) (hk : k.val = t.val / 88 % 2 * 128 + n.val) :
    iblk m c 2 t (ix2 a n) = m (c.tc.loc main_arg2) (ix2 r k) := by
  blk_simp [iblk]
  entry_read
  pointwise []
  have e : ((View.whole main_v7).slice (win0_2.rect t)).emb (ix2 a n) = ix2 r k := by
    funext d
    match d with
    | ⟨0, _⟩ => exact Fin.ext (by blk_simp [index2 t]; exact hr.symm)
    | ⟨1, _⟩ => exact Fin.ext (by blk_simp [index2 t]; exact hk.symm)
  exact congrArg (m (c.tc.loc main_arg2)) e

end Cert.Kernel4Ideal.Flash

end
-- ==== Proof.Softmax.lean ====
/-
  A softmax average over the extended reals, taken whole and taken tile by tile.

  `softavg t v` is the average of the values `v` with the softmax of the real scores `t` as weights. Taken whole, the
  scores are first lowered by some real `T` (`weight_of`). Taken tile by tile, a running maximum `M` and the sum of the
  values so far, weighted by `2 ^ (s j - M)`, are carried along, and each tile moves the sum over to its own maximum
  (`tile_acc`); the scores are then in powers of two, and `⊥` where a key is hidden. The average does not depend on
  which real the maximum is, so nothing but its being real is ever used (`quot_of`).
-/
module

public import Idealize.ShloMosaic.PureOps.Ideal
public import Idealize.ShloMosaic.Lib.Pipeline.ValueKit

@[expose] public section

noncomputable section

namespace Cert.Softmax

open Idealize.ShloMosaic

/-- The average of the values with the softmax of the scores as weights. -/
def softavg {n : ℕ} (t : Fin n → ℝ) (v : Fin n → EReal) : EReal :=
  ∑ x, v x * ((Real.exp (t x) / ∑ y, Real.exp (t y) : ℝ) : EReal)

theorem mul_sum {ι : Type} (S : Finset ι) (c : ℝ) (hc : 0 ≤ c) (f : ι → EReal) :
    (c : EReal) * ∑ j ∈ S, f j = ∑ j ∈ S, (c : EReal) * f j := by
  classical
  induction S using Finset.induction_on with
  | empty => simp
  | insert a S ha ih =>
    rw [Finset.sum_insert ha, Finset.sum_insert ha,
      EReal.left_distrib_of_nonneg_of_ne_top (EReal.coe_nonneg.mpr hc) (EReal.coe_ne_top c), ih]

theorem coe_sum {ι : Type} (S : Finset ι) (f : ι → ℝ) : ((∑ j ∈ S, f j : ℝ) : EReal) = ∑ j ∈ S, (f j : EReal) := by
  classical
  induction S using Finset.induction_on with
  | empty => simp
  | insert a S ha ih => rw [Finset.sum_insert ha, Finset.sum_insert ha, EReal.coe_add, ih]

/-- A score: real, or `⊥` where the key is hidden. -/
def IsScore (x : EReal) : Prop := x = ⊥ ∨ ∃ r : ℝ, x = r

theorem IsScore.ne_top {x : EReal} (h : IsScore x) : x ≠ ⊤ := by
  rcases h with rfl | ⟨r, rfl⟩
  · exact bot_ne_top
  · exact EReal.coe_ne_top r

/-- Two to a score lowered by a real, moved to another real. -/
theorem exp2_shift {x : EReal} (h : IsScore x) (r r' : ℝ) :
    Ideal.exp2 ((r : EReal) - (r' : EReal)) * Ideal.exp2 (x - (r : EReal)) = Ideal.exp2 (x - (r' : EReal)) := by
  rcases h with rfl | ⟨y, rfl⟩
  · simp
  · rw [← EReal.coe_sub, ← EReal.coe_sub, ← EReal.coe_sub, Ideal.exp2_coe, Ideal.exp2_coe, Ideal.exp2_coe, ← EReal.coe_mul]
    congr 1
    show (2 : ℝ) ^ (r - r') * (2 : ℝ) ^ (y - r) = (2 : ℝ) ^ (y - r')
    rw [← Real.rpow_add (by norm_num)]
    congr 1
    ring

/-- A maximum over scores is real once it is not `⊥`. -/
theorem max_real {n : ℕ} (s : Fin n → EReal) (hs : ∀ x, IsScore (s x)) (M : EReal) (hM : IsScore M)
    (h : (∃ r : ℝ, M = r) ∨ ∃ (x : Fin n) (r : ℝ), s x = r) : ∃ r : ℝ, max M (Finset.univ.fold max ⊥ s) = r := by
  have htop : max M (Finset.univ.fold max ⊥ s) ≠ ⊤ := by
    refine (max_lt (lt_top_iff_ne_top.mpr hM.ne_top) ?_).ne
    exact (Finset.fold_max_lt _).mpr ⟨bot_lt_top, fun x _ => lt_top_iff_ne_top.mpr (hs x).ne_top⟩
  have hbot : max M (Finset.univ.fold max ⊥ s) ≠ ⊥ := by
    refine (lt_max_iff.mpr ?_).ne'
    rcases h with ⟨r, rfl⟩ | ⟨x, r, hx⟩
    · exact Or.inl (EReal.bot_lt_coe r)
    · exact Or.inr ((Finset.lt_fold_max _).mpr (Or.inr ⟨x, Finset.mem_univ x, hx ▸ EReal.bot_lt_coe r⟩))
  exact ⟨_, (EReal.coe_toReal htop hbot).symm⟩

/-- The weighted sum of the first `n` values, at maximum `M`. -/
def wsum (s v : ℕ → EReal) (n : ℕ) (M : EReal) : EReal := ∑ j ∈ Finset.range n, Ideal.exp2 (s j - M) * v j

/-- A tile's step carries the weighted sum over to the tile's maximum and adds the tile. -/
theorem tile_acc (s v : ℕ → EReal) (hs : ∀ j, IsScore (s j)) (n k : ℕ) (r r' : ℝ) :
    Ideal.exp2 ((r : EReal) - (r' : EReal)) * wsum s v n r
        + ∑ x : Fin k, Ideal.exp2 (s (n + x.val) - (r' : EReal)) * v (n + x.val)
      = wsum s v (n + k) r' := by
  have e : ∃ c : ℝ, 0 ≤ c ∧ Ideal.exp2 ((r : EReal) - (r' : EReal)) = (c : EReal) :=
    ⟨(2 : ℝ) ^ (r - r'), Real.rpow_nonneg (by norm_num) _, by rw [← EReal.coe_sub, Ideal.exp2_coe]; rfl⟩
  obtain ⟨c, hc, e⟩ := e
  unfold wsum
  rw [Finset.sum_range_add, Finset.sum_range fun x => Ideal.exp2 (s (n + x) - (r' : EReal)) * v (n + x)]
  congr 1
  rw [e, mul_sum _ c hc]
  refine Finset.sum_congr rfl fun j _ => ?_
  rw [← mul_assoc, ← e, exp2_shift (hs j)]

/-- The first tile's step starts the sum. -/
theorem tile_first (s v : ℕ → EReal) (k : ℕ) (M : EReal) :
    Ideal.exp2 (⊥ - M) * 0 + ∑ x : Fin k, Ideal.exp2 (s x.val - M) * v x.val = wsum s v k M := by
  rw [mul_zero, zero_add]
  exact (Finset.sum_range fun x => Ideal.exp2 (s x - M) * v x).symm

/-- Two to a natural score is the exponential, up to the factor of the maximum. -/
theorem exp2_nat (t r : ℝ) :
    Ideal.exp2 (((t / Real.log 2 : ℝ) : EReal) - (r : EReal)) = ((Real.exp t * (2 : ℝ) ^ (-r) : ℝ) : EReal) := by
  rw [← EReal.coe_sub, Ideal.exp2_coe]
  congr 1
  show (2 : ℝ) ^ (t / Real.log 2 - r) = _
  have h2 : Real.log 2 ≠ 0 := (Real.log_pos (by norm_num)).ne'
  rw [sub_eq_add_neg, Real.rpow_add (by norm_num), Real.rpow_def_of_pos (by norm_num : (0 : ℝ) < 2) (t / Real.log 2)]
  congr 2
  field_simp

/-- Hidden keys weigh nothing. -/
theorem wsum_visible (s v : ℕ → EReal) (N n : ℕ) (hn : n ≤ N) (r : ℝ) (hid : ∀ j, n ≤ j → s j = ⊥) :
    wsum s v N r = wsum s v n r := by
  obtain ⟨k, rfl⟩ := Nat.exists_eq_add_of_le hn
  unfold wsum
  rw [Finset.sum_range_add, Finset.sum_eq_zero (s := Finset.range k) (fun x _ => ?_), add_zero]
  rw [hid _ (Nat.le_add_right n x)]
  simp

/-- The weighted sum over the sum of weights is the softmax average. -/
theorem quot_of {n : ℕ} (hn0 : 0 < n) (N : ℕ) (hn : n ≤ N) (s v : ℕ → EReal) (r : ℝ) (t : Fin n → ℝ)
    (hid : ∀ j, n ≤ j → s j = ⊥) (hs : ∀ x : Fin n, s x.val = ((t x / Real.log 2 : ℝ) : EReal)) :
    Ideal.div (wsum s v N r) (wsum s (fun _ => 1) N r) = softavg t (fun x => v x.val) := by
  rw [wsum_visible s v N n hn r hid, wsum_visible s _ N n hn r hid]
  have ez : wsum s (fun _ => 1) n r = (((∑ y, Real.exp (t y)) * (2 : ℝ) ^ (-r) : ℝ) : EReal) := by
    unfold wsum
    rw [Finset.sum_range, Finset.sum_mul, coe_sum]
    refine Finset.sum_congr rfl fun x _ => ?_
    rw [mul_one, hs x, exp2_nat]
  haveI : Nonempty (Fin n) := ⟨⟨0, hn0⟩⟩
  have hS : 0 < ∑ y, Real.exp (t y) := Finset.sum_pos (fun y _ => Real.exp_pos _) Finset.univ_nonempty
  have h2 : 0 < (2 : ℝ) ^ (-r) := Real.rpow_pos_of_pos (by norm_num) _
  rw [ez, Ideal.div_coe (mul_pos hS h2).ne', mul_comm]
  unfold wsum softavg
  rw [mul_sum _ _ (by positivity), Finset.sum_range]
  refine Finset.sum_congr rfl fun x _ => ?_
  rw [hs x, exp2_nat, ← mul_assoc, ← EReal.coe_mul, mul_comm]
  congr 2
  field_simp

/-- A softmax weight with the scores lowered by a real. -/
theorem weight_of {n : ℕ} (t : Fin n → ℝ) (T : ℝ) (x : Fin n) :
    Ideal.div (Ideal.exp ((t x : EReal) - (T : EReal))) (∑ y, Ideal.exp ((t y : EReal) - (T : EReal)))
      = ((Real.exp (t x) / ∑ y, Real.exp (t y) : ℝ) : EReal) := by
  have e : ∀ y, Ideal.exp ((t y : EReal) - (T : EReal)) = ((Real.exp (t y) * Real.exp (-T) : ℝ) : EReal) := fun y => by
    rw [← EReal.coe_sub, Ideal.exp_coe, sub_eq_add_neg, Real.exp_add]
  haveI : Nonempty (Fin n) := ⟨x⟩
  have hS : 0 < ∑ y, Real.exp (t y) := Finset.sum_pos (fun y _ => Real.exp_pos _) Finset.univ_nonempty
  have hT := Real.exp_pos (-T)
  rw [Finset.sum_congr rfl fun y _ => e y, ← coe_sum, e, ← Finset.sum_mul, Ideal.div_coe (mul_pos hS hT).ne', ← EReal.coe_mul]
  congr 1
  field_simp

end Cert.Softmax

end
-- ==== Proof.FlashScores.lean ====
/-
  The scores that a query row of the flash attention meets, over all keys of its batch, and how a tile moves the running
  maximum and accumulator along them.
-/
module

public import proofs.«01_k».proof.Proof.FlashBlocks
public import proofs.«01_k».proof.Proof.Softmax

@[expose] public section

set_option maxRecDepth 16384

noncomputable section

namespace Cert.Kernel4Ideal.Flash

open Cert.Kernel4Ideal Cert.Kernel4Ideal.Gen Idealize.ShloMosaic Idealize.ShloMosaic.TcCoe Idealize.SL.Sem
open Cert.Softmax

/-- The score of row `ρ` of batch `b`, head `g` of key head `h`, against key `j`, as the kernel scales it. -/
def raw (q : FVec Ideal S16896x1024 .f32) (k : FVec Ideal S16896x256 .f32) (b h : Fin 2) (g : Fin 4) (ρ j : Fin 8448) : EReal :=
  ∑ d : Fin 128, Ideal.div (q (ix2 (⟨b.val * 8448 + ρ.val, by omega⟩ : Fin 16896) (⟨h.val * 512 + g.val * 128 + d.val, by omega⟩ : Fin 1024))) scale
    * k (ix2 (⟨b.val * 8448 + j.val, by omega⟩ : Fin 16896) (⟨h.val * 128 + d.val, by omega⟩ : Fin 256))

/-- The same with the mask, and `⊥` past the last key. -/
def seen (q : FVec Ideal S16896x1024 .f32) (k : FVec Ideal S16896x256 .f32) (b h : Fin 2) (g : Fin 4) (ρ : Fin 8448) (j : ℕ) : EReal :=
  if hj : j < 8448 then (if ρ.val < 256 ∧ 256 ≤ j then ⊥ else raw q k b h g ρ ⟨j, hj⟩) else ⊥

/-- Column `cc` of the values of key `j`, beside ones. -/
def held (v : FVec Ideal S16896x256 .f32) (b h : Fin 2) (cc : Fin 256) (j : ℕ) : EReal :=
  if hc : cc.val < 128 then
    (if hj : j < 8448 then v (ix2 (⟨b.val * 8448 + j, by omega⟩ : Fin 16896) (⟨h.val * 128 + cc.val, by omega⟩ : Fin 256)) else 0)
  else 1

/-- The natural score: the product over the root of the head's width. -/
def natural (q : S16896x1024.Idx → ℝ) (k : S16896x256.Idx → ℝ) (b h : Fin 2) (g : Fin 4) (ρ j : Fin 8448) : ℝ :=
  (∑ d : Fin 128, q (ix2 (⟨b.val * 8448 + ρ.val, by omega⟩ : Fin 16896) (⟨h.val * 512 + g.val * 128 + d.val, by omega⟩ : Fin 1024))
    * k (ix2 (⟨b.val * 8448 + j.val, by omega⟩ : Fin 16896) (⟨h.val * 128 + d.val, by omega⟩ : Fin 256))) / √128

theorem ofBits_128 : Ideal.ofBits .f32 0x43000000#32 = ((128 : ℝ) : EReal) := by
  simp [Ideal.ofBits, Ideal.ieee, -EReal.coe_mul]
  norm_num

theorem ofBits_2 : Ideal.ofBits .f32 0x40000000#32 = ((2 : ℝ) : EReal) := by
  simp [Ideal.ofBits, Ideal.ieee, -EReal.coe_mul]
  norm_num

theorem scale_eq : scale = ((√128 * Real.log 2 : ℝ) : EReal) := by
  rw [scale, ofBits_128, ofBits_2, Ideal.sqrt_coe, if_neg (by norm_num : ¬(128 : ℝ) < 0), Ideal.log_coe, if_neg (by norm_num : ¬(2 : ℝ) ≤ 0), ← EReal.coe_mul]

theorem log2_pos : 0 < Real.log 2 := Real.log_pos (by norm_num)
theorem root_pos : 0 < √(128 : ℝ) := Real.sqrt_pos.mpr (by norm_num)

/-- With real queries and keys the kernel's score is the natural one in units of the logarithm of two. -/
theorem raw_real (q : FVec Ideal S16896x1024 .f32) (k : FVec Ideal S16896x256 .f32) (q' : S16896x1024.Idx → ℝ)
    (k' : S16896x256.Idx → ℝ) (hq : ∀ y, q y = (q' y : EReal)) (hk : ∀ y, k y = (k' y : EReal)) (b h : Fin 2) (g : Fin 4)
    (ρ j : Fin 8448) : raw q k b h g ρ j = ((natural q' k' b h g ρ j / Real.log 2 : ℝ) : EReal) := by
  unfold raw natural
  rw [Finset.sum_div, Finset.sum_div, coe_sum]
  refine Finset.sum_congr rfl fun d _ => ?_
  rw [hq, hk, scale_eq, Ideal.div_coe (mul_pos root_pos log2_pos).ne', ← EReal.coe_mul, ← EReal.coe_mul]
  congr 1
  have := root_pos.ne'
  have := log2_pos.ne'
  field_simp

theorem seen_score (q : FVec Ideal S16896x1024 .f32) (k : FVec Ideal S16896x256 .f32) (q' : S16896x1024.Idx → ℝ)
    (k' : S16896x256.Idx → ℝ) (hq : ∀ y, q y = (q' y : EReal)) (hk : ∀ y, k y = (k' y : EReal)) (b h : Fin 2) (g : Fin 4)
    (ρ : Fin 8448) (j : ℕ) : IsScore (seen q k b h g ρ j) := by
  unfold seen
  split_ifs
  · exact Or.inl rfl
  · exact Or.inr ⟨_, raw_real q k q' k' hq hk b h g ρ _⟩
  · exact Or.inl rfl

/-- A later tile's step. -/
theorem step_later (s : ℕ → EReal) (hs : ∀ j, IsScore (s j)) (n : ℕ) (s' : Fin 768 → EReal) (hs' : ∀ x, s' x = s (n + x.val))
    (r : ℝ) : ∃ r' : ℝ, newMax s' r = r' ∧ ∀ v' : Fin 768 → EReal, ∀ v : ℕ → EReal, (∀ x, v' x = v (n + x.val)) →
      newAcc s' v' r (wsum s v n r) = wsum s v (n + 768) r' := by
  obtain ⟨r', e⟩ := max_real s' (fun x => by rw [hs' x]; exact hs _) r (Or.inr ⟨r, rfl⟩) (Or.inl ⟨r, rfl⟩)
  refine ⟨r', e, fun v' v hv => ?_⟩
  unfold newAcc
  rw [show newMax s' r = r' from e, funext hs', funext hv]
  exact tile_acc s v hs n 768 r r'

/-- The first tile's step. -/
theorem step_first (s : ℕ → EReal) (hs : ∀ j, IsScore (s j)) (s' : Fin 768 → EReal) (hs' : ∀ x, s' x = s x.val)
    (h0 : ∃ r : ℝ, s 0 = r) : ∃ r' : ℝ, newMax s' ⊥ = r' ∧ ∀ v' : Fin 768 → EReal, ∀ v : ℕ → EReal, (∀ x, v' x = v x.val) →
      newAcc s' v' ⊥ 0 = wsum s v 768 r' := by
  obtain ⟨r0, h0⟩ := h0
  obtain ⟨r', e⟩ := max_real s' (fun x => by rw [hs' x]; exact hs _) ⊥ (Or.inl rfl) (Or.inr ⟨0, r0, (hs' 0).trans h0⟩)
  refine ⟨r', e, fun v' v hv => ?_⟩
  unfold newAcc
  rw [show newMax s' ⊥ = r' from e, funext hs', funext hv]
  exact tile_first s v 768 r'

section Point

variable (m : (ℓ : Loc nD τ sig) → Buf (Elt Ideal) ℓ) (c : Dev nD) (t : Fin cfg0.N)

theorem point_lt : t.val < 352 := t.isLt

/-- The point's batch, key head and query row. -/
def batch : Fin 2 := ⟨t.val / 176, by have := point_lt t; omega⟩
def keyHead : Fin 2 := ⟨t.val / 88 % 2, by omega⟩
def row (r : Fin 1056) : Fin 8448 := ⟨t.val / 11 % 8 * 1056 + r.val, by omega⟩

/-- A point's masked scores are a stretch of the row's. -/
theorem tile_seen (g : Fin 4) (r : Fin 1056) (x : Fin 768) :
    mscore (grid0.coords t 2).val (grid0.coords t 3).val (iblk m c 0 t) (iblk m c 1 t) g r x
      = seen (m (c.tc.loc main_arg0)) (m (c.tc.loc main_arg1)) (batch t) (keyHead t) g (row t r) (t.val % 11 * 768 + x.val) := by
  have hj : t.val % 11 * 768 + x.val < 8448 := by omega
  rw [coord2, coord3]
  unfold mscore seen
  rw [dif_pos hj]
  refine if_congr Iff.rfl rfl ?_
  unfold score raw
  refine Finset.sum_congr rfl fun d _ => ?_
  rw [blk_q m c t r ⟨g.val * 128 + d.val, by omega⟩ _ _ ?_ ?_, blk_k m c t x d _ _ ?_ ?_]
  · show (batch t).val * 8448 + (t.val % 11 * 768 + x.val) = _
    simp only [batch]; omega
  · rfl
  · show (batch t).val * 8448 + (row t r).val = _
    simp only [batch, row]; omega
  · show (keyHead t).val * 512 + g.val * 128 + d.val = _
    simp only [keyHead]; omega

/-- A point's values are a stretch of the batch's. -/
theorem tile_held (cc : Fin 256) (x : Fin 768) :
    vext (iblk m c 2 t) cc x = held (m (c.tc.loc main_arg2)) (batch t) (keyHead t) cc (t.val % 11 * 768 + x.val) := by
  have hj : t.val % 11 * 768 + x.val < 8448 := by omega
  unfold vext held
  by_cases hc : cc.val < 128
  · rw [dif_pos hc, dif_pos hc, dif_pos hj]
    rw [blk_v m c t x ⟨cc.val, hc⟩ _ _ ?_ ?_]
    · show (batch t).val * 8448 + (t.val % 11 * 768 + x.val) = _
      simp only [batch]; omega
    · rfl
  · rw [dif_neg hc, dif_neg hc]

end Point

end Cert.Kernel4Ideal.Flash

end
-- ==== Proof.FlashArray.lean ====
/-
  The array that the flash attention leaves: after each point the running maximum is real and the running accumulator is
  the weighted sum over the keys met so far; the quotient at the last key tile is the softmax average.
-/
module

public import proofs.«01_k».proof.Proof.FlashFirst
public import proofs.«01_k».proof.Proof.Gen.Kernel4Ideal.Value
public import proofs.«01_k».proof.Proof.FlashLater
public import proofs.«01_k».proof.Proof.FlashOut
public import proofs.«01_k».proof.Proof.FlashScores

@[expose] public section

set_option maxRecDepth 16384

noncomputable section

namespace Cert.Kernel4Ideal.Flash

open Cert.Kernel4Ideal Cert.Kernel4Ideal.Gen Idealize.ShloMosaic Idealize.ShloMosaic.TcCoe Idealize.SL.Sem
open Idealize.ShloMosaic.Pipeline (Dat)
open Cert.Softmax

variable (m : (ℓ : Loc nD τ sig) → Buf (Elt Ideal) ℓ) (c : Dev nD)

/-- The running maximum and accumulator after a first key tile. -/
theorem after_first (t : Fin cfg0.N) (h0 : t.val % 11 = 0) (g : Fin 4) (r : Fin 1056) :
    (outsAt0 m c t.val t.isLt).2.1 (ix3 g r 0)
        = newMax (mscore (grid0.coords t 2).val (grid0.coords t 3).val (iblk m c 0 t) (iblk m c 1 t) g r) ⊥
      ∧ ∀ cc, (outsAt0 m c t.val t.isLt).2.2 (ix3 g r cc)
        = newAcc (mscore (grid0.coords t 2).val (grid0.coords t 3).val (iblk m c 0 t) (iblk m c 1 t) g r) (vext (iblk m c 2 t) cc) ⊥ 0 := by
  have h3 : ¬t.val % 11 = 10 := by omega
  by_cases h1 : t.val / 11 % 8 = 0
  · rw [outsAt0_A m c t h0 h1 (by omega) h3]
    dsimp only
    exact ⟨max_A _ _ _ _ _ _ _ _ _ _ _ _ _ _ _ _ _ _ _ _ _ _ _ _ _ g r,
      fun cc => acc_A _ _ _ _ _ _ _ _ _ _ _ _ _ _ _ _ _ _ _ _ _ _ _ _ _ g r cc⟩
  · rw [outsAt0_D m c t h0 h1 (by omega) h3]
    dsimp only
    exact ⟨max_D _ _ _ _ _ _ _ _ _ _ _ _ _ _ _ _ _ _ _ _ _ _ _ _ _ g r,
      fun cc => acc_D _ _ _ _ _ _ _ _ _ _ _ _ _ _ _ _ _ _ _ _ _ _ _ _ _ g r cc⟩

/-- The running maximum and accumulator after a later key tile, over those before it. -/
theorem after_later (t : Fin cfg0.N) (h0 : ¬t.val % 11 = 0) (hp : t.val - 1 < cfg0.N) (g : Fin 4) (r : Fin 1056) :
    (outsAt0 m c t.val t.isLt).2.1 (ix3 g r 0)
        = newMax (mscore (grid0.coords t 2).val (grid0.coords t 3).val (iblk m c 0 t) (iblk m c 1 t) g r)
            ((outsAt0 m c (t.val - 1) hp).2.1 (ix3 g r 0))
      ∧ ∀ cc, (outsAt0 m c t.val t.isLt).2.2 (ix3 g r cc)
        = newAcc (mscore (grid0.coords t 2).val (grid0.coords t 3).val (iblk m c 0 t) (iblk m c 1 t) g r) (vext (iblk m c 2 t) cc)
            ((outsAt0 m c (t.val - 1) hp).2.1 (ix3 g r 0)) ((outsAt0 m c (t.val - 1) hp).2.2 (ix3 g r cc)) := by
  by_cases h1 : t.val / 11 % 8 = 0 <;> by_cases h3 : t.val % 11 = 10
  · rw [outsAt0_C m c t h0 h1 (by omega) h3]
    dsimp only
    exact ⟨max_C _ _ _ _ _ _ _ _ _ _ _ _ _ _ _ _ _ _ _ _ _ _ _ _ _ _ _ g r,
      fun cc => acc_C _ _ _ _ _ _ _ _ _ _ _ _ _ _ _ _ _ _ _ _ _ _ _ _ _ _ _ g r cc⟩
  · rw [outsAt0_B m c t h0 h1 (by omega) h3]
    dsimp only
    exact ⟨max_B _ _ _ _ _ _ _ _ _ _ _ _ _ _ _ _ _ _ _ _ _ _ _ _ _ _ _ g r,
      fun cc => acc_B _ _ _ _ _ _ _ _ _ _ _ _ _ _ _ _ _ _ _ _ _ _ _ _ _ _ _ g r cc⟩
  · rw [outsAt0_F m c t h0 h1 (by omega) h3]
    dsimp only
    exact ⟨max_F _ _ _ _ _ _ _ _ _ _ _ _ _ _ _ _ _ _ _ _ _ _ _ _ _ _ _ g r,
      fun cc => acc_F _ _ _ _ _ _ _ _ _ _ _ _ _ _ _ _ _ _ _ _ _ _ _ _ _ _ _ g r cc⟩
  · rw [outsAt0_E m c t h0 h1 (by omega) h3]
    dsimp only
    exact ⟨max_E _ _ _ _ _ _ _ _ _ _ _ _ _ _ _ _ _ _ _ _ _ _ _ _ _ _ _ g r,
      fun cc => acc_E _ _ _ _ _ _ _ _ _ _ _ _ _ _ _ _ _ _ _ _ _ _ _ _ _ _ _ g r cc⟩

/-- The output block at a last key tile. -/
theorem out_last (t : Fin cfg0.N) (h3 : t.val % 11 = 10) (g : Fin 4) (r : Fin 1056) (d : Fin 128) :
    (outsAt0 m c t.val t.isLt).1 (ix2 r (⟨g.val * 128 + d.val, by omega⟩ : Fin 512))
      = Ideal.div ((outsAt0 m c t.val t.isLt).2.2 (ix3 g r (⟨d.val, by omega⟩ : Fin 256)))
          ((outsAt0 m c t.val t.isLt).2.2 (ix3 g r (⟨128 + d.val, by omega⟩ : Fin 256))) := by
  by_cases h1 : t.val / 11 % 8 = 0
  · rw [outsAt0_C m c t (by omega) h1 (by omega) h3]
    dsimp only
    exact out_C _ _ _ _ _ _ _ _ _ _ _ _ _ _ _ _ _ _ _ _ _ _ _ _ _ _ _ g r d
  · rw [outsAt0_F m c t (by omega) h1 (by omega) h3]
    dsimp only
    exact out_F _ _ _ _ _ _ _ _ _ _ _ _ _ _ _ _ _ _ _ _ _ _ _ _ _ _ _ g r d

/-- One entry of the attention: a context row averages over the context, any other over all keys of its batch. -/
def attend (q : S16896x1024.Idx → ℝ) (k : S16896x256.Idx → ℝ) (v : FVec Ideal S16896x256 .f32) (b h : Fin 2) (g : Fin 4)
    (ρ : Fin 8448) (d : Fin 128) : EReal :=
  if ρ.val < 256 then
    softavg (fun x : Fin 256 => natural q k b h g ρ ⟨x.val, by omega⟩)
      (fun x => v (ix2 (⟨b.val * 8448 + x.val, by omega⟩ : Fin 16896) (⟨h.val * 128 + d.val, by omega⟩ : Fin 256)))
  else
    softavg (fun x : Fin 8448 => natural q k b h g ρ x)
      (fun x => v (ix2 (⟨b.val * 8448 + x.val, by omega⟩ : Fin 16896) (⟨h.val * 128 + d.val, by omega⟩ : Fin 256)))

/-- The attention's array. -/
def attended (q : S16896x1024.Idx → ℝ) (k : S16896x256.Idx → ℝ) (v : FVec Ideal S16896x256 .f32) (y : S16896x1024.Idx) : EReal :=
  attend q k v ⟨(y 0).val / 8448, by have := (y 0).isLt; change _ < 16896 at this; omega⟩
    ⟨(y 1).val / 512, by have := (y 1).isLt; change _ < 1024 at this; omega⟩ ⟨(y 1).val / 128 % 4, by omega⟩
    ⟨(y 0).val % 8448, by omega⟩ ⟨(y 1).val % 128, by omega⟩

/-- The quotient of the two sums over all keys is the attention's entry. -/
theorem quot_attend (q : FVec Ideal S16896x1024 .f32) (k v : FVec Ideal S16896x256 .f32) (q' : S16896x1024.Idx → ℝ)
    (k' : S16896x256.Idx → ℝ) (hq : ∀ y, q y = (q' y : EReal)) (hk : ∀ y, k y = (k' y : EReal)) (b h : Fin 2) (g : Fin 4)
    (ρ : Fin 8448) (d : Fin 128) (r : ℝ) :
    Ideal.div (wsum (seen q k b h g ρ) (held v b h (⟨d.val, by omega⟩ : Fin 256)) 8448 r)
        (wsum (seen q k b h g ρ) (held v b h (⟨128 + d.val, by omega⟩ : Fin 256)) 8448 r) = attend q' k' v b h g ρ d := by
  have e1 : held v b h (⟨128 + d.val, by omega⟩ : Fin 256) = fun _ => 1 := by
    funext j
    exact dif_neg (by dsimp only; omega)
  have ev : ∀ j (hj : j < 8448), held v b h (⟨d.val, by omega⟩ : Fin 256) j
      = v (ix2 (⟨b.val * 8448 + j, by omega⟩ : Fin 16896) (⟨h.val * 128 + d.val, by omega⟩ : Fin 256)) := fun j hj => by
    unfold held
    rw [dif_pos d.isLt, dif_pos hj]
  rw [e1]
  unfold attend
  by_cases hρ : ρ.val < 256
  · rw [if_pos hρ]
    refine (quot_of (n := 256) (by omega) 8448 (by omega) _ _ r (fun x => natural q' k' b h g ρ ⟨x.val, by omega⟩) ?_ ?_).trans ?_
    · intro j hj
      unfold seen
      by_cases h' : j < 8448
      · rw [dif_pos h', if_pos ⟨hρ, hj⟩]
      · rw [dif_neg h']
    · intro x
      unfold seen
      rw [dif_pos (by omega : x.val < 8448), if_neg (by omega), raw_real q k q' k' hq hk]
    · exact congrArg _ (funext fun x => ev _ (by omega))
  · rw [if_neg hρ]
    refine (quot_of (n := 8448) (by omega) 8448 le_rfl _ _ r (fun x => natural q' k' b h g ρ x) ?_ ?_).trans ?_
    · intro j hj
      unfold seen
      rw [dif_neg (by omega)]
    · intro x
      unfold seen
      rw [dif_pos x.isLt, if_neg (by omega), raw_real q k q' k' hq hk]
    · exact congrArg _ (funext fun x => ev _ x.isLt)

section Real

variable (q' : S16896x1024.Idx → ℝ) (k' : S16896x256.Idx → ℝ) (hq : ∀ y, m (c.tc.loc main_arg0) y = (q' y : EReal))
  (hk : ∀ y, m (c.tc.loc main_arg1) y = (k' y : EReal))

include hq hk in
/-- After each point the maximum is real and the accumulator is the weighted sum over the keys so far. -/
theorem state : ∀ (n : ℕ) (hn : n < cfg0.N) (g : Fin 4) (r : Fin 1056), ∃ M : ℝ,
    (outsAt0 m c n hn).2.1 (ix3 g r 0) = (M : EReal)
      ∧ ∀ cc, (outsAt0 m c n hn).2.2 (ix3 g r cc)
        = wsum (seen (m (c.tc.loc main_arg0)) (m (c.tc.loc main_arg1)) (batch ⟨n, hn⟩) (keyHead ⟨n, hn⟩) g (row ⟨n, hn⟩ r))
            (held (m (c.tc.loc main_arg2)) (batch ⟨n, hn⟩) (keyHead ⟨n, hn⟩) cc) (n % 11 * 768 + 768) M := by
  have start : ∀ (t : Fin cfg0.N) (h0 : t.val % 11 = 0) (g : Fin 4) (r : Fin 1056), ∃ M : ℝ,
      (outsAt0 m c t.val t.isLt).2.1 (ix3 g r 0) = (M : EReal)
        ∧ ∀ cc, (outsAt0 m c t.val t.isLt).2.2 (ix3 g r cc)
          = wsum (seen (m (c.tc.loc main_arg0)) (m (c.tc.loc main_arg1)) (batch t) (keyHead t) g (row t r))
              (held (m (c.tc.loc main_arg2)) (batch t) (keyHead t) cc) (t.val % 11 * 768 + 768) M := by
    intro t h0 g r
    obtain ⟨hm, ha⟩ := after_first m c t h0 g r
    obtain ⟨M, e, hv⟩ := step_first (seen (m (c.tc.loc main_arg0)) (m (c.tc.loc main_arg1)) (batch t) (keyHead t) g (row t r))
      (seen_score _ _ q' k' hq hk _ _ _ _)
      (mscore (grid0.coords t 2).val (grid0.coords t 3).val (iblk m c 0 t) (iblk m c 1 t) g r)
      (fun x => (tile_seen m c t g r x).trans (congrArg _ (by omega)))
      ⟨_, (dif_pos (by omega)).trans ((if_neg (by omega)).trans (raw_real _ _ q' k' hq hk _ _ _ _ _))⟩
    refine ⟨M, hm.trans e, fun cc => (ha cc).trans ((hv _ _ fun x => (tile_held m c t cc x).trans (congrArg _ (by omega))).trans ?_)⟩
    rw [h0]
  intro n
  induction n with
  | zero => exact fun hn g r => start ⟨0, hn⟩ rfl g r
  | succ n ih =>
    intro hn g r
    by_cases h0 : (n + 1) % 11 = 0
    · exact start ⟨n + 1, hn⟩ h0 g r
    · have hn' : n < cfg0.N := Nat.lt_of_succ_lt hn
      obtain ⟨M0, hM, hA⟩ := ih hn' g r
      obtain ⟨hm, ha⟩ := after_later m c ⟨n + 1, hn⟩ h0 hn' g r
      have eb : batch ⟨n, hn'⟩ = batch ⟨n + 1, hn⟩ := Fin.ext (by simp only [batch]; omega)
      have eh : keyHead ⟨n, hn'⟩ = keyHead ⟨n + 1, hn⟩ := Fin.ext (by simp only [keyHead]; omega)
      have er : row ⟨n, hn'⟩ r = row ⟨n + 1, hn⟩ r := Fin.ext (by simp only [row]; omega)
      have en : n % 11 * 768 + 768 = (n + 1) % 11 * 768 := by omega
      rw [eb, eh, er, en] at hA
      obtain ⟨M, e, hv⟩ := step_later
        (seen (m (c.tc.loc main_arg0)) (m (c.tc.loc main_arg1)) (batch ⟨n + 1, hn⟩) (keyHead ⟨n + 1, hn⟩) g (row ⟨n + 1, hn⟩ r))
        (seen_score _ _ q' k' hq hk _ _ _ _) ((n + 1) % 11 * 768)
        (mscore (grid0.coords ⟨n + 1, hn⟩ 2).val (grid0.coords ⟨n + 1, hn⟩ 3).val (iblk m c 0 ⟨n + 1, hn⟩) (iblk m c 1 ⟨n + 1, hn⟩) g r)
        (fun x => tile_seen m c ⟨n + 1, hn⟩ g r x) M0
      refine ⟨M, hm.trans ?_, fun cc => (ha cc).trans ?_⟩
      · exact (congrArg (newMax _) hM).trans e
      · refine Eq.trans ?_ (hv _ _ fun x => tile_held m c ⟨n + 1, hn⟩ cc x)
        exact congrArg₂ (newAcc _ _) hM (hA cc)

include hq hk in
/-- What a last key tile leaves in the output block is the block of the attention it stands on. -/
theorem out_attended (t : Fin cfg0.N) (h3 : t.val % 11 = 10) (a : Fin 1056) (n : Fin 512) (y : S16896x1024.Idx)
    (h0 : (y 0).val = (t.val / 176 * 8 + t.val / 11 % 8) * 1056 + a.val) (h1 : (y 1).val = t.val / 88 % 2 * 512 + n.val) :
    (dats m 0 c).after 3 t (ix2 a n) = attended q' k' (m (c.tc.loc main_arg2)) y := by
  rw [after0_3]
  have e := out_last m c t h3 ⟨n.val / 128, by omega⟩ a ⟨n.val % 128, by omega⟩
  rw [show (⟨n.val / 128 * 128 + n.val % 128, by omega⟩ : Fin 512) = n from Fin.ext (by dsimp only; omega)] at e
  refine e.trans ?_
  obtain ⟨M, -, hA⟩ := state m c q' k' hq hk t.val t.isLt ⟨n.val / 128, by omega⟩ a
  rw [hA, hA, h3]
  refine (quot_attend _ _ _ q' k' hq hk _ _ _ _ ⟨n.val % 128, by omega⟩ M).trans ?_
  unfold attended
  have := point_lt t
  congr 1
  · exact Fin.ext (by simp only [batch]; omega)
  · exact Fin.ext (by simp only [keyHead]; omega)
  · exact Fin.ext (by dsimp only; omega)
  · exact Fin.ext (by simp only [row]; omega)
  · exact Fin.ext (by dsimp only; omega)

include hq hk in
/-- The array that the run leaves. -/
theorem final : (dats m 0 c).arrAt 3 cfg0.N = attended q' k' (m (c.tc.loc main_arg2)) := by
  refine (dats m 0 c).arrAt_eq_of_covers 3 _ (Pipeline.Window.covers_of_index_surj _ rfl (by decide) fun β => ?_)
    fun t hf y => ?_
  · have hb0 : (β 0).val < 16 := (β 0).isLt
    have hb1 : (β 1).val < 2 := (β 1).isLt
    refine ⟨⟨(β 0).val / 8 * 176 + (β 1).val * 88 + (β 0).val % 8 * 11, by show _ < 352; omega⟩, fun a => ?_⟩
    refine (congrFun (index3 _) a).trans ?_
    match a with
    | ⟨0, _⟩ =>
      show ((β 0).val / 8 * 176 + (β 1).val * 88 + (β 0).val % 8 * 11) / 176 * 8
        + ((β 0).val / 8 * 176 + (β 1).val * 88 + (β 0).val % 8 * 11) / 11 % 8 = (β 0).val
      omega
    | ⟨1, _⟩ => show ((β 0).val / 8 * 176 + (β 1).val * 88 + (β 0).val % 8 * 11) / 88 % 2 = (β 1).val; omega
  · have h3 : t.val % 11 = 10 := (flush0_3 t).mp hf
    blk_simp
    refine Eq.trans ?_ (out_attended m c q' k' hq hk t h3 (y 0) (y 1) _ (by blk_simp [index3 t]) (by blk_simp [index3 t]))
    exact congrArg _ (ix2_eta y).symm

end Real

end Cert.Kernel4Ideal.Flash

end
-- ==== Proof.FlashRef.lean ====
/-
  The plain attention's result, entry by entry: the same function of the arguments as the kernel's array.
-/
module

public import proofs.«01_k».proof.Proof.FlashArray
public import proofs.«01_k».proof.Proof.Gen.Reference4Ideal.Run
public import Idealize.ShloMosaic.Lib.Tactic.ValueTie

@[expose] public section

set_option maxRecDepth 16384

noncomputable section

namespace Cert.Reference4Ideal.Flash

open Cert.Reference4Ideal Cert.Reference4Ideal.Gen Cert.Reference4Ideal.Value Idealize.ShloMosaic Idealize.ShloMosaic.TcCoe Idealize.SL.Sem
open Cert.Softmax
open Cert.Kernel4Ideal.Flash (natural attend attended bot_word ofBits_128 root_pos)

theorem fold_max {n : ℕ} (w : EReal) (f : Fin n → EReal) :
    Finset.fold (FloatOps.maximumf (F := Ideal) (φ := .f32)) w f Finset.univ = Finset.fold max w f Finset.univ := rfl

/-- The largest score of a latent row. -/
theorem latent_max (S : FVec Ideal S2x2x4x8192x8448 .f32) (b h : Fin 2) (g : Fin 4) (r : Fin 8192) :
    Host.reduce FloatOps.maximumf S (constant S_ .f32 0xFF800000#32) reducesTo_S2x2x4x8192x8448_S2x2x4x8192_d4 h_S_ (ix4 b h g r)
      = Finset.fold max ⊥ (fun z => S (ix5 b h g r z)) Finset.univ := by
  have hr : S2x2x4x8192x8448.Reduces [4] S2x2x4x8192 := by decide
  refine (Host.reduce_eq_fold_single FloatOps.maximumf S _ reducesTo_S2x2x4x8192x8448_S2x2x4x8192_d4 hr h_S_ _).trans ?_
  have e : (S ∘ hr.lift (ix4 b h g r)) = fun z => S (ix5 b h g r z) := by
    funext z
    refine congrArg S (funext fun a => Fin.ext ?_)
    match a with
    | ⟨0, _⟩ => rfl
    | ⟨1, _⟩ => rfl
    | ⟨2, _⟩ => rfl
    | ⟨3, _⟩ => rfl
    | ⟨4, _⟩ => rfl
  rw [e]
  refine (fold_max _ _).trans ?_
  rw [← bot_word]
  rfl

/-- The largest score of a context row. -/
theorem context_max (S : FVec Ideal S2x2x4x256x256 .f32) (b h : Fin 2) (g : Fin 4) (r : Fin 256) :
    Host.reduce FloatOps.maximumf S (constant S_ .f32 0xFF800000#32) reducesTo_S2x2x4x256x256_S2x2x4x256_d4 h_S_ (ix4 b h g r)
      = Finset.fold max ⊥ (fun z => S (ix5 b h g r z)) Finset.univ := by
  have hr : S2x2x4x256x256.Reduces [4] S2x2x4x256 := by decide
  refine (Host.reduce_eq_fold_single FloatOps.maximumf S _ reducesTo_S2x2x4x256x256_S2x2x4x256_d4 hr h_S_ _).trans ?_
  have e : (S ∘ hr.lift (ix4 b h g r)) = fun z => S (ix5 b h g r z) := by
    funext z
    refine congrArg S (funext fun a => Fin.ext ?_)
    match a with
    | ⟨0, _⟩ => rfl
    | ⟨1, _⟩ => rfl
    | ⟨2, _⟩ => rfl
    | ⟨3, _⟩ => rfl
    | ⟨4, _⟩ => rfl
  rw [e]
  refine (fold_max _ _).trans ?_
  rw [← bot_word]
  rfl

/-- A row's plain softmax average: real scores `t`, lowered by their maximum, and the values `v`. -/
theorem plain_avg {n : ℕ} (hn : 0 < n) (s : Fin n → EReal) (t : Fin n → ℝ) (hs : ∀ x, s x = (t x : EReal)) (v : Fin n → EReal)
    (M : EReal) (hM : M = Finset.fold max ⊥ s Finset.univ) :
    (∑ x, v x * Ideal.div (Ideal.exp (s x - max (Ideal.ofBits FTy.f32 4286578688#32) M))
      (∑ z, Ideal.exp (s z - max (Ideal.ofBits FTy.f32 4286578688#32) M))) = softavg t v := by
  obtain ⟨T, e⟩ := max_real s (fun x => Or.inr ⟨t x, hs x⟩) ⊥ (Or.inl rfl) (Or.inr ⟨⟨0, hn⟩, t _, hs _⟩)
  rw [bot_word, hM, e, funext hs]
  exact Finset.sum_congr rfl fun x _ => congrArg (v x * ·) (weight_of t T x)

/-- A plain score with real queries and keys. -/
theorem plain_score (q k : Fin 128 → EReal) (q' k' : Fin 128 → ℝ) (hq : ∀ d, q d = (q' d : EReal)) (hk : ∀ d, k d = (k' d : EReal)) :
    Ideal.div (∑ d, k d * q d) (Ideal.sqrt (Ideal.ofBits FTy.f32 1124073472#32)) = (((∑ d, q' d * k' d) / √128 : ℝ) : EReal) := by
  have e : (∑ d, k d * q d) = ((∑ d, q' d * k' d : ℝ) : EReal) := by
    rw [coe_sum]
    refine Finset.sum_congr rfl fun d _ => ?_
    rw [hq, hk, mul_comm, EReal.coe_mul]
  rw [e, ofBits_128, Ideal.sqrt_coe, if_neg (by norm_num : ¬(128 : ℝ) < 0), Ideal.div_coe root_pos.ne', ← EReal.coe_mul,
    mul_one_div]

/-- A context row's score against a context key. -/
theorem context_score (q : FVec Ideal S16896x1024 .f32) (k : FVec Ideal S16896x256 .f32) (q' : S16896x1024.Idx → ℝ)
    (k' : S16896x256.Idx → ℝ) (hq : ∀ y, q y = (q' y : EReal)) (hk : ∀ y, k y = (k' y : EReal)) (b h : Fin 2) (g : Fin 4)
    (r x : Fin 256) :
    Host.divf (transpose S2x2x4x256x256 [0, 1, 4, 3, 2]
        (Host.dotGeneral dot_S2x256x2x128_S2x256x2x4x128_S2x2x256x256x4_3_4_1_13_02_02 none
          (extractStridedSlice S2x256x2x128 ![0, 0, 0, 0]
            (shapeCast S2x8448x2x128 k shapeCasts_S16896x256_S2x8448x2x128) slices_S2x8448x2x128_S2x256x2x128_0_0_0_0)
          (extractStridedSlice S2x256x2x4x128 ![0, 0, 0, 0, 0]
            (shapeCast S2x8448x2x4x128 q shapeCasts_S16896x1024_S2x8448x2x4x128)
            slices_S2x8448x2x4x128_S2x256x2x4x128_0_0_0_0_0))
        transposes_S2x2x256x256x4_S2x2x4x256x256_0_1_4_3_2)
      (broadcastInDim S2x2x4x256x256 ![] bcast_S_S2x2x4x256x256 (Host.sqrt (constant S_ FTy.f32 1124073472#32))) (ix5 b h g r x)
      = ((natural q' k' b h g ⟨r.val, by omega⟩ ⟨x.val, by omega⟩ : ℝ) : EReal) := by
  pointwise []
  exact plain_score _ _ _ _ (fun d => hq _) (fun d => hk _)

/-- A latent row's score against any key of its batch. -/
theorem latent_score (q : FVec Ideal S16896x1024 .f32) (k : FVec Ideal S16896x256 .f32) (q' : S16896x1024.Idx → ℝ)
    (k' : S16896x256.Idx → ℝ) (hq : ∀ y, q y = (q' y : EReal)) (hk : ∀ y, k y = (k' y : EReal)) (b h : Fin 2) (g : Fin 4)
    (r : Fin 8192) (x : Fin 8448) :
    Host.divf (transpose S2x2x4x8192x8448 [0, 1, 4, 3, 2]
        (Host.dotGeneral dot_S2x8448x2x128_S2x8192x2x4x128_S2x2x8448x8192x4_3_4_1_13_02_02 none
          (shapeCast S2x8448x2x128 k shapeCasts_S16896x256_S2x8448x2x128)
          (extractStridedSlice S2x8192x2x4x128 ![0, 256, 0, 0, 0]
            (shapeCast S2x8448x2x4x128 q shapeCasts_S16896x1024_S2x8448x2x4x128)
            slices_S2x8448x2x4x128_S2x8192x2x4x128_0_256_0_0_0))
        transposes_S2x2x8448x8192x4_S2x2x4x8192x8448_0_1_4_3_2)
      (broadcastInDim S2x2x4x8192x8448 ![] bcast_S_S2x2x4x8192x8448 (Host.sqrt (constant S_ FTy.f32 1124073472#32))) (ix5 b h g r x)
      = ((natural q' k' b h g ⟨256 + r.val, by omega⟩ x : ℝ) : EReal) := by
  pointwise []
  exact plain_score _ _ _ _ (fun d => hq _) (fun d => hk _)

/-- A context row's weight from its scores and their maximum. -/
theorem context_weight (S : FVec Ideal S2x2x4x256x256 .f32) (M : FVec Ideal S2x2x4x256 .f32) (b h : Fin 2) (g : Fin 4) (r : Fin 256) (x : Fin 256) :
    Host.divf (Host.exp (subf S (broadcastInDim S2x2x4x256x256 ![0, 1, 2, 3, 4] bcast_S2x2x4x256x1_S2x2x4x256x256_0_1_2_3_4
        (broadcastInDim S2x2x4x256x1 ![0, 1, 2, 3] bcast_S2x2x4x256_S2x2x4x256x1_0_1_2_3
          (maximumf (broadcastInDim S2x2x4x256 ![] bcast_S_S2x2x4x256 (constant S_ .f32 0xFF800000#32)) M)))))
      (broadcastInDim S2x2x4x256x256 ![0, 1, 2, 3, 4] bcast_S2x2x4x256x1_S2x2x4x256x256_0_1_2_3_4
        (broadcastInDim S2x2x4x256x1 ![0, 1, 2, 3] bcast_S2x2x4x256_S2x2x4x256x1_0_1_2_3
          (Host.reduceAdd (Host.exp (subf S (broadcastInDim S2x2x4x256x256 ![0, 1, 2, 3, 4] bcast_S2x2x4x256x1_S2x2x4x256x256_0_1_2_3_4
            (broadcastInDim S2x2x4x256x1 ![0, 1, 2, 3] bcast_S2x2x4x256_S2x2x4x256x1_0_1_2_3
              (maximumf (broadcastInDim S2x2x4x256 ![] bcast_S_S2x2x4x256 (constant S_ .f32 0xFF800000#32)) M)))))
            (constant S_ .f32 0x00000000#32) reducesTo_S2x2x4x256x256_S2x2x4x256_d4 h_S_))) (ix5 b h g r x)
      = Ideal.div (Ideal.exp (S (ix5 b h g r x) - max (Ideal.ofBits FTy.f32 4286578688#32) (M (ix4 b h g r))))
          (∑ z, Ideal.exp (S (ix5 b h g r z) - max (Ideal.ofBits FTy.f32 4286578688#32) (M (ix4 b h g r)))) := by
  pointwise []

/-- A latent row's weight from its scores and their maximum. -/
theorem latent_weight (S : FVec Ideal S2x2x4x8192x8448 .f32) (M : FVec Ideal S2x2x4x8192 .f32) (b h : Fin 2) (g : Fin 4) (r : Fin 8192) (x : Fin 8448) :
    Host.divf (Host.exp (subf S (broadcastInDim S2x2x4x8192x8448 ![0, 1, 2, 3, 4] bcast_S2x2x4x8192x1_S2x2x4x8192x8448_0_1_2_3_4
        (broadcastInDim S2x2x4x8192x1 ![0, 1, 2, 3] bcast_S2x2x4x8192_S2x2x4x8192x1_0_1_2_3
          (maximumf (broadcastInDim S2x2x4x8192 ![] bcast_S_S2x2x4x8192 (constant S_ .f32 0xFF800000#32)) M)))))
      (broadcastInDim S2x2x4x8192x8448 ![0, 1, 2, 3, 4] bcast_S2x2x4x8192x1_S2x2x4x8192x8448_0_1_2_3_4
        (broadcastInDim S2x2x4x8192x1 ![0, 1, 2, 3] bcast_S2x2x4x8192_S2x2x4x8192x1_0_1_2_3
          (Host.reduceAdd (Host.exp (subf S (broadcastInDim S2x2x4x8192x8448 ![0, 1, 2, 3, 4] bcast_S2x2x4x8192x1_S2x2x4x8192x8448_0_1_2_3_4
            (broadcastInDim S2x2x4x8192x1 ![0, 1, 2, 3] bcast_S2x2x4x8192_S2x2x4x8192x1_0_1_2_3
              (maximumf (broadcastInDim S2x2x4x8192 ![] bcast_S_S2x2x4x8192 (constant S_ .f32 0xFF800000#32)) M)))))
            (constant S_ .f32 0x00000000#32) reducesTo_S2x2x4x8192x8448_S2x2x4x8192_d4 h_S_))) (ix5 b h g r x)
      = Ideal.div (Ideal.exp (S (ix5 b h g r x) - max (Ideal.ofBits FTy.f32 4286578688#32) (M (ix4 b h g r))))
          (∑ z, Ideal.exp (S (ix5 b h g r z) - max (Ideal.ofBits FTy.f32 4286578688#32) (M (ix4 b h g r)))) := by
  pointwise []

/-- The result's entry from the two parts' weights. -/
theorem joined (v : FVec Ideal S16896x256 .f32) (P : FVec Ideal S2x2x4x256x256 .f32) (Q : FVec Ideal S2x2x4x8192x8448 .f32)
    (b h : Fin 2) (g : Fin 4) (r : Fin 8448) (d : Fin 128) :
    concatenate S2x8448x2x4x128 1
      [⟨S2x256x2x4x128, (transpose S2x256x2x4x128 [0, 4, 1, 3, 2]
        (Host.dotGeneral dot_S2x256x2x128_S2x2x4x256x256_S2x2x128x4x256_1_4_3_23_02_01 none
          (extractStridedSlice S2x256x2x128 ![0, 0, 0, 0] (shapeCast S2x8448x2x128 v shapeCasts_S16896x256_S2x8448x2x128)
            slices_S2x8448x2x128_S2x256x2x128_0_0_0_0) P) transposes_S2x2x128x4x256_S2x256x2x4x128_0_4_1_3_2)⟩,
       ⟨S2x8192x2x4x128, (transpose S2x8192x2x4x128 [0, 4, 1, 3, 2]
        (Host.dotGeneral dot_S2x8448x2x128_S2x2x4x8192x8448_S2x2x128x4x8192_1_4_3_23_02_01 none
          (shapeCast S2x8448x2x128 v shapeCasts_S16896x256_S2x8448x2x128) Q)
        transposes_S2x2x128x4x8192_S2x8192x2x4x128_0_4_1_3_2)⟩] concatenates_S2x256x2x4x128_S2x8192x2x4x128_S2x8448x2x4x128_d1
      (ix5 b r h g d)
      = if hr : r.val < 256 then
          ∑ x : Fin 256, v (ix2 (⟨b.val * 8448 + x.val, by omega⟩ : Fin 16896) (⟨h.val * 128 + d.val, by omega⟩ : Fin 256))
            * P (ix5 b h g ⟨r.val, hr⟩ x)
        else
          ∑ x : Fin 8448, v (ix2 (⟨b.val * 8448 + x.val, by omega⟩ : Fin 16896) (⟨h.val * 128 + d.val, by omega⟩ : Fin 256))
            * Q (ix5 b h g ⟨r.val - 256, by omega⟩ x) := by
  pointwise []

/-- The result lies as the queries lie. -/
theorem laid (Y : FVec Ideal S2x8448x2x4x128 .f32) (y0 : Fin 16896) (y1 : Fin 1024) :
    truncf (F := Ideal) .bf16 (shapeCast S16896x1024 Y shapeCasts_S2x8448x2x4x128_S16896x1024) bitsLt_bf16_f32 (ix2 y0 y1)
      = Y (ix5 (⟨y0.val / 8448, by omega⟩ : Fin 2) (⟨y0.val % 8448, by omega⟩ : Fin 8448) (⟨y1.val / 512, by omega⟩ : Fin 2)
          (⟨y1.val / 128 % 4, by omega⟩ : Fin 4) (⟨y1.val % 128, by omega⟩ : Fin 128)) := by
  pointwise []

/-- One entry of the plain attention, its scores and their maxima taken as given. -/
theorem entry (q' : S16896x1024.Idx → ℝ) (k' : S16896x256.Idx → ℝ) (v : FVec Ideal S16896x256 .f32)
    (S : FVec Ideal S2x2x4x256x256 .f32) (T : FVec Ideal S2x2x4x8192x8448 .f32) (M : FVec Ideal S2x2x4x256 .f32)
    (N : FVec Ideal S2x2x4x8192 .f32) (P : FVec Ideal S2x2x4x256x256 .f32) (Q : FVec Ideal S2x2x4x8192x8448 .f32)
    (hS : ∀ b h g r x, S (ix5 b h g r x) = ((natural q' k' b h g ⟨r.val, by omega⟩ ⟨x.val, by omega⟩ : ℝ) : EReal))
    (hT : ∀ b h g r x, T (ix5 b h g r x) = ((natural q' k' b h g ⟨256 + r.val, by omega⟩ x : ℝ) : EReal))
    (hM : ∀ b h g r, M (ix4 b h g r) = Finset.fold max ⊥ (fun z => S (ix5 b h g r z)) Finset.univ)
    (hN : ∀ b h g r, N (ix4 b h g r) = Finset.fold max ⊥ (fun z => T (ix5 b h g r z)) Finset.univ)
    (hP : ∀ b h g r x, P (ix5 b h g r x)
      = Ideal.div (Ideal.exp (S (ix5 b h g r x) - max (Ideal.ofBits FTy.f32 4286578688#32) (M (ix4 b h g r))))
          (∑ z, Ideal.exp (S (ix5 b h g r z) - max (Ideal.ofBits FTy.f32 4286578688#32) (M (ix4 b h g r)))))
    (hQ : ∀ b h g r x, Q (ix5 b h g r x)
      = Ideal.div (Ideal.exp (T (ix5 b h g r x) - max (Ideal.ofBits FTy.f32 4286578688#32) (N (ix4 b h g r))))
          (∑ z, Ideal.exp (T (ix5 b h g r z) - max (Ideal.ofBits FTy.f32 4286578688#32) (N (ix4 b h g r)))))
    (b h : Fin 2) (g : Fin 4) (r : Fin 8448) (d : Fin 128) :
    (if hr : r.val < 256 then
      ∑ x : Fin 256, v (ix2 (⟨b.val * 8448 + x.val, by omega⟩ : Fin 16896) (⟨h.val * 128 + d.val, by omega⟩ : Fin 256))
        * P (ix5 b h g ⟨r.val, hr⟩ x)
    else
      ∑ x : Fin 8448, v (ix2 (⟨b.val * 8448 + x.val, by omega⟩ : Fin 16896) (⟨h.val * 128 + d.val, by omega⟩ : Fin 256))
        * Q (ix5 b h g ⟨r.val - 256, by omega⟩ x)) = attend q' k' v b h g r d := by
  unfold attend
  by_cases hr : r.val < 256
  · rw [dif_pos hr, if_pos hr]
    refine (Finset.sum_congr rfl fun x _ => congrArg (_ * ·) (hP b h g ⟨r.val, hr⟩ x)).trans ?_
    exact plain_avg (by omega) (fun x => S (ix5 b h g ⟨r.val, hr⟩ x)) _ (fun x => hS b h g ⟨r.val, hr⟩ x) _ _ (hM b h g ⟨r.val, hr⟩)
  · rw [dif_neg hr, if_neg hr]
    have e : (⟨256 + (r.val - 256), by omega⟩ : Fin 8448) = r := Fin.ext (by dsimp only; omega)
    refine (Finset.sum_congr rfl fun x _ => congrArg (_ * ·) (hQ b h g ⟨r.val - 256, by omega⟩ x)).trans ?_
    refine (plain_avg (by omega) (fun x => T (ix5 b h g ⟨r.val - 256, by omega⟩ x)) _ (fun x => hT b h g ⟨r.val - 256, by omega⟩ x) _ _
      (hN b h g ⟨r.val - 256, by omega⟩)).trans ?_
    simp only [e]

/-- The plain program's result is `attended` of its arguments. -/
theorem result (m : (ℓ : Loc nD τ sig) → Buf (Elt Ideal) ℓ) (c : Dev nD) (q' : S16896x1024.Idx → ℝ) (k' : S16896x256.Idx → ℝ)
    (hq : ∀ y, m (c.tc.loc main_arg0) y = (q' y : EReal)) (hk : ∀ y, m (c.tc.loc main_arg1) y = (k' y : EReal)) :
    res_out0 m c = attended q' k' (m (c.tc.loc main_arg2)) := by
  funext y
  idx_vars y
  unfold res_out0 res_main_v45
  refine (laid _ y0 y1).trans ?_
  refine (joined _ _ _ _ _ _ _ _).trans ?_
  exact entry q' k' _ _ _ _ _ _ _ (context_score _ _ q' k' hq hk) (latent_score _ _ q' k' hq hk) (context_max _) (latent_max _)
    (context_weight _ _) (latent_weight _ _) _ _ _ _ _

end Cert.Reference4Ideal.Flash

end
-- ==== Proof.PrepHeads.lean ====
/-
  The heads of one block of rows: each is normed, turned by the block's angles and, for the queries, scaled.
-/
module

public import proofs.«01_k».proof.Proof.Gen.Kernel5Ideal.Frame
public import Idealize.ShloMosaic.Lib.Pipeline.ValueKit
public import Idealize.ShloMosaic.Lib.Pipeline.Covers
public import Idealize.ShloMosaic.Lib.Pointwise
public import Idealize.ShloMosaic.Lib.Claim
public import Idealize.ShloMosaic.Lib.Tactic.ValueTie

@[expose] public section

set_option maxRecDepth 16384

noncomputable section

namespace Cert.Kernel5Ideal.Prep

open Cert.Kernel5Ideal Cert.Kernel5Ideal.Gen Idealize.ShloMosaic Idealize.ShloMosaic.TcCoe Idealize.SL.Sem
open Idealize.ShloMosaic.Pipeline (Dat)

/-- One feature of a head over the root of the head's mean square, times the gain. -/
def normed (x g : Fin 128 → EReal) (k : Fin 128) : EReal :=
  x k * Ideal.rsqrt (Ideal.div (∑ j, x j * x j) (Ideal.ofBits FTy.f32 0x43000000#32) + Ideal.ofBits FTy.f32 0x358637BD#32) * g k

/-- A feature's partner: the one in the other half of its half of the head. -/
def partner (j : Fin 128) : Fin 128 := if h : j.val % 64 < 32 then ⟨j.val + 32, by omega⟩ else ⟨j.val - 32, by omega⟩

/-- A feature times its cosine, plus its partner times its signed sine. -/
def turned (x cs sn : Fin 128 → EReal) (j : Fin 128) : EReal := x j * cs j + x (partner j) * sn j

/-- Whether a lane lies in the first half of its half of the head, as the body computes it. -/
def firstHalf (w : Fin 128) : BitVec 1 :=
  IntOp.cmpi CmpIPredicate.slt
    (Scalar.select
      (IntOp.andi
        (IntOp.xori
          (IntOp.cmpi CmpIPredicate.slt
            (IntOp.remsi ArithUnit.vector (BitVec.ofNat 32 w.val)
              (Scalar.select (Scalar.cmpi CmpIPredicate.eq 64#32 0#32) 1#32 64#32))
            0#32)
          (Scalar.cmpi CmpIPredicate.slt (Scalar.select (Scalar.cmpi CmpIPredicate.eq 64#32 0#32) 1#32 64#32) 0#32))
        (IntOp.cmpi CmpIPredicate.ne
          (IntOp.remsi ArithUnit.vector (BitVec.ofNat 32 w.val)
            (Scalar.select (Scalar.cmpi CmpIPredicate.eq 64#32 0#32) 1#32 64#32))
          0#32))
      (IntOp.addi
        (IntOp.remsi ArithUnit.vector (BitVec.ofNat 32 w.val)
          (Scalar.select (Scalar.cmpi CmpIPredicate.eq 64#32 0#32) 1#32 64#32))
        (Scalar.select (Scalar.cmpi CmpIPredicate.eq 64#32 0#32) 1#32 64#32))
      (IntOp.remsi ArithUnit.vector (BitVec.ofNat 32 w.val)
        (Scalar.select (Scalar.cmpi CmpIPredicate.eq 64#32 0#32) 1#32 64#32)))
    32#32

theorem firstHalf_eq : ∀ w : Fin 128, firstHalf w = if w.val % 64 < 32 then 1#1 else 0#1 := by decide +kernel

/-- Of the two turns of the head by lanes, the one chosen holds the partner. -/
theorem chosen (x : Fin 128 → EReal) (w : Fin 128) :
    Scalar.select (firstHalf w) (x ⟨(w.val + 128 - 96) % 128, Nat.mod_lt _ (by decide)⟩)
      (x ⟨(w.val + 128 - 32) % 128, Nat.mod_lt _ (by decide)⟩) = x (partner w) := by
  rw [firstHalf_eq]
  unfold partner
  split
  · exact congrArg x (Fin.ext (by show (w.val + 128 - 96) % 128 = w.val + 32; omega))
  · exact congrArg x (Fin.ext (by show (w.val + 128 - 32) % 128 = w.val - 32; omega))

/-- The body's expression for a turned feature of a head. -/
theorem turned_of (x g cs sn : Fin 128 → EReal) (w : Fin 128) :
    normed x g w * cs w + Scalar.select (firstHalf w) (normed x g ⟨(w.val + 128 - 96) % 128, Nat.mod_lt _ (by decide)⟩)
      (normed x g ⟨(w.val + 128 - 32) % 128, Nat.mod_lt _ (by decide)⟩) * sn w = turned (normed x g) cs sn w := by
  rw [chosen]
  rfl

/-- The queries' constant, named. -/
abbrev scale : EReal := (Named.named (F := Ideal) κ "scale" 0x3E0293EE#32 : Ideal .f32)

/-- A block's keys. -/
theorem outk_at (x0 : Vec Ideal S528x512 .f32) (x1 : Vec Ideal S528x1024 .f32) (x2 x3 : Vec Ideal S528x128 .f32)
    (x4 x5 : Vec Ideal S1x128 .f32) (a : Fin 528) (h : Fin 2) (j : Fin 128) :
    out0_7 x0 x1 x2 x3 x4 x5 (ix2 a ⟨h.val * 128 + j.val, by omega⟩)
      = turned (normed (fun k => x0 (ix2 a ⟨h.val * 128 + k.val, by omega⟩)) (fun k => x5 (ix2 0 k)))
          (fun k => x2 (ix2 a k)) (fun k => x3 (ix2 a k)) j := by
  unfold_out out0_7
  frame_out
  canon_tiles w hw
  · idx_vars w
    pointwise [k0_pay37, k0_pay36, k0_pay1, k0_pay2]
    obtain rfl : a = w0 := Fin.ext hw0
    obtain rfl : j = w1 := Fin.ext (by omega)
    obtain rfl : h = 1 := Fin.ext (by omega)
    exact turned_of (fun k => x0 (ix2 a ⟨128 + k.val, by omega⟩)) (fun k => x5 (ix2 0 k)) (fun k => x2 (ix2 a k)) (fun k => x3 (ix2 a k)) j
  · idx_vars w
    pointwise [k0_pay35, k0_pay34, k0_pay1, k0_pay2]
    obtain rfl : a = w0 := Fin.ext hw0
    obtain rfl : j = w1 := Fin.ext (by omega)
    obtain rfl : h = 0 := Fin.ext (by omega)
    simp only [Fin.val_zero, Nat.zero_mul, Nat.zero_add]
    exact turned_of (fun k => x0 (ix2 a ⟨k.val, by omega⟩)) (fun k => x5 (ix2 0 k)) (fun k => x2 (ix2 a k)) (fun k => x3 (ix2 a k)) j

/-- A block's queries. -/
theorem outq_at (x0 : Vec Ideal S528x512 .f32) (x1 : Vec Ideal S528x1024 .f32) (x2 x3 : Vec Ideal S528x128 .f32)
    (x4 x5 : Vec Ideal S1x128 .f32) (a : Fin 528) (h : Fin 8) (j : Fin 128) :
    out0_6 x0 x1 x2 x3 x4 x5 (ix2 a ⟨h.val * 128 + j.val, by omega⟩)
      = turned (normed (fun k => x1 (ix2 a ⟨h.val * 128 + k.val, by omega⟩)) (fun k => x4 (ix2 0 k)))
          (fun k => x2 (ix2 a k)) (fun k => x3 (ix2 a k)) j * scale := by
  unfold_out out0_6
  frame_out
  canon_tiles w hw
  · idx_vars w
    pointwise [k0_pay33, k0_pay32, k0_pay1, k0_pay2]
    obtain rfl : a = w0 := Fin.ext hw0
    obtain rfl : j = w1 := Fin.ext (by omega)
    obtain rfl : h = 7 := Fin.ext (by omega)
    exact congrArg (· * scale) (turned_of (fun k => x1 (ix2 a ⟨896 + k.val, by omega⟩)) (fun k => x4 (ix2 0 k))
      (fun k => x2 (ix2 a k)) (fun k => x3 (ix2 a k)) j)
  · idx_vars w
    pointwise [k0_pay31, k0_pay30, k0_pay1, k0_pay2]
    obtain rfl : a = w0 := Fin.ext hw0
    obtain rfl : j = w1 := Fin.ext (by omega)
    obtain rfl : h = 6 := Fin.ext (by omega)
    exact congrArg (· * scale) (turned_of (fun k => x1 (ix2 a ⟨768 + k.val, by omega⟩)) (fun k => x4 (ix2 0 k))
      (fun k => x2 (ix2 a k)) (fun k => x3 (ix2 a k)) j)
  · idx_vars w
    pointwise [k0_pay29, k0_pay27, k0_pay28, k0_pay1, k0_pay2]
    obtain rfl : a = w0 := Fin.ext hw0
    obtain rfl : j = w1 := Fin.ext (by omega)
    obtain rfl : h = 5 := Fin.ext (by omega)
    exact congrArg (· * scale) (turned_of (fun k => x1 (ix2 a ⟨640 + k.val, by omega⟩)) (fun k => x4 (ix2 0 k))
      (fun k => x2 (ix2 a k)) (fun k => x3 (ix2 a k)) j)
  · idx_vars w
    pointwise [k0_pay26, k0_pay22, k0_pay23, k0_pay24, k0_pay25, k0_pay1, k0_pay2]
    obtain rfl : a = w0 := Fin.ext hw0
    obtain rfl : j = w1 := Fin.ext (by omega)
    obtain rfl : h = 4 := Fin.ext (by omega)
    exact congrArg (· * scale) (turned_of (fun k => x1 (ix2 a ⟨512 + k.val, by omega⟩)) (fun k => x4 (ix2 0 k))
      (fun k => x2 (ix2 a k)) (fun k => x3 (ix2 a k)) j)
  · idx_vars w
    pointwise [k0_pay21, k0_pay16, k0_pay17, k0_pay18, k0_pay19, k0_pay20, k0_pay1, k0_pay2]
    obtain rfl : a = w0 := Fin.ext hw0
    obtain rfl : j = w1 := Fin.ext (by omega)
    obtain rfl : h = 3 := Fin.ext (by omega)
    exact congrArg (· * scale) (turned_of (fun k => x1 (ix2 a ⟨384 + k.val, by omega⟩)) (fun k => x4 (ix2 0 k))
      (fun k => x2 (ix2 a k)) (fun k => x3 (ix2 a k)) j)
  · idx_vars w
    pointwise [k0_pay15, k0_pay11, k0_pay12, k0_pay13, k0_pay14, k0_pay1, k0_pay2]
    obtain rfl : a = w0 := Fin.ext hw0
    obtain rfl : j = w1 := Fin.ext (by omega)
    obtain rfl : h = 2 := Fin.ext (by omega)
    exact congrArg (· * scale) (turned_of (fun k => x1 (ix2 a ⟨256 + k.val, by omega⟩)) (fun k => x4 (ix2 0 k))
      (fun k => x2 (ix2 a k)) (fun k => x3 (ix2 a k)) j)
  · idx_vars w
    pointwise [k0_pay10, k0_pay7, k0_pay8, k0_pay9, k0_pay1, k0_pay2]
    obtain rfl : a = w0 := Fin.ext hw0
    obtain rfl : j = w1 := Fin.ext (by omega)
    obtain rfl : h = 1 := Fin.ext (by omega)
    exact congrArg (· * scale) (turned_of (fun k => x1 (ix2 a ⟨128 + k.val, by omega⟩)) (fun k => x4 (ix2 0 k))
      (fun k => x2 (ix2 a k)) (fun k => x3 (ix2 a k)) j)
  · idx_vars w
    pointwise [k0_pay6, k0_pay3, k0_pay4, k0_pay5, k0_pay1, k0_pay2]
    obtain rfl : a = w0 := Fin.ext hw0
    obtain rfl : j = w1 := Fin.ext (by omega)
    obtain rfl : h = 0 := Fin.ext (by omega)
    simp only [Fin.val_zero, Nat.zero_mul, Nat.zero_add]
    exact congrArg (· * scale) (turned_of (fun k => x1 (ix2 a ⟨k.val, by omega⟩)) (fun k => x4 (ix2 0 k))
      (fun k => x2 (ix2 a k)) (fun k => x3 (ix2 a k)) j)

/-- A block's values: the columns behind the keys. -/
theorem outv_at (x0 : Vec Ideal S528x512 .f32) (x1 : Vec Ideal S528x1024 .f32) (x2 x3 : Vec Ideal S528x128 .f32)
    (x4 x5 : Vec Ideal S1x128 .f32) (a : Fin 528) (j : Fin 256) :
    out0_8 x0 x1 x2 x3 x4 x5 (ix2 a j) = x0 (ix2 a ⟨256 + j.val, by omega⟩) := by
  frame_out
  pointwise [k0_pay38]

end Cert.Kernel5Ideal.Prep

end
-- ==== Proof.PrepArray.lean ====
/-
  The kernel's arrays of queries, keys and values as functions of the arguments, and the kernel's run.
-/
module

public import proofs.«01_k».proof.Proof.PrepHeads

@[expose] public section

set_option maxRecDepth 16384

noncomputable section

namespace Cert.Kernel5Ideal.Prep

open Cert.Kernel5Ideal Cert.Kernel5Ideal.Gen Idealize.ShloMosaic Idealize.ShloMosaic.TcCoe Idealize.SL.Sem
open Idealize.ShloMosaic.Pipeline (Dat)

/-- Four arrays of 32 columns side by side. -/
def four (a b c d : FVec Ideal S8192x32 .f32) : FVec Ideal S8192x128 .f32 :=
  concatenate S8192x128 1 [⟨S8192x32, a⟩, ⟨S8192x32, b⟩, ⟨S8192x32, c⟩, ⟨S8192x32, d⟩]
    concatenates_S8192x32_S8192x32_S8192x32_S8192x32_S8192x128_d1

/-- A table of angles' rows behind 256 rows of one value. -/
def table (v : BitVec 32) (y : FVec Ideal S8192x128 .f32) : FVec Ideal S8448x128 .f32 :=
  concatenate S8448x128 0 [⟨S256x128, broadcastInDim S256x128 ![] bcast_S_S256x128 (constant (F := Ideal) S_ .f32 v)⟩, ⟨S8192x128, y⟩]
    concatenates_S256x128_S8192x128_S8448x128_d0

/-- An entry of the four arrays side by side. -/
theorem four_at (a b c d : FVec Ideal S8192x32 .f32) (p : Fin 8192) (j : Fin 128) :
    four a b c d (ix2 p j) = if j.val % 64 < 32
      then (if j.val < 64 then a else c) (ix2 p ⟨j.val % 32, Nat.mod_lt _ (by decide)⟩)
      else (if j.val < 64 then b else d) (ix2 p ⟨j.val % 32, Nat.mod_lt _ (by decide)⟩) := by
  unfold four
  pointwise []
  by_cases h1 : j.val < 32
  · refine (dif_pos h1).trans ?_
    rw [if_pos (show j.val % 64 < 32 by omega), if_pos (show j.val < 64 by omega)]
    exact congrArg a (congrArg (ix2 p) (Fin.ext (by show j.val = j.val % 32; omega)))
  refine (dif_neg h1).trans ?_
  by_cases h2 : j.val - 32 < 32
  · refine (dif_pos h2).trans ?_
    rw [if_neg (show ¬ j.val % 64 < 32 by omega), if_pos (show j.val < 64 by omega)]
    exact congrArg b (congrArg (ix2 p) (Fin.ext (by show j.val - 32 = j.val % 32; omega)))
  refine (dif_neg h2).trans ?_
  by_cases h3 : j.val - 32 - 32 < 32
  · refine (dif_pos h3).trans ?_
    rw [if_pos (show j.val % 64 < 32 by omega), if_neg (show ¬ j.val < 64 by omega)]
    exact congrArg c (congrArg (ix2 p) (Fin.ext (by show j.val - 32 - 32 = j.val % 32; omega)))
  refine (dif_neg h3).trans ?_
  rw [if_neg (show ¬ j.val % 64 < 32 by omega), if_neg (show ¬ j.val < 64 by omega)]
  exact congrArg d (congrArg (ix2 p) (Fin.ext (by show j.val - 32 - 32 - 32 = j.val % 32; omega)))

/-- An entry of a table: the one value in the context's rows, the angles' entry behind them. -/
theorem table_at (v : BitVec 32) (y : FVec Ideal S8192x128 .f32) (p : Fin 8448) (j : Fin 128) :
    table v y (ix2 p j) = if h : p.val < 256 then Ideal.ofBits .f32 v else y (ix2 ⟨p.val - 256, by omega⟩ j) := by
  unfold table
  pointwise []

/-- The angle of a latent position's feature: the row's angle in the first half of the head, the column's in the second. -/
def angle (ar ac : FVec Ideal S8192x32 .f32) (p : Fin 8192) (j : Fin 128) : EReal :=
  (if j.val < 64 then ar else ac) (ix2 p ⟨j.val % 32, Nat.mod_lt _ (by decide)⟩)

/-- A head's feature turned by its position's angle; the context's positions, which come first, are not turned. -/
def rotated (ar ac : FVec Ideal S8192x32 .f32) (p : Fin 8448) (x : Fin 128 → EReal) (j : Fin 128) : EReal :=
  if h : p.val < 256 then x j
  else if j.val % 64 < 32
    then x j * Ideal.cos (angle ar ac ⟨p.val - 256, by omega⟩ j) - x (partner j) * Ideal.sin (angle ar ac ⟨p.val - 256, by omega⟩ j)
    else x j * Ideal.cos (angle ar ac ⟨p.val - 256, by omega⟩ j) + x (partner j) * Ideal.sin (angle ar ac ⟨p.val - 256, by omega⟩ j)

/-- The table of cosines. -/
def cosines (ar ac : FVec Ideal S8192x32 .f32) : FVec Ideal S8448x128 .f32 := table 0x3F800000#32
  (four (Host.cos (F := Ideal) ar) (Host.cos (F := Ideal) ar) (Host.cos (F := Ideal) ac) (Host.cos (F := Ideal) ac))

/-- The table of signed sines. -/
def sines (ar ac : FVec Ideal S8192x32 .f32) : FVec Ideal S8448x128 .f32 := table 0x00000000#32
  (four (Host.negf (F := Ideal) (Host.sin (F := Ideal) ar)) (Host.sin (F := Ideal) ar)
    (Host.negf (F := Ideal) (Host.sin (F := Ideal) ac)) (Host.sin (F := Ideal) ac))

theorem cosines_at (ar ac : FVec Ideal S8192x32 .f32) (p : Fin 8448) (j : Fin 128) :
    cosines ar ac (ix2 p j) = if h : p.val < 256 then 1 else Ideal.cos (angle ar ac ⟨p.val - 256, by omega⟩ j) := by
  unfold cosines
  rw [table_at]
  by_cases hp : p.val < 256
  · rw [dif_pos hp, dif_pos hp]
    exact Ideal.ofBits_one_f32
  · rw [dif_neg hp, dif_neg hp, four_at]
    unfold angle
    by_cases h1 : j.val % 64 < 32 <;> by_cases h2 : j.val < 64 <;> simp only [h1, h2, if_true, if_false] <;> rfl

theorem sines_at (ar ac : FVec Ideal S8192x32 .f32) (p : Fin 8448) (j : Fin 128) :
    sines ar ac (ix2 p j) = if h : p.val < 256 then 0 else if j.val % 64 < 32
      then -(Ideal.sin (angle ar ac ⟨p.val - 256, by omega⟩ j)) else Ideal.sin (angle ar ac ⟨p.val - 256, by omega⟩ j) := by
  unfold sines
  rw [table_at]
  by_cases hp : p.val < 256
  · rw [dif_pos hp, dif_pos hp]
    exact Ideal.ofBits_zero_f32
  · rw [dif_neg hp, dif_neg hp, four_at]
    unfold angle
    by_cases h1 : j.val % 64 < 32 <;> by_cases h2 : j.val < 64 <;> simp only [h1, h2, if_true, if_false] <;> rfl

/-- Turning by the tables is turning by the angles. -/
theorem turned_eq (ar ac : FVec Ideal S8192x32 .f32) (p : Fin 8448) (x : Fin 128 → EReal) (j : Fin 128) :
    turned x (fun k => cosines ar ac (ix2 p k)) (fun k => sines ar ac (ix2 p k)) j = rotated ar ac p x j := by
  show x j * cosines ar ac (ix2 p j) + x (partner j) * sines ar ac (ix2 p j) = _
  unfold rotated
  rw [cosines_at, sines_at]
  by_cases hp : p.val < 256
  · simp only [dif_pos hp, mul_one, mul_zero, add_zero]
  · simp only [dif_neg hp]
    by_cases h1 : j.val % 64 < 32
    · simp only [h1, if_true]
      rw [mul_neg, sub_eq_add_neg]
    · simp only [h1, if_false]

/-- The position of a row among its batch entry's. -/
def position (r : Fin 16896) : Fin 8448 := ⟨r.val % 8448, Nat.mod_lt _ (by decide)⟩

/-- The keys over the arguments: a feature of a head of a row, normed and turned. -/
def keyAt (p : FVec Ideal S16896x10240 .f32) (ar ac : FVec Ideal S8192x32 .f32) (kn : FVec Ideal S4x128 .f32)
    (r : Fin 16896) (h : Fin 2) (j : Fin 128) : EReal :=
  rotated ar ac (position r)
    (normed (fun k => p (ix2 r (⟨2560 + (h.val * 128 + k.val), by omega⟩ : Fin 10240))) (fun k => kn (ix2 0 k))) j

/-- The queries over the arguments, before the scale. -/
def queryAt (p : FVec Ideal S16896x10240 .f32) (ar ac : FVec Ideal S8192x32 .f32) (qn : FVec Ideal S4x128 .f32)
    (r : Fin 16896) (h : Fin 8) (j : Fin 128) : EReal :=
  rotated ar ac (position r)
    (normed (fun k => p (ix2 r (⟨3072 + (h.val * 128 + k.val), by omega⟩ : Fin 10240))) (fun k => qn (ix2 0 k))) j

/-- The queries' array: row by row, head by head, with the scale. -/
def queries (p : FVec Ideal S16896x10240 .f32) (ar ac : FVec Ideal S8192x32 .f32) (qn : FVec Ideal S4x128 .f32)
    (y : S16896x1024.Idx) : EReal :=
  queryAt p ar ac qn (y 0) ⟨(y 1).val / 128, by have : (y 1).val < 1024 := (y 1).isLt; omega⟩
    ⟨(y 1).val % 128, Nat.mod_lt _ (by decide)⟩ * scale

/-- The keys' array: row by row, head by head. -/
def keys (p : FVec Ideal S16896x10240 .f32) (ar ac : FVec Ideal S8192x32 .f32) (kn : FVec Ideal S4x128 .f32)
    (y : S16896x256.Idx) : EReal :=
  keyAt p ar ac kn (y 0) ⟨(y 1).val / 128, by have : (y 1).val < 256 := (y 1).isLt; omega⟩
    ⟨(y 1).val % 128, Nat.mod_lt _ (by decide)⟩

/-- The keys' array at a row, head and feature. -/
theorem keys_of (p : FVec Ideal S16896x10240 .f32) (ar ac : FVec Ideal S8192x32 .f32) (kn : FVec Ideal S4x128 .f32)
    (z : S16896x256.Idx) (r : Fin 16896) (h : Fin 2) (j : Fin 128) (h0 : (z 0).val = r.val) (h1 : (z 1).val = h.val * 128 + j.val) :
    keyAt p ar ac kn r h j = keys p ar ac kn z := by
  have hz : (z 1).val < 256 := (z 1).isLt
  obtain rfl : r = z 0 := Fin.ext h0.symm
  have hb : (z 1).val / 128 < 2 := by clear h1; omega
  have e1 : h = ⟨(z 1).val / 128, hb⟩ := Fin.ext (by show h.val = (z 1).val / 128; omega)
  have e2 : j = ⟨(z 1).val % 128, Nat.mod_lt _ (by decide)⟩ := Fin.ext (by show j.val = (z 1).val % 128; omega)
  rw [e1, e2]
  rfl

/-- The queries' array at a row, head and feature. -/
theorem queries_of (p : FVec Ideal S16896x10240 .f32) (ar ac : FVec Ideal S8192x32 .f32) (qn : FVec Ideal S4x128 .f32)
    (z : S16896x1024.Idx) (r : Fin 16896) (h : Fin 8) (j : Fin 128) (h0 : (z 0).val = r.val) (h1 : (z 1).val = h.val * 128 + j.val) :
    queryAt p ar ac qn r h j * scale = queries p ar ac qn z := by
  have hz : (z 1).val < 1024 := (z 1).isLt
  obtain rfl : r = z 0 := Fin.ext h0.symm
  have hb : (z 1).val / 128 < 8 := by clear h1; omega
  have e1 : h = ⟨(z 1).val / 128, hb⟩ := Fin.ext (by show h.val = (z 1).val / 128; omega)
  have e2 : j = ⟨(z 1).val % 128, Nat.mod_lt _ (by decide)⟩ := Fin.ext (by show j.val = (z 1).val % 128; omega)
  rw [e1, e2]
  rfl

/-- The values' array: the columns behind the keys'. -/
def values (p : FVec Ideal S16896x10240 .f32) (y : S16896x256.Idx) : EReal :=
  p (ix2 (y 0) (⟨2816 + (y 1).val, by have : (y 1).val < 256 := (y 1).isLt; omega⟩ : Fin 10240))

variable (m : (ℓ : Loc nD τ sig) → Buf (Elt Ideal) ℓ) (ρ : Dev nD → PrngReg)

/-- The host code builds the tables. -/
theorem V_cos (c : Dev nD) : V m c main_v11 = cosines (m (c.tc.loc main_arg1)) (m (c.tc.loc main_arg2)) := rfl

theorem V_sin (c : Dev nD) : V m c main_v13 = sines (m (c.tc.loc main_arg1)) (m (c.tc.loc main_arg2)) := rfl

/-- The windows' block indices at a point. -/
theorem index0 : ∀ t : Fin cfg0.N, win0_0.index t = ![t.val, 5] := (by decide +kernel : ∀ t : Fin grid0.N, _)
theorem index1 : ∀ t : Fin cfg0.N, win0_1.index t = ![t.val, 3] := (by decide +kernel : ∀ t : Fin grid0.N, _)
theorem index2 : ∀ t : Fin cfg0.N, win0_2.index t = ![t.val % 16, 0] := (by decide +kernel : ∀ t : Fin grid0.N, _)
theorem index3 : ∀ t : Fin cfg0.N, win0_3.index t = ![t.val % 16, 0] := (by decide +kernel : ∀ t : Fin grid0.N, _)
theorem index4 : ∀ t : Fin cfg0.N, win0_4.index t = ![0, 0] := (by decide +kernel : ∀ t : Fin grid0.N, _)
theorem index5 : ∀ t : Fin cfg0.N, win0_5.index t = ![0, 0] := (by decide +kernel : ∀ t : Fin grid0.N, _)
theorem index6 : ∀ t : Fin cfg0.N, win0_6.index t = ![t.val, 0] := (by decide +kernel : ∀ t : Fin grid0.N, _)
theorem index7 : ∀ t : Fin cfg0.N, win0_7.index t = ![t.val, 0] := (by decide +kernel : ∀ t : Fin grid0.N, _)
theorem index8 : ∀ t : Fin cfg0.N, win0_8.index t = ![t.val, 0] := (by decide +kernel : ∀ t : Fin grid0.N, _)

section Blocks

variable (c : Dev nD) (t : Fin cfg0.N) (a : Fin 528) (r : Fin 16896) (hr : r.val = t.val * 528 + a.val) (k : Fin 128)

include hr in
theorem blk0 (j : Fin 512) :
    iblk m c 0 t (ix2 a j) = m (c.tc.loc main_arg0) (ix2 r (⟨2560 + j.val, by omega⟩ : Fin 10240)) := by
  blk_simp [iblk]
  refine (congrFun (V_main_arg0 m c) _).trans ?_
  refine congrArg (m (c.tc.loc main_arg0)) (funext fun d => Fin.ext ?_)
  match d with
  | ⟨0, _⟩ => blk_simp [index0 t]; exact hr.symm
  | ⟨1, _⟩ => blk_simp [index0 t]

include hr in
theorem blk1 (j : Fin 1024) :
    iblk m c 1 t (ix2 a j) = m (c.tc.loc main_arg0) (ix2 r (⟨3072 + j.val, by omega⟩ : Fin 10240)) := by
  blk_simp [iblk]
  refine (congrFun (V_main_arg0 m c) _).trans ?_
  refine congrArg (m (c.tc.loc main_arg0)) (funext fun d => Fin.ext ?_)
  match d with
  | ⟨0, _⟩ => blk_simp [index1 t]; exact hr.symm
  | ⟨1, _⟩ => blk_simp [index1 t]

theorem blk4 : iblk m c 4 t (ix2 0 k) = m (c.tc.loc main_arg3) (ix2 0 k) := by
  blk_simp [iblk]
  entry_read
  pointwise []
  refine congrArg (m (c.tc.loc main_arg3)) (congrArg (ix2 0) (Fin.ext ?_))
  blk_simp [index4 t]

theorem blk5 : iblk m c 5 t (ix2 0 k) = m (c.tc.loc main_arg4) (ix2 0 k) := by
  blk_simp [iblk]
  entry_read
  pointwise []
  refine congrArg (m (c.tc.loc main_arg4)) (congrArg (ix2 0) (Fin.ext ?_))
  blk_simp [index5 t]

include hr in
theorem blk2 : iblk m c 2 t (ix2 a k)
    = cosines (m (c.tc.loc main_arg1)) (m (c.tc.loc main_arg2)) (ix2 (position r) k) := by
  blk_simp [iblk]
  refine (congrFun (V_cos m c) _).trans ?_
  refine congrArg (cosines _ _) (funext fun d => Fin.ext ?_)
  match d with
  | ⟨0, _⟩ => blk_simp [index2 t]; show t.val % 16 * 528 + a.val = r.val % 8448; omega
  | ⟨1, _⟩ => blk_simp [index2 t]

include hr in
theorem blk3 : iblk m c 3 t (ix2 a k)
    = sines (m (c.tc.loc main_arg1)) (m (c.tc.loc main_arg2)) (ix2 (position r) k) := by
  blk_simp [iblk]
  refine (congrFun (V_sin m c) _).trans ?_
  refine congrArg (sines _ _) (funext fun d => Fin.ext ?_)
  match d with
  | ⟨0, _⟩ => blk_simp [index3 t]; show t.val % 16 * 528 + a.val = r.val % 8448; omega
  | ⟨1, _⟩ => blk_simp [index3 t]

end Blocks

/-- What a point leaves of the keys. -/
theorem out_keys (c : Dev nD) (t : Fin cfg0.N) (a : Fin 528) (h : Fin 2) (j : Fin 128) (r : Fin 16896)
    (hr : r.val = t.val * 528 + a.val) :
    (dats m 0 c).after 7 t (ix2 a (⟨h.val * 128 + j.val, by omega⟩ : Fin 256)) = keyAt (m (c.tc.loc main_arg0))
      (m (c.tc.loc main_arg1)) (m (c.tc.loc main_arg2)) (m (c.tc.loc main_arg4)) r h j := by
  rw [after0_7]
  refine (outk_at _ _ _ _ _ _ a h j).trans ?_
  simp only [blk0 m c t a r hr, blk2 m c t a r hr, blk3 m c t a r hr, blk5]
  exact turned_eq _ _ _ _ _

/-- What a point leaves of the queries. -/
theorem out_queries (c : Dev nD) (t : Fin cfg0.N) (a : Fin 528) (h : Fin 8) (j : Fin 128) (r : Fin 16896)
    (hr : r.val = t.val * 528 + a.val) :
    (dats m 0 c).after 6 t (ix2 a (⟨h.val * 128 + j.val, by omega⟩ : Fin 1024)) = queryAt (m (c.tc.loc main_arg0))
      (m (c.tc.loc main_arg1)) (m (c.tc.loc main_arg2)) (m (c.tc.loc main_arg3)) r h j * scale := by
  rw [after0_6]
  refine (outq_at _ _ _ _ _ _ a h j).trans ?_
  simp only [blk1 m c t a r hr, blk2 m c t a r hr, blk3 m c t a r hr, blk4]
  exact congrArg (· * scale) (turned_eq _ _ _ _ _)

/-- What a point leaves of the values. -/
theorem out_values (c : Dev nD) (t : Fin cfg0.N) (a : Fin 528) (n : Fin 256) (y : S16896x256.Idx)
    (h0 : (y 0).val = t.val * 528 + a.val) (h1 : (y 1).val = n.val) :
    (dats m 0 c).after 8 t (ix2 a n) = values (m (c.tc.loc main_arg0)) y := by
  rw [after0_8]
  refine (outv_at _ _ _ _ _ _ a n).trans ?_
  rw [blk0 m c t a (y 0) h0]
  exact congrArg (m (c.tc.loc main_arg0)) (congrArg (ix2 (y 0)) (Fin.ext (by show 2560 + (256 + n.val) = 2816 + (y 1).val; omega)))

/-- The values' array after all points. -/
theorem final_values (c : Dev nD) :
    (dats m 0 c).arrAt 8 cfg0.N = values (m (c.tc.loc main_arg0)) := by
  refine (dats m 0 c).arrAt_eq_of_covers 8 _ (Pipeline.Window.covers_of_index_surj _ rfl (by decide) fun β => ?_)
    fun t hf y => ?_
  · have hb0 : (β 0).val < 32 := (β 0).isLt
    have hb1 : (β 1).val < 1 := (β 1).isLt
    refine ⟨⟨(β 0).val, by show _ < 32; omega⟩, fun a => ?_⟩
    refine (congrFun (index8 _) a).trans ?_
    match a with
    | ⟨0, _⟩ => rfl
    | ⟨1, _⟩ => show 0 = (β 1).val; omega
  · blk_simp
    refine Eq.trans ?_ (out_values m c t (y 0) (y 1) _ (by blk_simp [index8 t]) (by blk_simp [index8 t]))
    exact congrArg _ (ix2_eta y).symm

/-- The keys' array after all points. -/
theorem final_keys (c : Dev nD) :
    (dats m 0 c).arrAt 7 cfg0.N = keys (m (c.tc.loc main_arg0)) (m (c.tc.loc main_arg1)) (m (c.tc.loc main_arg2)) (m (c.tc.loc main_arg4)) := by
  refine (dats m 0 c).arrAt_eq_of_covers 7 _ (Pipeline.Window.covers_of_index_surj _ rfl (by decide) fun β => ?_)
    fun t hf y => ?_
  · have hb0 : (β 0).val < 32 := (β 0).isLt
    have hb1 : (β 1).val < 1 := (β 1).isLt
    refine ⟨⟨(β 0).val, by show _ < 32; omega⟩, fun a => ?_⟩
    refine (congrFun (index7 _) a).trans ?_
    match a with
    | ⟨0, _⟩ => rfl
    | ⟨1, _⟩ => show 0 = (β 1).val; omega
  · blk_simp
    have hy : (y 1).val < 256 := (y 1).isLt
    refine Eq.trans ?_ ((out_keys m c t (y 0) ⟨(y 1).val / 128, by omega⟩ ⟨(y 1).val % 128, Nat.mod_lt _ (by decide)⟩
      ⟨t.val * 528 + (y 0).val, by have : (y 0).val < 528 := (y 0).isLt; have : t.val < 32 := t.isLt; omega⟩ rfl).trans ?_)
    · refine congrArg _ ((ix2_eta y).symm.trans (congrArg (ix2 (y 0)) (Fin.ext ?_)))
      show (y 1).val = (y 1).val / 128 * 128 + (y 1).val % 128
      omega
    · refine keys_of _ _ _ _ _ _ _ _ (by blk_simp [index7 t]) ?_
      blk_simp [index7 t]
      show (y 1).val = (y 1).val / 128 * 128 + (y 1).val % 128
      omega

/-- The queries' array after all points. -/
theorem final_queries (c : Dev nD) :
    (dats m 0 c).arrAt 6 cfg0.N = queries (m (c.tc.loc main_arg0)) (m (c.tc.loc main_arg1)) (m (c.tc.loc main_arg2)) (m (c.tc.loc main_arg3)) := by
  refine (dats m 0 c).arrAt_eq_of_covers 6 _ (Pipeline.Window.covers_of_index_surj _ rfl (by decide) fun β => ?_)
    fun t hf y => ?_
  · have hb0 : (β 0).val < 32 := (β 0).isLt
    have hb1 : (β 1).val < 1 := (β 1).isLt
    refine ⟨⟨(β 0).val, by show _ < 32; omega⟩, fun a => ?_⟩
    refine (congrFun (index6 _) a).trans ?_
    match a with
    | ⟨0, _⟩ => rfl
    | ⟨1, _⟩ => show 0 = (β 1).val; omega
  · blk_simp
    have hy : (y 1).val < 1024 := (y 1).isLt
    refine Eq.trans ?_ ((out_queries m c t (y 0) ⟨(y 1).val / 128, by omega⟩ ⟨(y 1).val % 128, Nat.mod_lt _ (by decide)⟩
      ⟨t.val * 528 + (y 0).val, by have : (y 0).val < 528 := (y 0).isLt; have : t.val < 32 := t.isLt; omega⟩ rfl).trans ?_)
    · refine congrArg _ ((ix2_eta y).symm.trans (congrArg (ix2 (y 0)) (Fin.ext ?_)))
      show (y 1).val = (y 1).val / 128 * 128 + (y 1).val % 128
      omega
    · refine queries_of _ _ _ _ _ _ _ _ (by blk_simp [index6 t]) ?_
      blk_simp [index6 t]
      show (y 1).val = (y 1).val / 128 * 128 + (y 1).val % 128
      omega

/-- The run: every device's results are `queries`, `keys` and `values` of its arguments, and the arguments are unchanged. -/
theorem run : θ_run defs (onTc (τ := τ) (main (F := Ideal))) ⟨m, fun _ => 0, ρ⟩ fun r => ∀ c : Dev nD,
      r.2.mem ((c.tc : Thread nD τ).loc main_v20_0) = queries (m (c.tc.loc main_arg0)) (m (c.tc.loc main_arg1))
        (m (c.tc.loc main_arg2)) (m (c.tc.loc main_arg3))
      ∧ r.2.mem ((c.tc : Thread nD τ).loc main_v20_1) = keys (m (c.tc.loc main_arg0)) (m (c.tc.loc main_arg1))
        (m (c.tc.loc main_arg2)) (m (c.tc.loc main_arg4))
      ∧ r.2.mem ((c.tc : Thread nD τ).loc main_v20_2) = values (m (c.tc.loc main_arg0))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c =>
      ⟨((h c).1 6).trans (final_queries m c),
      ((h c).1 7).trans (final_keys m c),
      ((h c).1 8).trans (final_values m c),
      ((h c).1 0).trans (((dats m 0 c).arrAt_in 0 rfl _).trans ((A_eq m c 0).trans (V_main_arg0 m c))),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c)⟩)
    (run_main m ρ)

end Cert.Kernel5Ideal.Prep

end
-- ==== Proof.PrepRef.lean ====
/-
  The plain program's queries, keys and values, stage by stage: the same functions of the arguments as the kernel's arrays.
-/
module

public import proofs.«01_k».proof.Proof.PrepArray
public import proofs.«01_k».proof.Proof.Gen.Reference5Ideal.Run
public import Idealize.ShloMosaic.Lib.Tactic.ValueTie

@[expose] public section

set_option maxRecDepth 16384

noncomputable section

namespace Cert.Reference5Ideal.Prep

open Cert.Reference5Ideal Cert.Reference5Ideal.Gen Cert.Reference5Ideal.Value Idealize.ShloMosaic Idealize.ShloMosaic.TcCoe Idealize.SL.Sem
open Cert.Kernel5Ideal.Prep (normed partner angle rotated scale position keyAt queryAt keys queries values keys_of queries_of)

/-- The rows' 2 heads. -/
def kHeads (p : FVec Ideal S16896x10240 .f32) : FVec Ideal S2x8448x2x128 .f32 :=
  shapeCast _ (extractStridedSlice S2x8448x256 ![0, 0, 2560] (shapeCast _ p shapeCasts_S16896x10240_S2x8448x10240)
    slices_S2x8448x10240_S2x8448x256_0_0_2560) shapeCasts_S2x8448x256_S2x8448x2x128

theorem kHeads_at (p : FVec Ideal S16896x10240 .f32) (b : Fin 2) (r : Fin 8448) (h : Fin 2) (k : Fin 128) :
    kHeads p (ix4 b r h k) = p (ix2 (⟨b.val * 8448 + r.val, by omega⟩ : Fin 16896) (⟨2560 + (h.val * 128 + k.val), by omega⟩ : Fin 10240)) := by
  unfold kHeads
  pointwise []

/-- The heads normed. -/
def kNorm (X : FVec Ideal S2x8448x2x128 .f32) (g : FVec Ideal S4x128 .f32) : FVec Ideal S2x8448x2x128 .f32 :=
  (mulf (mulf X (broadcastInDim S2x8448x2x128 ![0, 1, 2, 3] bcast_S2x8448x2x1_S2x8448x2x128_0_1_2_3 (Host.rsqrt (addf (Host.divf (broadcastInDim S2x8448x2x1 ![0, 1, 2] bcast_S2x8448x2_S2x8448x2x1_0_1_2 (Host.reduceAdd (mulf X X) (constant S_ .f32 0x00000000#32) reducesTo_S2x8448x2x128_S2x8448x2_d3 h_S_)) (broadcastInDim S2x8448x2x1 ![] bcast_S_S2x8448x2x1 (constant S_ .f32 0x43000000#32))) (broadcastInDim S2x8448x2x1 ![] bcast_S_S2x8448x2x1 (constant S_ .f32 0x358637BD#32)))))) (broadcastInDim S2x8448x2x128 ![0, 1, 2, 3] bcast_S1x1x1x128_S2x8448x2x128_0_1_2_3 (broadcastInDim S1x1x1x128 ![3] bcast_S128_S1x1x1x128_3 (shapeCast _ (extractStridedSlice S1x128 ![0, 0] g slices_S4x128_S1x128_0_0) shapeCasts_S1x128_S128))))

theorem kNorm_at (X : FVec Ideal S2x8448x2x128 .f32) (g : FVec Ideal S4x128 .f32) (b : Fin 2) (r : Fin 8448) (h : Fin 2) (k : Fin 128) :
    kNorm X g (ix4 b r h k) = normed (fun j => X (ix4 b r h j)) (fun j => g (ix2 0 j)) k := by
  unfold kNorm
  pointwise []
  rfl

/-- A half of each head turned by one axis's angles. -/
def kAxis (Y : FVec Ideal S2x8192x2x64 .f32) (a : FVec Ideal S8192x32 .f32) : FVec Ideal S2x8192x2x64 .f32 :=
  concatenate S2x8192x2x64 3 [⟨S2x8192x2x32, (subf (mulf (extractStridedSlice S2x8192x2x32 ![0, 0, 0, 0] Y slices_S2x8192x2x64_S2x8192x2x32_0_0_0_0) (broadcastInDim S2x8192x2x32 ![0, 1, 2, 3] bcast_S1x8192x1x32_S2x8192x2x32_0_1_2_3 (broadcastInDim S1x8192x1x32 ![1, 3] bcast_S8192x32_S1x8192x1x32_1_3 (Host.cos a)))) (mulf (extractStridedSlice S2x8192x2x32 ![0, 0, 0, 32] Y slices_S2x8192x2x64_S2x8192x2x32_0_0_0_32) (broadcastInDim S2x8192x2x32 ![0, 1, 2, 3] bcast_S1x8192x1x32_S2x8192x2x32_0_1_2_3 (broadcastInDim S1x8192x1x32 ![1, 3] bcast_S8192x32_S1x8192x1x32_1_3 (Host.sin a)))))⟩, ⟨S2x8192x2x32, (addf (mulf (extractStridedSlice S2x8192x2x32 ![0, 0, 0, 32] Y slices_S2x8192x2x64_S2x8192x2x32_0_0_0_32) (broadcastInDim S2x8192x2x32 ![0, 1, 2, 3] bcast_S1x8192x1x32_S2x8192x2x32_0_1_2_3 (broadcastInDim S1x8192x1x32 ![1, 3] bcast_S8192x32_S1x8192x1x32_1_3 (Host.cos a)))) (mulf (extractStridedSlice S2x8192x2x32 ![0, 0, 0, 0] Y slices_S2x8192x2x64_S2x8192x2x32_0_0_0_0) (broadcastInDim S2x8192x2x32 ![0, 1, 2, 3] bcast_S1x8192x1x32_S2x8192x2x32_0_1_2_3 (broadcastInDim S1x8192x1x32 ![1, 3] bcast_S8192x32_S1x8192x1x32_1_3 (Host.sin a)))))⟩] concatenates_S2x8192x2x32_S2x8192x2x32_S2x8192x2x64_d3

theorem kAxis_at (Y : FVec Ideal S2x8192x2x64 .f32) (a : FVec Ideal S8192x32 .f32) (b : Fin 2) (p : Fin 8192) (h : Fin 2) (j : Fin 64) :
    kAxis Y a (ix4 b p h j) = if l : j.val < 32
      then Y (ix4 b p h j) * Ideal.cos (a (ix2 p ⟨j.val, l⟩)) - Y (ix4 b p h ⟨32 + j.val, by omega⟩) * Ideal.sin (a (ix2 p ⟨j.val, l⟩))
      else Y (ix4 b p h j) * Ideal.cos (a (ix2 p ⟨j.val - 32, by omega⟩))
        + Y (ix4 b p h ⟨j.val - 32, by omega⟩) * Ideal.sin (a (ix2 p ⟨j.val - 32, by omega⟩)) := by
  unfold kAxis
  pointwise []
  by_cases l : j.val < 32
  · exact (dif_pos l).trans (Eq.symm (dif_pos l))
  · refine (dif_neg l).trans (Eq.trans ?_ (Eq.symm (dif_neg l)))
    exact congrArg (fun z => Y (ix4 b p h z) * Ideal.cos _ + _) (Fin.ext (by show 32 + (j.val - 32) = j.val; omega))

/-- The latent positions' heads turned: the first half by the row's angles, the second by the column's. -/
def kRope (Y : FVec Ideal S2x8192x2x128 .f32) (ar ac : FVec Ideal S8192x32 .f32) : FVec Ideal S2x8192x2x128 .f32 :=
  concatenate S2x8192x2x128 3 [⟨S2x8192x2x64, kAxis (extractStridedSlice S2x8192x2x64 ![0, 0, 0, 0] Y slices_S2x8192x2x128_S2x8192x2x64_0_0_0_0) ar⟩, ⟨S2x8192x2x64, kAxis (extractStridedSlice S2x8192x2x64 ![0, 0, 0, 64] Y slices_S2x8192x2x128_S2x8192x2x64_0_0_0_64) ac⟩] concatenates_S2x8192x2x64_S2x8192x2x64_S2x8192x2x128_d3

theorem kRope_at (Y : FVec Ideal S2x8192x2x128 .f32) (ar ac : FVec Ideal S8192x32 .f32) (b : Fin 2) (p : Fin 8192) (h : Fin 2) (j : Fin 128) :
    kRope Y ar ac (ix4 b p h j) = if j.val % 64 < 32
      then Y (ix4 b p h j) * Ideal.cos (angle ar ac p j) - Y (ix4 b p h (partner j)) * Ideal.sin (angle ar ac p j)
      else Y (ix4 b p h j) * Ideal.cos (angle ar ac p j) + Y (ix4 b p h (partner j)) * Ideal.sin (angle ar ac p j) := by
  unfold kRope
  pointwise []
  by_cases g : j.val < 64
  · refine (dif_pos g).trans ((kAxis_at _ _ b p h _).trans ?_)
    by_cases l : j.val % 64 < 32
    · have ea : angle ar ac p j = ar (ix2 p ⟨j.val, by omega⟩) := by
        unfold angle
        rw [if_pos g]
        exact congrArg ar (congrArg (ix2 p) (Fin.ext (by show j.val % 32 = j.val; omega)))
      have ep : partner j = ⟨j.val + 32, by omega⟩ := dif_pos l
      rw [if_pos l, ea, ep]
      refine (dif_pos (show j.val < 32 by omega)).trans ?_
      pointwise []
      exact congrArg₂ (fun z w => Y (ix4 b p h z) * Ideal.cos (ar (ix2 p ⟨j.val, by omega⟩)) - Y (ix4 b p h w) * Ideal.sin (ar (ix2 p ⟨j.val, by omega⟩)))
        rfl (Fin.ext (by show 32 + j.val = j.val + 32; omega))
    · have ea : angle ar ac p j = ar (ix2 p ⟨j.val - 32, by omega⟩) := by
        unfold angle
        rw [if_pos g]
        exact congrArg ar (congrArg (ix2 p) (Fin.ext (by show j.val % 32 = j.val - 32; omega)))
      have ep : partner j = ⟨j.val - 32, by omega⟩ := dif_neg l
      rw [if_neg l, ea, ep]
      refine (dif_neg (show ¬ j.val < 32 by omega)).trans ?_
      pointwise []
  · refine (dif_neg g).trans ((kAxis_at _ _ b p h _).trans ?_)
    by_cases l : j.val % 64 < 32
    · have ea : angle ar ac p j = ac (ix2 p ⟨j.val - 64, by omega⟩) := by
        unfold angle
        rw [if_neg g]
        exact congrArg ac (congrArg (ix2 p) (Fin.ext (by show j.val % 32 = j.val - 64; omega)))
      have ep : partner j = ⟨j.val + 32, by omega⟩ := dif_pos l
      rw [if_pos l, ea, ep]
      refine (dif_pos (show j.val - 64 < 32 by omega)).trans ?_
      pointwise []
      exact congrArg₂ (fun z w => Y (ix4 b p h z) * Ideal.cos (ac (ix2 p ⟨j.val - 64, by omega⟩)) - Y (ix4 b p h w) * Ideal.sin (ac (ix2 p ⟨j.val - 64, by omega⟩)))
        (Fin.ext (by show 64 + (j.val - 64) = j.val; omega)) (Fin.ext (by show 64 + (32 + (j.val - 64)) = j.val + 32; omega))
    · have ea : angle ar ac p j = ac (ix2 p ⟨j.val - 64 - 32, by omega⟩) := by
        unfold angle
        rw [if_neg g]
        exact congrArg ac (congrArg (ix2 p) (Fin.ext (by show j.val % 32 = j.val - 64 - 32; omega)))
      have ep : partner j = ⟨j.val - 32, by omega⟩ := dif_neg l
      rw [if_neg l, ea, ep]
      refine (dif_neg (show ¬ j.val - 64 < 32 by omega)).trans ?_
      pointwise []
      exact congrArg₂ (fun z w => Y (ix4 b p h z) * Ideal.cos (ac (ix2 p ⟨j.val - 64 - 32, by omega⟩)) + Y (ix4 b p h w) * Ideal.sin (ac (ix2 p ⟨j.val - 64 - 32, by omega⟩)))
        (Fin.ext (by show 64 + (j.val - 64) = j.val; omega)) (Fin.ext (by show 64 + (j.val - 64 - 32) = j.val - 32; omega))

/-- All positions' heads: the context's as they are, the latent ones turned. -/
def kAll (N : FVec Ideal S2x8448x2x128 .f32) (ar ac : FVec Ideal S8192x32 .f32) : FVec Ideal S2x8448x2x128 .f32 :=
  concatenate S2x8448x2x128 1 [⟨S2x256x2x128, (extractStridedSlice S2x256x2x128 ![0, 0, 0, 0] N slices_S2x8448x2x128_S2x256x2x128_0_0_0_0)⟩, ⟨S2x8192x2x128, kRope (extractStridedSlice S2x8192x2x128 ![0, 256, 0, 0] N slices_S2x8448x2x128_S2x8192x2x128_0_256_0_0) ar ac⟩] concatenates_S2x256x2x128_S2x8192x2x128_S2x8448x2x128_d1

theorem kAll_at (N : FVec Ideal S2x8448x2x128 .f32) (ar ac : FVec Ideal S8192x32 .f32) (b : Fin 2) (r : Fin 8448) (h : Fin 2) (j : Fin 128) :
    kAll N ar ac (ix4 b r h j) = rotated ar ac r (fun k => N (ix4 b r h k)) j := by
  unfold kAll
  pointwise []
  unfold rotated
  by_cases l : r.val < 256
  · exact (dif_pos l).trans (Eq.symm (dif_pos l))
  · refine (dif_neg l).trans (Eq.trans ?_ (Eq.symm (dif_neg l)))
    have e : ∀ k : Fin 128, extractStridedSlice S2x8192x2x128 ![0, 256, 0, 0] N slices_S2x8448x2x128_S2x8192x2x128_0_256_0_0
        (ix4 b ⟨r.val - 256, by omega⟩ h k) = N (ix4 b r h k) := by
      intro k
      pointwise []
      exact congrArg (fun z => N (ix4 b z h k)) (Fin.ext (by show 256 + (r.val - 256) = r.val; omega))
    refine (kRope_at _ ar ac b _ h j).trans ?_
    rw [e, e]

/-- The rows' 8 heads. -/
def qHeads (p : FVec Ideal S16896x10240 .f32) : FVec Ideal S2x8448x8x128 .f32 :=
  shapeCast _ (extractStridedSlice S2x8448x1024 ![0, 0, 3072] (shapeCast _ p shapeCasts_S16896x10240_S2x8448x10240)
    slices_S2x8448x10240_S2x8448x1024_0_0_3072) shapeCasts_S2x8448x1024_S2x8448x8x128

theorem qHeads_at (p : FVec Ideal S16896x10240 .f32) (b : Fin 2) (r : Fin 8448) (h : Fin 8) (k : Fin 128) :
    qHeads p (ix4 b r h k) = p (ix2 (⟨b.val * 8448 + r.val, by omega⟩ : Fin 16896) (⟨3072 + (h.val * 128 + k.val), by omega⟩ : Fin 10240)) := by
  unfold qHeads
  pointwise []

/-- The heads normed. -/
def qNorm (X : FVec Ideal S2x8448x8x128 .f32) (g : FVec Ideal S4x128 .f32) : FVec Ideal S2x8448x8x128 .f32 :=
  (mulf (mulf X (broadcastInDim S2x8448x8x128 ![0, 1, 2, 3] bcast_S2x8448x8x1_S2x8448x8x128_0_1_2_3 (Host.rsqrt (addf (Host.divf (broadcastInDim S2x8448x8x1 ![0, 1, 2] bcast_S2x8448x8_S2x8448x8x1_0_1_2 (Host.reduceAdd (mulf X X) (constant S_ .f32 0x00000000#32) reducesTo_S2x8448x8x128_S2x8448x8_d3 h_S_)) (broadcastInDim S2x8448x8x1 ![] bcast_S_S2x8448x8x1 (constant S_ .f32 0x43000000#32))) (broadcastInDim S2x8448x8x1 ![] bcast_S_S2x8448x8x1 (constant S_ .f32 0x358637BD#32)))))) (broadcastInDim S2x8448x8x128 ![0, 1, 2, 3] bcast_S1x1x1x128_S2x8448x8x128_0_1_2_3 (broadcastInDim S1x1x1x128 ![3] bcast_S128_S1x1x1x128_3 (shapeCast _ (extractStridedSlice S1x128 ![0, 0] g slices_S4x128_S1x128_0_0) shapeCasts_S1x128_S128))))

theorem qNorm_at (X : FVec Ideal S2x8448x8x128 .f32) (g : FVec Ideal S4x128 .f32) (b : Fin 2) (r : Fin 8448) (h : Fin 8) (k : Fin 128) :
    qNorm X g (ix4 b r h k) = normed (fun j => X (ix4 b r h j)) (fun j => g (ix2 0 j)) k := by
  unfold qNorm
  pointwise []
  rfl

/-- A half of each head turned by one axis's angles. -/
def qAxis (Y : FVec Ideal S2x8192x8x64 .f32) (a : FVec Ideal S8192x32 .f32) : FVec Ideal S2x8192x8x64 .f32 :=
  concatenate S2x8192x8x64 3 [⟨S2x8192x8x32, (subf (mulf (extractStridedSlice S2x8192x8x32 ![0, 0, 0, 0] Y slices_S2x8192x8x64_S2x8192x8x32_0_0_0_0) (broadcastInDim S2x8192x8x32 ![0, 1, 2, 3] bcast_S1x8192x1x32_S2x8192x8x32_0_1_2_3 (broadcastInDim S1x8192x1x32 ![1, 3] bcast_S8192x32_S1x8192x1x32_1_3 (Host.cos a)))) (mulf (extractStridedSlice S2x8192x8x32 ![0, 0, 0, 32] Y slices_S2x8192x8x64_S2x8192x8x32_0_0_0_32) (broadcastInDim S2x8192x8x32 ![0, 1, 2, 3] bcast_S1x8192x1x32_S2x8192x8x32_0_1_2_3 (broadcastInDim S1x8192x1x32 ![1, 3] bcast_S8192x32_S1x8192x1x32_1_3 (Host.sin a)))))⟩, ⟨S2x8192x8x32, (addf (mulf (extractStridedSlice S2x8192x8x32 ![0, 0, 0, 32] Y slices_S2x8192x8x64_S2x8192x8x32_0_0_0_32) (broadcastInDim S2x8192x8x32 ![0, 1, 2, 3] bcast_S1x8192x1x32_S2x8192x8x32_0_1_2_3 (broadcastInDim S1x8192x1x32 ![1, 3] bcast_S8192x32_S1x8192x1x32_1_3 (Host.cos a)))) (mulf (extractStridedSlice S2x8192x8x32 ![0, 0, 0, 0] Y slices_S2x8192x8x64_S2x8192x8x32_0_0_0_0) (broadcastInDim S2x8192x8x32 ![0, 1, 2, 3] bcast_S1x8192x1x32_S2x8192x8x32_0_1_2_3 (broadcastInDim S1x8192x1x32 ![1, 3] bcast_S8192x32_S1x8192x1x32_1_3 (Host.sin a)))))⟩] concatenates_S2x8192x8x32_S2x8192x8x32_S2x8192x8x64_d3

theorem qAxis_at (Y : FVec Ideal S2x8192x8x64 .f32) (a : FVec Ideal S8192x32 .f32) (b : Fin 2) (p : Fin 8192) (h : Fin 8) (j : Fin 64) :
    qAxis Y a (ix4 b p h j) = if l : j.val < 32
      then Y (ix4 b p h j) * Ideal.cos (a (ix2 p ⟨j.val, l⟩)) - Y (ix4 b p h ⟨32 + j.val, by omega⟩) * Ideal.sin (a (ix2 p ⟨j.val, l⟩))
      else Y (ix4 b p h j) * Ideal.cos (a (ix2 p ⟨j.val - 32, by omega⟩))
        + Y (ix4 b p h ⟨j.val - 32, by omega⟩) * Ideal.sin (a (ix2 p ⟨j.val - 32, by omega⟩)) := by
  unfold qAxis
  pointwise []
  by_cases l : j.val < 32
  · exact (dif_pos l).trans (Eq.symm (dif_pos l))
  · refine (dif_neg l).trans (Eq.trans ?_ (Eq.symm (dif_neg l)))
    exact congrArg (fun z => Y (ix4 b p h z) * Ideal.cos _ + _) (Fin.ext (by show 32 + (j.val - 32) = j.val; omega))

/-- The latent positions' heads turned: the first half by the row's angles, the second by the column's. -/
def qRope (Y : FVec Ideal S2x8192x8x128 .f32) (ar ac : FVec Ideal S8192x32 .f32) : FVec Ideal S2x8192x8x128 .f32 :=
  concatenate S2x8192x8x128 3 [⟨S2x8192x8x64, qAxis (extractStridedSlice S2x8192x8x64 ![0, 0, 0, 0] Y slices_S2x8192x8x128_S2x8192x8x64_0_0_0_0) ar⟩, ⟨S2x8192x8x64, qAxis (extractStridedSlice S2x8192x8x64 ![0, 0, 0, 64] Y slices_S2x8192x8x128_S2x8192x8x64_0_0_0_64) ac⟩] concatenates_S2x8192x8x64_S2x8192x8x64_S2x8192x8x128_d3

theorem qRope_at (Y : FVec Ideal S2x8192x8x128 .f32) (ar ac : FVec Ideal S8192x32 .f32) (b : Fin 2) (p : Fin 8192) (h : Fin 8) (j : Fin 128) :
    qRope Y ar ac (ix4 b p h j) = if j.val % 64 < 32
      then Y (ix4 b p h j) * Ideal.cos (angle ar ac p j) - Y (ix4 b p h (partner j)) * Ideal.sin (angle ar ac p j)
      else Y (ix4 b p h j) * Ideal.cos (angle ar ac p j) + Y (ix4 b p h (partner j)) * Ideal.sin (angle ar ac p j) := by
  unfold qRope
  pointwise []
  by_cases g : j.val < 64
  · refine (dif_pos g).trans ((qAxis_at _ _ b p h _).trans ?_)
    by_cases l : j.val % 64 < 32
    · have ea : angle ar ac p j = ar (ix2 p ⟨j.val, by omega⟩) := by
        unfold angle
        rw [if_pos g]
        exact congrArg ar (congrArg (ix2 p) (Fin.ext (by show j.val % 32 = j.val; omega)))
      have ep : partner j = ⟨j.val + 32, by omega⟩ := dif_pos l
      rw [if_pos l, ea, ep]
      refine (dif_pos (show j.val < 32 by omega)).trans ?_
      pointwise []
      exact congrArg₂ (fun z w => Y (ix4 b p h z) * Ideal.cos (ar (ix2 p ⟨j.val, by omega⟩)) - Y (ix4 b p h w) * Ideal.sin (ar (ix2 p ⟨j.val, by omega⟩)))
        rfl (Fin.ext (by show 32 + j.val = j.val + 32; omega))
    · have ea : angle ar ac p j = ar (ix2 p ⟨j.val - 32, by omega⟩) := by
        unfold angle
        rw [if_pos g]
        exact congrArg ar (congrArg (ix2 p) (Fin.ext (by show j.val % 32 = j.val - 32; omega)))
      have ep : partner j = ⟨j.val - 32, by omega⟩ := dif_neg l
      rw [if_neg l, ea, ep]
      refine (dif_neg (show ¬ j.val < 32 by omega)).trans ?_
      pointwise []
  · refine (dif_neg g).trans ((qAxis_at _ _ b p h _).trans ?_)
    by_cases l : j.val % 64 < 32
    · have ea : angle ar ac p j = ac (ix2 p ⟨j.val - 64, by omega⟩) := by
        unfold angle
        rw [if_neg g]
        exact congrArg ac (congrArg (ix2 p) (Fin.ext (by show j.val % 32 = j.val - 64; omega)))
      have ep : partner j = ⟨j.val + 32, by omega⟩ := dif_pos l
      rw [if_pos l, ea, ep]
      refine (dif_pos (show j.val - 64 < 32 by omega)).trans ?_
      pointwise []
      exact congrArg₂ (fun z w => Y (ix4 b p h z) * Ideal.cos (ac (ix2 p ⟨j.val - 64, by omega⟩)) - Y (ix4 b p h w) * Ideal.sin (ac (ix2 p ⟨j.val - 64, by omega⟩)))
        (Fin.ext (by show 64 + (j.val - 64) = j.val; omega)) (Fin.ext (by show 64 + (32 + (j.val - 64)) = j.val + 32; omega))
    · have ea : angle ar ac p j = ac (ix2 p ⟨j.val - 64 - 32, by omega⟩) := by
        unfold angle
        rw [if_neg g]
        exact congrArg ac (congrArg (ix2 p) (Fin.ext (by show j.val % 32 = j.val - 64 - 32; omega)))
      have ep : partner j = ⟨j.val - 32, by omega⟩ := dif_neg l
      rw [if_neg l, ea, ep]
      refine (dif_neg (show ¬ j.val - 64 < 32 by omega)).trans ?_
      pointwise []
      exact congrArg₂ (fun z w => Y (ix4 b p h z) * Ideal.cos (ac (ix2 p ⟨j.val - 64 - 32, by omega⟩)) + Y (ix4 b p h w) * Ideal.sin (ac (ix2 p ⟨j.val - 64 - 32, by omega⟩)))
        (Fin.ext (by show 64 + (j.val - 64) = j.val; omega)) (Fin.ext (by show 64 + (j.val - 64 - 32) = j.val - 32; omega))

/-- All positions' heads: the context's as they are, the latent ones turned. -/
def qAll (N : FVec Ideal S2x8448x8x128 .f32) (ar ac : FVec Ideal S8192x32 .f32) : FVec Ideal S2x8448x8x128 .f32 :=
  concatenate S2x8448x8x128 1 [⟨S2x256x8x128, (extractStridedSlice S2x256x8x128 ![0, 0, 0, 0] N slices_S2x8448x8x128_S2x256x8x128_0_0_0_0)⟩, ⟨S2x8192x8x128, qRope (extractStridedSlice S2x8192x8x128 ![0, 256, 0, 0] N slices_S2x8448x8x128_S2x8192x8x128_0_256_0_0) ar ac⟩] concatenates_S2x256x8x128_S2x8192x8x128_S2x8448x8x128_d1

theorem qAll_at (N : FVec Ideal S2x8448x8x128 .f32) (ar ac : FVec Ideal S8192x32 .f32) (b : Fin 2) (r : Fin 8448) (h : Fin 8) (j : Fin 128) :
    qAll N ar ac (ix4 b r h j) = rotated ar ac r (fun k => N (ix4 b r h k)) j := by
  unfold qAll
  pointwise []
  unfold rotated
  by_cases l : r.val < 256
  · exact (dif_pos l).trans (Eq.symm (dif_pos l))
  · refine (dif_neg l).trans (Eq.trans ?_ (Eq.symm (dif_neg l)))
    have e : ∀ k : Fin 128, extractStridedSlice S2x8192x8x128 ![0, 256, 0, 0] N slices_S2x8448x8x128_S2x8192x8x128_0_256_0_0
        (ix4 b ⟨r.val - 256, by omega⟩ h k) = N (ix4 b r h k) := by
      intro k
      pointwise []
      exact congrArg (fun z => N (ix4 b z h k)) (Fin.ext (by show 256 + (r.val - 256) = r.val; omega))
    refine (qRope_at _ ar ac b _ h j).trans ?_
    rw [e, e]

theorem keys_term (m : (ℓ : Loc nD τ sig) → Buf (Elt Ideal) ℓ) (c : Dev nD) :
    res_main_v124 m c = truncf .bf16 (shapeCast S16896x256 (kAll (kNorm (kHeads (m ((c.tc : Thread nD τ).loc main_arg0))) (m ((c.tc : Thread nD τ).loc main_arg4)))
      (m ((c.tc : Thread nD τ).loc main_arg1)) (m ((c.tc : Thread nD τ).loc main_arg2))) shapeCasts_S2x8448x2x128_S16896x256) bitsLt_bf16_f32 := rfl

theorem queries_term (m : (ℓ : Loc nD τ sig) → Buf (Elt Ideal) ℓ) (c : Dev nD) :
    res_main_v122 m c = truncf .bf16 (shapeCast S16896x1024 (Host.divf (qAll (qNorm (qHeads (m ((c.tc : Thread nD τ).loc main_arg0))) (m ((c.tc : Thread nD τ).loc main_arg3)))
      (m ((c.tc : Thread nD τ).loc main_arg1)) (m ((c.tc : Thread nD τ).loc main_arg2)))
      (broadcastInDim S2x8448x8x128 ![] bcast_S_S2x8448x8x128 (mulf (Host.sqrt (constant S_ .f32 0x43000000#32)) (Host.log (constant S_ .f32 0x40000000#32)))))
      shapeCasts_S2x8448x8x128_S16896x1024) bitsLt_bf16_f32 := rfl

theorem keys_eq (p : FVec Ideal S16896x10240 .f32) (ar ac : FVec Ideal S8192x32 .f32) (kn : FVec Ideal S4x128 .f32) :
    truncf .bf16 (shapeCast S16896x256 (kAll (kNorm (kHeads p) kn) ar ac) shapeCasts_S2x8448x2x128_S16896x256) bitsLt_bf16_f32 = keys p ar ac kn := by
  funext y
  idx_vars y
  pointwise []
  simp only [kAll_at, kNorm_at, kHeads_at]
  have e0 : y0.val / 8448 * 8448 + y0.val % 8448 = y0.val := by omega
  simp only [e0]
  rfl

theorem ofBits_128 : Ideal.ofBits FTy.f32 1124073472#32 = ((128 : ℝ) : EReal) := by
  simp [Ideal.ofBits, Ideal.ieee, -EReal.coe_mul]; norm_num

theorem ofBits_2 : Ideal.ofBits FTy.f32 1073741824#32 = ((2 : ℝ) : EReal) := by
  simp [Ideal.ofBits, Ideal.ieee, -EReal.coe_mul]; norm_num

/-- Dividing by the root of 128 times the logarithm of 2 is multiplying by the kernel's constant. -/
theorem quotient (x : EReal) :
    Ideal.div x (Ideal.sqrt (Ideal.ofBits FTy.f32 1124073472#32) * Ideal.log (Ideal.ofBits FTy.f32 1073741824#32)) = x * scale := by
  have hr : (0 : ℝ) < √128 := Real.sqrt_pos.2 (by norm_num)
  have hl : (0 : ℝ) < Real.log 2 := Real.log_pos (by norm_num)
  have hs : scale = (((√128 * Real.log 2)⁻¹ : ℝ) : EReal) := rfl
  rw [ofBits_128, ofBits_2, Ideal.sqrt_coe, if_neg (by norm_num : ¬(128 : ℝ) < 0), Ideal.log_coe, if_neg (by norm_num : ¬(2 : ℝ) ≤ 0), ← EReal.coe_mul, Ideal.div_coe (mul_pos hr hl).ne', hs, one_div]

theorem queries_eq (p : FVec Ideal S16896x10240 .f32) (ar ac : FVec Ideal S8192x32 .f32) (qn : FVec Ideal S4x128 .f32) :
    truncf .bf16 (shapeCast S16896x1024 (Host.divf (qAll (qNorm (qHeads p) qn) ar ac)
      (broadcastInDim S2x8448x8x128 ![] bcast_S_S2x8448x8x128 (mulf (Host.sqrt (constant S_ .f32 0x43000000#32)) (Host.log (constant S_ .f32 0x40000000#32)))))
      shapeCasts_S2x8448x8x128_S16896x1024) bitsLt_bf16_f32 = queries p ar ac qn := by
  funext y
  idx_vars y
  pointwise []
  simp only [qAll_at, qNorm_at, qHeads_at]
  have e0 : y0.val / 8448 * 8448 + y0.val % 8448 = y0.val := by omega
  simp only [e0]
  exact quotient _

theorem values_eq (p : FVec Ideal S16896x10240 .f32) :
    truncf .bf16 (shapeCast S16896x256 (extractStridedSlice S2x8448x256 ![0, 0, 2816] (shapeCast _ p shapeCasts_S16896x10240_S2x8448x10240) slices_S2x8448x10240_S2x8448x256_0_0_2816) shapeCasts_S2x8448x256_S16896x256) bitsLt_bf16_f32 = values p := by
  funext y
  idx_vars y
  pointwise []
  rfl

/-- The plain program's run: its results are the same functions of its arguments, which are unchanged. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v122) = queries (m (c.tc.loc main_arg0)) (m (c.tc.loc main_arg1))
        (m (c.tc.loc main_arg2)) (m (c.tc.loc main_arg3))
      ∧ r.2.mem ((c.tc : Thread nD τ).loc main_v124) = keys (m (c.tc.loc main_arg0)) (m (c.tc.loc main_arg1))
        (m (c.tc.loc main_arg2)) (m (c.tc.loc main_arg4))
      ∧ r.2.mem ((c.tc : Thread nD τ).loc main_v126) = values (m (c.tc.loc main_arg0))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c => ⟨(h c).1.trans ((queries_term m c).trans (queries_eq _ _ _ _)),
    (h c).2.1.trans ((keys_term m c).trans (keys_eq _ _ _ _)), (h c).2.2.1.trans (values_eq _), (h c).2.2.2⟩)
    (Cert.Reference5Ideal.Value.run (F := Ideal) m ρ)

end Cert.Reference5Ideal.Prep

end
-- ==== Proof.GluArray.lean ====
/-
  The state-space branch's last stage: the kernel's array and the plain program's result, both the same function of
  the arguments.
-/
module

public import proofs.«01_k».proof.Proof.Gen.Kernel6Ideal.Frame
public import proofs.«01_k».proof.Proof.Gen.Reference6Ideal.Run
public import Idealize.ShloMosaic.Lib.Pipeline.ValueKit
public import Idealize.ShloMosaic.Lib.Pipeline.Covers
public import Idealize.ShloMosaic.Lib.Pointwise
public import Idealize.ShloMosaic.Lib.Claim
public import Idealize.ShloMosaic.Lib.Tactic.ValueTie

@[expose] public section

set_option maxRecDepth 16384

noncomputable section

namespace Cert.Kernel6Ideal.Glu

open Cert.Kernel6Ideal Cert.Kernel6Ideal.Gen Idealize.ShloMosaic Idealize.ShloMosaic.TcCoe Idealize.SL.Sem
open Idealize.ShloMosaic.Pipeline (Dat)

/-- The smooth rectifier in its hyperbolic-tangent form. -/
def gelu (h : EReal) : EReal :=
  h * (Ideal.ofBits FTy.f32 0x3F000000#32 * (1 + Ideal.tanh (Ideal.ofBits FTy.f32 0x3F4C422A#32
    * (h + Ideal.ofBits FTy.f32 0x3D372713#32 * (h * h * h)))))

/-- One feature of a row: the rectified sum, under the logistic gate of the rectified row's product with a column. -/
def gated (h w : Fin 512 → EReal) (n : Fin 512) : EReal :=
  gelu (h n) * Ideal.div 1 (1 + Ideal.exp (-(∑ j, gelu (h j) * w j)))

/-- The result over the arguments: the two scans' rows and the skip of the input, rectified and gated. -/
def result (y0 y1 : FVec Ideal S16896x512 .f32) (p : FVec Ideal S16896x10240 .f32) (d : FVec Ideal S4x512 .f32)
    (w : FVec Ideal S4x512x512 .f32) (y : S16896x512.Idx) : EReal :=
  gated (fun j => y0 (ix2 (y 0) j) + y1 (ix2 (y 0) j) + d (ix2 0 j) * p (ix2 (y 0) (⟨2048 + j.val, by omega⟩ : Fin 10240)))
    (fun j => w (ix3 0 j (y 1))) (y 1)

/-- The kernel's order of the rectifier's factors. -/
theorem gelu_kernel (h : EReal) :
    Ideal.ofBits FTy.f32 0x3F000000#32 * h * (1 + Ideal.tanh (Ideal.ofBits FTy.f32 0x3F4C422A#32
      * (h + Ideal.ofBits FTy.f32 0x3D372713#32 * (h * h * h)))) = gelu h := by
  unfold gelu
  rw [mul_comm _ h, mul_assoc]

/-- A point's block, entry by entry. -/
theorem out_at (x0 x1 x2 : Vec Ideal S1056x512 .f32) (x3 : Vec Ideal S1x512 .f32) (x4 : Vec Ideal S512x512 .bf16)
    (a : Fin 1056) (n : Fin 512) :
    out0_5 x0 x1 x2 x3 x4 (ix2 a n)
      = gated (fun j => x0 (ix2 a j) + x1 (ix2 a j) + x3 (ix2 0 j) * x2 (ix2 a j)) (fun j => x4 (ix2 j n)) n := by
  frame_out
  pointwise [k0_pay1]
  simp only [gated, zero_sub, gelu_kernel]

variable (m : (ℓ : Loc nD τ sig) → Buf (Elt Ideal) ℓ) (ρ : Dev nD → PrngReg)

theorem index0 : ∀ t : Fin cfg0.N, win0_0.index t = ![t.val, 0] := (by decide +kernel : ∀ t : Fin grid0.N, _)
theorem index1 : ∀ t : Fin cfg0.N, win0_1.index t = ![t.val, 0] := (by decide +kernel : ∀ t : Fin grid0.N, _)
theorem index2 : ∀ t : Fin cfg0.N, win0_2.index t = ![t.val, 4] := (by decide +kernel : ∀ t : Fin grid0.N, _)
theorem index3 : ∀ t : Fin cfg0.N, win0_3.index t = ![0, 0] := (by decide +kernel : ∀ t : Fin grid0.N, _)
theorem index4 : ∀ t : Fin cfg0.N, win0_4.index t = ![0, 0] := (by decide +kernel : ∀ t : Fin grid0.N, _)
theorem index5 : ∀ t : Fin cfg0.N, win0_5.index t = ![t.val, 0] := (by decide +kernel : ∀ t : Fin grid0.N, _)

section Blocks

variable (c : Dev nD) (t : Fin cfg0.N) (a : Fin 1056) (r : Fin 16896) (hr : r.val = t.val * 1056 + a.val) (j n : Fin 512)

include hr in
theorem blk0 : iblk m c 0 t (ix2 a j) = m (c.tc.loc main_arg0) (ix2 r j) := by
  blk_simp [iblk]
  refine (congrFun (V_main_arg0 m c) _).trans ?_
  refine congrArg (m (c.tc.loc main_arg0)) (funext fun d => Fin.ext ?_)
  match d with
  | ⟨0, _⟩ => blk_simp [index0 t]; exact hr.symm
  | ⟨1, _⟩ => blk_simp [index0 t]

include hr in
theorem blk1 : iblk m c 1 t (ix2 a j) = m (c.tc.loc main_arg1) (ix2 r j) := by
  blk_simp [iblk]
  refine (congrFun (V_main_arg1 m c) _).trans ?_
  refine congrArg (m (c.tc.loc main_arg1)) (funext fun d => Fin.ext ?_)
  match d with
  | ⟨0, _⟩ => blk_simp [index1 t]; exact hr.symm
  | ⟨1, _⟩ => blk_simp [index1 t]

include hr in
theorem blk2 : iblk m c 2 t (ix2 a j) = m (c.tc.loc main_arg2) (ix2 r (⟨2048 + j.val, by omega⟩ : Fin 10240)) := by
  blk_simp [iblk]
  refine (congrFun (V_main_arg2 m c) _).trans ?_
  refine congrArg (m (c.tc.loc main_arg2)) (funext fun d => Fin.ext ?_)
  match d with
  | ⟨0, _⟩ => blk_simp [index2 t]; exact hr.symm
  | ⟨1, _⟩ => blk_simp [index2 t]

theorem blk3 : iblk m c 3 t (ix2 0 j) = m (c.tc.loc main_arg3) (ix2 0 j) := by
  blk_simp [iblk]
  entry_read
  pointwise []
  refine congrArg (m (c.tc.loc main_arg3)) (congrArg (ix2 0) (Fin.ext ?_))
  blk_simp [index3 t]

theorem blk4 : iblk m c 4 t (ix2 j n) = m (c.tc.loc main_arg4) (ix3 0 j n) := by
  blk_simp [iblk]
  entry_read
  pointwise []
  refine congrArg (m (c.tc.loc main_arg4)) (congrArg₂ (ix3 0) (Fin.ext ?_) (Fin.ext ?_))
  · blk_simp [index4 t]
  · blk_simp [index4 t]

end Blocks

/-- What a point leaves in the output block is the block of `result` it stands on. -/
theorem out_result (c : Dev nD) (t : Fin cfg0.N) (a : Fin 1056) (n : Fin 512) (y : S16896x512.Idx)
    (h0 : (y 0).val = t.val * 1056 + a.val) (h1 : (y 1).val = n.val) :
    (dats m 0 c).after 5 t (ix2 a n) = result (m (c.tc.loc main_arg0)) (m (c.tc.loc main_arg1))
      (m (c.tc.loc main_arg2)) (m (c.tc.loc main_arg3)) (m (c.tc.loc main_arg4)) y := by
  rw [after0_5]
  refine (out_at _ _ _ _ _ a n).trans ?_
  simp only [blk0 m c t a (y 0) h0, blk1 m c t a (y 0) h0, blk2 m c t a (y 0) h0, blk3, blk4]
  obtain rfl : n = y 1 := Fin.ext h1.symm
  rfl

/-- The output array after the run. -/
theorem final (c : Dev nD) :
    (dats m 0 c).arrAt 5 cfg0.N = result (m (c.tc.loc main_arg0)) (m (c.tc.loc main_arg1))
      (m (c.tc.loc main_arg2)) (m (c.tc.loc main_arg3)) (m (c.tc.loc main_arg4)) := by
  refine (dats m 0 c).arrAt_eq_of_covers 5 _ (Pipeline.Window.covers_of_index_surj _ rfl (by decide) fun β => ?_)
    fun t hf y => ?_
  · have hb0 : (β 0).val < 16 := (β 0).isLt
    have hb1 : (β 1).val < 1 := (β 1).isLt
    refine ⟨⟨(β 0).val, by show _ < 16; omega⟩, fun a => ?_⟩
    refine (congrFun (index5 _) a).trans ?_
    match a with
    | ⟨0, _⟩ => rfl
    | ⟨1, _⟩ => show 0 = (β 1).val; omega
  · blk_simp
    refine Eq.trans ?_ (out_result m c t (y 0) (y 1) _ (by blk_simp [index5 t]) (by blk_simp [index5 t]))
    exact congrArg _ (ix2_eta y).symm

/-- The run: every device's result is `result` of its arguments, and the arguments are unchanged. -/
theorem run : θ_run defs (onTc (τ := τ) (main (F := Ideal))) ⟨m, fun _ => 0, ρ⟩ fun r => ∀ c : Dev nD,
      r.2.mem ((c.tc : Thread nD τ).loc main_v6) = result (m (c.tc.loc main_arg0)) (m (c.tc.loc main_arg1))
        (m (c.tc.loc main_arg2)) (m (c.tc.loc main_arg3)) (m (c.tc.loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun r h c => ⟨((h c).1 5).trans (final m c),
    ((h c).1 0).trans (((dats m 0 c).arrAt_in 0 rfl _).trans ((A_eq m c 0).trans (V_main_arg0 m c))),
    ((h c).1 1).trans (((dats m 0 c).arrAt_in 1 rfl _).trans ((A_eq m c 1).trans (V_main_arg1 m c))),
    ((h c).1 2).trans (((dats m 0 c).arrAt_in 2 rfl _).trans ((A_eq m c 2).trans (V_main_arg2 m c))),
    ((h c).2 main_arg3 (Pipeline.mem_restRefs_of main_arg3 (by decide) (by decide))).trans (V_main_arg3 m c),
    ((h c).2 main_arg4 (Pipeline.mem_restRefs_of main_arg4 (by decide) (by decide))).trans (V_main_arg4 m c)⟩) (run_main m ρ)

end Cert.Kernel6Ideal.Glu

namespace Cert.Reference6Ideal.Glu

open Cert.Reference6Ideal Cert.Reference6Ideal.Value Idealize.ShloMosaic Idealize.ShloMosaic.TcCoe Idealize.SL.Sem
open Cert.Kernel6Ideal.Glu (gelu gated result)

/-- The plain program's run: its result is the same function of its arguments, which are unchanged. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v31) = result (m (c.tc.loc main_arg0)) (m (c.tc.loc main_arg1))
        (m (c.tc.loc main_arg2)) (m (c.tc.loc main_arg3)) (m (c.tc.loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) := by
  refine (θ_run defs _ _).mono (fun r h c => ⟨(h c).1.trans ?_, (h c).2⟩) (Cert.Reference6Ideal.Value.run (F := Ideal) m ρ)
  funext y
  clear h
  unfold res_main_v31
  generalize (m (c.tc.loc main_arg0)) = y0
  generalize (m (c.tc.loc main_arg1)) = y1
  generalize (m (c.tc.loc main_arg2)) = p
  generalize (m (c.tc.loc main_arg3)) = d
  generalize (m (c.tc.loc main_arg4)) = w
  clean_types
  idx_vars y
  pointwise [result, gated, gelu]

end Cert.Reference6Ideal.Glu

end
-- ==== Proof.ModArray.lean ====
/-
  The modulation vectors: the kernel's array and the plain program's result, both the same function of the arguments.
-/
module

public import proofs.«01_k».proof.Proof.Gen.Kernel7Ideal.Frame
public import proofs.«01_k».proof.Proof.Gen.Reference7Ideal.Run
public import Idealize.ShloMosaic.Lib.Pipeline.ValueKit
public import Idealize.ShloMosaic.Lib.Pipeline.Covers
public import Idealize.ShloMosaic.Lib.Pointwise
public import Idealize.ShloMosaic.Lib.Claim
public import Idealize.ShloMosaic.Lib.Tactic.ValueTie

@[expose] public section

set_option maxRecDepth 16384

noncomputable section

namespace Cert.Kernel7Ideal.Mod

open Cert.Kernel7Ideal Cert.Kernel7Ideal.Gen Idealize.ShloMosaic Idealize.ShloMosaic.TcCoe Idealize.SL.Sem
open Idealize.ShloMosaic.Pipeline (Dat)

/-- A condition's entry times its logistic function. -/
def silu (x : EReal) : EReal := x * Ideal.div 1 (1 + Ideal.exp (-x))

/-- One modulation entry: a weight's column against the condition, and the bias. -/
def modulated (w x : Fin 2048 → EReal) (b : EReal) : EReal := (∑ j, w j * silu (x j)) + b

/-- The conditions by row: the two samples', then the context's. -/
def condition (cs : FVec Ideal S2x2048 .f32) (cc : FVec Ideal S2048 .f32) (r : Fin 3) (j : Fin 2048) : EReal :=
  if h : r.val < 2 then cs (ix2 ⟨r.val, h⟩ j) else cc (ix1 j)

/-- The result over the arguments: for each layer and condition the modulation vector. -/
def result (cs : FVec Ideal S2x2048 .f32) (cc : FVec Ideal S2048 .f32) (w : FVec Ideal S4x2048x12288 .f32)
    (b : FVec Ideal S4x12288 .f32) (y : S4x3x12288.Idx) : EReal :=
  modulated (fun j => w (ix3 (y 0) j (y 2))) (condition cs cc (y 1)) (b (ix2 (y 0) (y 2)))

/-- A point's block, entry by entry. -/
theorem out_at (x0 : Vec Ideal S2048x3 .f32) (x1 : Vec Ideal S1x2048x512 .f32) (x2 : Vec Ideal S1x1x512 .f32)
    (r : Fin 3) (n : Fin 512) :
    out0_3 x0 x1 x2 (ix3 0 r n) = modulated (fun j => x1 (ix3 0 j n)) (fun j => x0 (ix2 j r)) (x2 (ix3 0 0 n)) := by
  frame_out
  canon_tiles w h
  all_goals
    idx_vars w
    pointwise [k0_pay1, k0_pay2, k0_pay3, k0_pay4, k0_pay5]
    obtain rfl : n = w2 := Fin.ext h2
    simp only [modulated, silu, zero_sub]
  · obtain rfl : r = 2 := Fin.ext (by omega)
    rfl
  · obtain rfl : r = 1 := Fin.ext (by omega)
    rfl
  · obtain rfl : r = 0 := Fin.ext (by omega)
    rfl

variable (m : (ℓ : Loc nD τ sig) → Buf (Elt Ideal) ℓ) (ρ : Dev nD → PrngReg)

theorem index0 : ∀ t : Fin cfg0.N, win0_0.index t = ![0, 0] := (by decide +kernel : ∀ t : Fin grid0.N, _)
theorem index1 : ∀ t : Fin cfg0.N, win0_1.index t = ![t.val / 24, 0, t.val % 24] := (by decide +kernel : ∀ t : Fin grid0.N, _)
theorem index2 : ∀ t : Fin cfg0.N, win0_2.index t = ![t.val / 24, 0, t.val % 24] := (by decide +kernel : ∀ t : Fin grid0.N, _)
theorem index3 : ∀ t : Fin cfg0.N, win0_3.index t = ![t.val / 24, 0, t.val % 24] := (by decide +kernel : ∀ t : Fin grid0.N, _)

section Blocks

variable (c : Dev nD) (t : Fin cfg0.N) (l : Fin 4) (hl : l.val = t.val / 24) (n : Fin 512) (k : Fin 12288)
  (hk : k.val = t.val % 24 * 512 + n.val)

theorem blk0 (j : Fin 2048) (r : Fin 3) :
    iblk m c 0 t (ix2 j r) = condition (m (c.tc.loc main_arg0)) (m (c.tc.loc main_arg1)) r j := by
  blk_simp [iblk]
  entry_read
  have e0 : ((View.whole main_v2).slice (win0_0.rect t)).emb (ix2 j r) 0 = j := Fin.ext (by blk_simp [index0 t])
  have e1 : ((View.whole main_v2).slice (win0_0.rect t)).emb (ix2 j r) 1 = r := Fin.ext (by blk_simp [index0 t])
  pointwise [condition]
  simp only [e0, e1]

include hl hk in
theorem blk1 (j : Fin 2048) : iblk m c 1 t (ix3 0 j n) = m (c.tc.loc main_arg2) (ix3 l j k) := by
  blk_simp [iblk]
  refine (congrFun (V_main_arg2 m c) _).trans ?_
  refine congrArg (m (c.tc.loc main_arg2)) (funext fun d => Fin.ext ?_)
  match d with
  | ⟨0, _⟩ => blk_simp [index1 t]; exact hl.symm
  | ⟨1, _⟩ => blk_simp [index1 t]
  | ⟨2, _⟩ => blk_simp [index1 t]; exact hk.symm

include hl hk in
theorem blk2 : iblk m c 2 t (ix3 0 0 n) = m (c.tc.loc main_arg3) (ix2 l k) := by
  blk_simp [iblk]
  entry_read
  pointwise []
  refine congrArg (m (c.tc.loc main_arg3)) (congrArg₂ ix2 (Fin.ext ?_) (Fin.ext ?_))
  · blk_simp [index2 t]; exact hl.symm
  · blk_simp [index2 t]; exact hk.symm

end Blocks

/-- What a point leaves in the output block is the block of `result` it stands on. -/
theorem out_result (c : Dev nD) (t : Fin cfg0.N) (z : Fin 1) (r : Fin 3) (n : Fin 512) (y : S4x3x12288.Idx)
    (h0 : (y 0).val = t.val / 24) (h1 : (y 1).val = r.val) (h2 : (y 2).val = t.val % 24 * 512 + n.val) :
    (dats m 0 c).after 3 t (ix3 z r n) = result (m (c.tc.loc main_arg0)) (m (c.tc.loc main_arg1))
      (m (c.tc.loc main_arg2)) (m (c.tc.loc main_arg3)) y := by
  obtain rfl : z = 0 := Subsingleton.elim _ _
  rw [after0_3]
  refine (out_at _ _ _ r n).trans ?_
  simp only [blk0, blk1 m c t (y 0) h0 n (y 2) h2, blk2 m c t (y 0) h0 n (y 2) h2]
  obtain rfl : r = y 1 := Fin.ext h1.symm
  rfl

/-- The output array after the run. -/
theorem final (c : Dev nD) :
    (dats m 0 c).arrAt 3 cfg0.N = result (m (c.tc.loc main_arg0)) (m (c.tc.loc main_arg1))
      (m (c.tc.loc main_arg2)) (m (c.tc.loc main_arg3)) := by
  refine (dats m 0 c).arrAt_eq_of_covers 3 _ (Pipeline.Window.covers_of_index_surj _ rfl (by decide) fun β => ?_)
    fun t hf y => ?_
  · have hb0 : (β 0).val < 4 := (β 0).isLt
    have hb1 : (β 1).val < 1 := (β 1).isLt
    have hb2 : (β 2).val < 24 := (β 2).isLt
    refine ⟨⟨24 * (β 0).val + (β 2).val, by show _ < 96; omega⟩, fun a => ?_⟩
    refine (congrFun (index3 _) a).trans ?_
    match a with
    | ⟨0, _⟩ => show (24 * (β 0).val + (β 2).val) / 24 = (β 0).val; omega
    | ⟨1, _⟩ => show 0 = (β 1).val; omega
    | ⟨2, _⟩ => show (24 * (β 0).val + (β 2).val) % 24 = (β 2).val; omega
  · blk_simp
    refine Eq.trans ?_ (out_result m c t (y 0) (y 1) (y 2) _ (by blk_simp [index3 t]) (by blk_simp [index3 t])
      (by blk_simp [index3 t]))
    exact congrArg _ (ix3_eta y).symm

/-- The run: every device's result is `result` of its arguments, and the arguments are unchanged. -/
theorem run : θ_run defs (onTc (τ := τ) (main (F := Ideal))) ⟨m, fun _ => 0, ρ⟩ fun r => ∀ c : Dev nD,
      r.2.mem ((c.tc : Thread nD τ).loc main_v4) = result (m (c.tc.loc main_arg0)) (m (c.tc.loc main_arg1))
        (m (c.tc.loc main_arg2)) (m (c.tc.loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun r h c => ⟨((h c).1 3).trans (final m c),
    ((h c).2 main_arg0 (Pipeline.mem_restRefs_of main_arg0 (by decide) (by decide))).trans (V_main_arg0 m c),
    ((h c).2 main_arg1 (Pipeline.mem_restRefs_of main_arg1 (by decide) (by decide))).trans (V_main_arg1 m c),
    ((h c).1 1).trans (((dats m 0 c).arrAt_in 1 rfl _).trans ((A_eq m c 1).trans (V_main_arg2 m c))),
    ((h c).2 main_arg3 (Pipeline.mem_restRefs_of main_arg3 (by decide) (by decide))).trans (V_main_arg3 m c)⟩) (run_main m ρ)

end Cert.Kernel7Ideal.Mod

namespace Cert.Reference7Ideal.Mod

open Cert.Reference7Ideal Cert.Reference7Ideal.Value Idealize.ShloMosaic Idealize.ShloMosaic.TcCoe Idealize.SL.Sem
open Cert.Kernel7Ideal.Mod (silu modulated condition result)

/-- The plain program's run: its result is the same function of its arguments, which are unchanged. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v10) = result (m (c.tc.loc main_arg0)) (m (c.tc.loc main_arg1))
        (m (c.tc.loc main_arg2)) (m (c.tc.loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) := by
  refine (θ_run defs _ _).mono (fun r h c => ⟨(h c).1.trans ?_, (h c).2⟩) (Cert.Reference7Ideal.Value.run (F := Ideal) m ρ)
  funext y
  clear h
  generalize (m (c.tc.loc main_arg0)) = cs
  generalize (m (c.tc.loc main_arg1)) = cc
  generalize (m (c.tc.loc main_arg2)) = w
  generalize (m (c.tc.loc main_arg3)) = b
  clean_types
  idx_vars y
  pointwise [result, modulated, condition, silu]
  by_cases hy : y1.val < 2
  · simp only [hy, dif_pos]
  · simp only [hy, dif_neg, not_false_eq_true]
    exact congrArg (· + b (ix2 y0 y2)) (Finset.sum_congr rfl fun j _ => mul_comm _ _)

end Cert.Reference7Ideal.Mod

end
-- ==== Proof.RoutePre.lean ====
/-
  The precondition of the router's claim, read: every modulation, gain and router entry of the layer is a real number.
-/
module

public import proofs.«01_k».proof.Proof.FlashPre
public import Idealize.ShloMosaic.Lib.Tactic.ValueTie

@[expose] public section

noncomputable section

namespace Cert.Pre_finite_router

open Idealize.ShloMosaic
open Cert.Pre_finite_queries_and_keys (real_of_all)

instance facts : Facts where
  slices_S4x3x12288_S1x3x12288_0_0_0 := by decide
  shapeCasts_S1x3x12288_S3x12288 := by decide
  bcast_S_S3x12288 := by decide
  reducesTo_S3x12288_S_d0_1 := by decide
  h_S_ := by decide
  slices_S4x2048_S1x2048_0_0 := by decide
  shapeCasts_S1x2048_S2048 := by decide
  bcast_S_S2048 := by decide
  reducesTo_S2048_S_d0 := by decide
  slices_S4x2048x16_S1x2048x16_0_0_0 := by decide
  shapeCasts_S1x2048x16_S2048x16 := by decide
  bcast_S_S2048x16 := by decide
  reducesTo_S2048x16_S_d0_1 := by decide

/-- An entry of the layer's modulation. -/
theorem mods_at (x : FVec Ideal S4x3x12288 .f32) (hs) (hc) (a : Fin 3) (k : Fin 12288) :
    (shapeCast S3x12288 (extractStridedSlice S1x3x12288 ![0, 0, 0] x hs) hc : FVec Ideal S3x12288 .f32) (ix2 a k) = x (ix3 0 a k) := by
  pointwise []

/-- An entry of the layer's gain. -/
theorem gain_at (x : FVec Ideal S4x2048 .f32) (hs) (hc) (k : Fin 2048) :
    (shapeCast S2048 (extractStridedSlice S1x2048 ![0, 0] x hs) hc : FVec Ideal S2048 .f32) (ix1 k) = x (ix2 0 k) := by
  pointwise []

/-- An entry of the layer's router. -/
theorem router_at (x : FVec Ideal S4x2048x16 .f32) (hs) (hc) (k : Fin 2048) (z : Fin 16) :
    (shapeCast S2048x16 (extractStridedSlice S1x2048x16 ![0, 0, 0] x hs) hc : FVec Ideal S2048x16 .f32) (ix2 k z) = x (ix3 0 k z) := by
  pointwise []

/-- The whole test: the layer's modulation, gain and router are real. -/
theorem real (x : FVec Ideal S16896x2048 .f32) (mods : FVec Ideal S4x3x12288 .f32) (g : FVec Ideal S4x2048 .f32)
    (w : FVec Ideal S4x2048x16 .f32) (h : fn (F := Ideal) x mods g w = fun _ => 1#1) :
    (∀ a k, mods (ix3 0 a k) = ((EReal.toReal (mods (ix3 0 a k)) : ℝ) : EReal))
      ∧ (∀ k, g (ix2 0 k) = ((EReal.toReal (g (ix2 0 k)) : ℝ) : EReal))
      ∧ ∀ k z, w (ix3 0 k z) = ((EReal.toReal (w (ix3 0 k z)) : ℝ) : EReal) := by
  have e := congrFun h (Shape.Idx.first Facts.h_S_)
  dsimp only [fn, fn_part1] at e
  obtain ⟨e1, e2⟩ := IntOp.andi_eq_one.1 e
  obtain ⟨e3, e4⟩ := IntOp.andi_eq_one.1 e1
  refine ⟨fun a k => ?_, fun k => ?_, fun k z => ?_⟩
  · have q := real_of_all _ _ _ _ _ e3 (ix2 a k)
    rwa [mods_at] at q
  · have q := real_of_all _ _ _ _ _ e4 (ix1 k)
    rwa [gain_at] at q
  · have q := real_of_all _ _ _ _ _ e2 (ix2 k z)
    rwa [router_at] at q

end Cert.Pre_finite_router

end
-- ==== Proof.RouteBody.lean ====
/-
  What one grid point of the router computes, over the extended reals: a block of 768 rows is normalised and modulated, and the
  16 experts' weights of each row are the softmax of its products with the router's columns. The kernel takes the products in
  six parts, from both factors split in three; of real factors all parts but the first are zero.
-/
module

public import proofs.«01_k».proof.Proof.Gen.Kernel8Ideal.Frame
public import Idealize.ShloMosaic.Lib.Pipeline.ValueKit
public import Idealize.ShloMosaic.Lib.Pointwise

@[expose] public section

set_option maxRecDepth 16384

noncomputable section

namespace Cert.Kernel8Ideal.Route

open Cert.Kernel8Ideal Cert.Kernel8Ideal.Gen Idealize.ShloMosaic Idealize.ShloMosaic.TcCoe Idealize.SL.Sem

/-- One feature of a row after the norm and the modulation: the row over the root of its mean square, times the
    norm's gain, times one plus the scale, plus the shift. -/
def modulated (x g sc sh : Fin 2048 → EReal) (k : Fin 2048) : EReal :=
  x k * Ideal.rsqrt (Ideal.div (∑ j, x j * x j) (Ideal.ofBits FTy.f32 0x45000000#32) + Ideal.ofBits FTy.f32 0x358637BD#32)
    * g k * (1 + sc k) + sh k

/-- The softmax of 16 scores, at one of them. -/
def share (l : Fin 16 → EReal) (e : Fin 16) : EReal :=
  Ideal.div (Ideal.exp (l e - Finset.fold max ⊥ l Finset.univ)) (∑ z, Ideal.exp (l z - Finset.fold max ⊥ l Finset.univ))

/-- The row of the modulation table that row `a` of block `b` takes: the last one for a context row, the batch entry's own
    otherwise. -/
def mrow (b : Fin 22) (a : ℕ) : Fin 3 :=
  if b.val % 11 * 768 + a < 256 then 2 else ⟨b.val / 11, by omega⟩

/-- Whether a row is a context row, as the kernel computes it on words from the block and the row in it. -/
def ctxBit (w : BitVec 32) (v : BitVec 32) : BitVec 1 :=
  IntOp.cmpi CmpIPredicate.slt
    (IntOp.addi
      (Scalar.muli
        (Scalar.select
          (Scalar.andi
            (Scalar.xori (Scalar.cmpi CmpIPredicate.slt (Scalar.remsi w 11#32) 0#32) (Scalar.cmpi CmpIPredicate.slt 11#32 0#32))
            (Scalar.cmpi CmpIPredicate.ne (Scalar.remsi w 11#32) 0#32))
          (Scalar.addi (Scalar.remsi w 11#32) 11#32) (Scalar.remsi w 11#32))
        768#32) v)
    256#32

theorem ctxBit_eq : ∀ (b : Fin 22) (a : Fin 768),
    ctxBit (BitVec.ofNat 32 b.val) (BitVec.ofNat 32 a.val) = BitVec.ofBool (decide (b.val % 11 * 768 + a.val < 256)) := by
  decide +kernel

/-- The context rows, as the kernel finds them on words. -/
theorem pay2_at (i : grid0.Coords) (a : Fin 768) :
    k0_pay2 i (ix2 a 0) = ctxBit (BitVec.ofNat 32 (i 0).val) (BitVec.ofNat 32 a.val) := by
  pointwise [k0_pay2]
  rfl

/-- Selecting a modulation row by the context bit is reading the table at `mrow`. -/
theorem select_ctx {α : Type} (i : grid0.Coords) (a : Fin 768) (hb : (i 0).val / 11 < 3) (f : Fin 3 → α) :
    Scalar.select (k0_pay2 i (ix2 a 0)) (f 2) (f ⟨(i 0).val / 11, hb⟩) = f (mrow (i 0) a.val) := by
  rw [pay2_at, ctxBit_eq (i 0) a]
  unfold mrow
  by_cases h : (i 0).val % 11 * 768 + a.val < 256
  · simp [h, Scalar.select]
  · simp [h, Scalar.select]

theorem off1_eq : ∀ i : grid0.Coords, k0_off1 i = ![(i 0).val / 11, 6144] := by decide +kernel

theorem off2_eq : ∀ i : grid0.Coords, k0_off2 i = ![(i 0).val / 11, 8192] := by decide +kernel

/-- A block's rows, normalised and modulated. -/
theorem pay6_at (i : grid0.Coords) (sh shc sc scc : Vec Ideal S1x2048 .f32) (x : Vec Ideal S768x2048 .f32)
    (g : Vec Ideal S1x2048 .f32) (a : Fin 768) (k : Fin 2048) :
    k0_pay6 (k0_pay2 i) (k0_pay3 sh) (k0_pay4 i) (k0_pay5 shc) sc scc x g (ix2 a k)
      = modulated (fun j => x (ix2 a j)) (fun j => g (ix2 0 j))
          (fun j => Scalar.select (k0_pay2 i (ix2 a 0)) (scc (ix2 0 j)) (sc (ix2 0 j)))
          (fun j => Scalar.select (k0_pay2 i (ix2 a 0)) (shc (ix2 0 j)) (sh (ix2 0 j))) k := by
  generalize hq : k0_pay2 i = q
  unfold k0_pay4
  rw [hq]
  pointwise [k0_pay6, k0_pay3, k0_pay5]
  rfl

/-- The word of minus infinity. -/
theorem bot_word : Ideal.ofBits FTy.f32 4286578688#32 = (⊥ : EReal) := by simp [Ideal.ofBits, Ideal.ieee]

/-- A sum of real numbers is real. -/
theorem sum_coe {n : ℕ} (f : Fin n → ℝ) : (∑ x, (f x : EReal)) = ((∑ x, f x : ℝ) : EReal) :=
  (map_sum (⟨⟨Real.toEReal, EReal.coe_zero⟩, EReal.coe_add⟩ : ℝ →+ EReal) f Finset.univ).symm

/-- The product's six parts, of real factors: all but the first are zero. -/
theorem parts (u v : Fin 2048 → EReal) (u' v' : Fin 2048 → ℝ) (hu : ∀ j, u j = (u' j : EReal)) (hv : ∀ j, v j = (v' j : EReal)) :
    ∑ x, u x * v x + (∑ x, u x * (v x - v x) + ∑ x, (u x - u x) * v x)
        + (∑ x, u x * (v x - v x - (v x - v x)) + ∑ x, (u x - u x - (u x - u x)) * v x + ∑ x, (u x - u x) * (v x - v x))
      = ∑ x, u x * v x := by
  have h1 : ∀ x, u x - u x = 0 := fun x => by rw [hu, ← EReal.coe_sub, sub_self, EReal.coe_zero]
  have h2 : ∀ x, v x - v x = 0 := fun x => by rw [hv, ← EReal.coe_sub, sub_self, EReal.coe_zero]
  have h3 : (0 : EReal) - 0 = 0 := by rw [← EReal.coe_zero, ← EReal.coe_sub, sub_self]
  simp only [h1, h2, h3, mul_zero, zero_mul, Finset.sum_const_zero, add_zero]

/-- The weights over the products in six parts, of real factors. -/
theorem pay1_at (h : FVec Ideal S768x2048 .f32) (w : Vec Ideal S16x2048 .f32) (e : Fin 16) (a : Fin 768)
    (w' : Fin 16 → Fin 2048 → ℝ) (h' : Fin 2048 → ℝ) (hw : ∀ z j, w (ix2 z j) = (w' z j : EReal))
    (hh : ∀ j, h (ix2 a j) = (h' j : EReal)) :
    k0_pay1 h (k0_pay8 w) (k0_pay10 w) (k0_pay11 w) (ix2 e a) = share (fun z => ∑ j, w (ix2 z j) * h (ix2 a j)) e := by
  pointwise [k0_pay1, k0_pay8, k0_pay10, k0_pay11, k0_pay9, k0_pay7]
  have p := fun z => parts (fun j => w (ix2 z j)) (fun j => h (ix2 a j)) (w' z) h' (hw z) hh
  simp only [p, bot_word]
  rfl

/-- A square is not negative. -/
theorem square_nonneg (x : EReal) : 0 ≤ x * x := by
  induction x with
  | bot => simp
  | top => simp
  | coe r => rw [← EReal.coe_mul]; exact EReal.coe_nonneg.2 (mul_self_nonneg r)

theorem ofBits_2048 : Ideal.ofBits FTy.f32 0x45000000#32 = ((2048 : ℝ) : EReal) := by
  simp [Ideal.ofBits, Ideal.ieee, -EReal.coe_mul]; norm_num

theorem ofBits_eps : Ideal.ofBits FTy.f32 0x358637BD#32 = ((8796093 / 8796093022208 : ℝ) : EReal) := by
  simp [Ideal.ofBits, Ideal.ieee, -EReal.coe_mul]; norm_num

/-- A normed feature is real, whatever the row: with an infinite entry the root's inverse is zero. -/
theorem normed_real (x : Fin 2048 → EReal) (k : Fin 2048) : ∃ r : ℝ,
    x k * Ideal.rsqrt (Ideal.div (∑ j, x j * x j) (Ideal.ofBits FTy.f32 0x45000000#32) + Ideal.ofBits FTy.f32 0x358637BD#32)
      = (r : EReal) := by
  rw [ofBits_2048, ofBits_eps, Ideal.div_coe (by norm_num)]
  by_cases h : ∃ j, x j = ⊤ ∨ x j = ⊥
  · obtain ⟨j, hj⟩ := h
    have e : x j * x j = ⊤ := by rcases hj with hj | hj <;> rw [hj] <;> simp
    have es : (∑ j, x j * x j) = ⊤ :=
      top_le_iff.1 (e ▸ Finset.single_le_sum (f := fun j => x j * x j) (fun j _ => square_nonneg (x j)) (Finset.mem_univ j))
    refine ⟨0, ?_⟩
    rw [es, EReal.top_mul_coe_of_pos (by norm_num), EReal.top_add_coe]
    exact mul_zero _
  · push Not at h
    have hx : ∀ j, x j = ((x j).toReal : EReal) := fun j => (EReal.coe_toReal (h j).1 (h j).2).symm
    have es : (∑ j, x j * x j) = ((∑ j, (x j).toReal * (x j).toReal : ℝ) : EReal) := by
      rw [← sum_coe]
      exact Finset.sum_congr rfl fun j _ => by rw [EReal.coe_mul, ← hx j]
    have hs : 0 ≤ ∑ j, (x j).toReal * (x j).toReal := Finset.sum_nonneg fun j _ => mul_self_nonneg _
    have hp : 0 < (∑ j, (x j).toReal * (x j).toReal) * (1 / 2048) + 8796093 / 8796093022208 := by linarith
    rw [es, ← EReal.coe_mul, ← EReal.coe_add, Ideal.rsqrt_coe, if_neg (not_lt.2 hp.le), if_neg hp.ne']
    refine ⟨(x k).toReal * (Real.sqrt ((∑ j, (x j).toReal * (x j).toReal) * (1 / 2048) + 8796093 / 8796093022208))⁻¹, ?_⟩
    rw [EReal.coe_mul, ← hx k]

/-- A row's modulated feature is real if gain, scale and shift are. -/
theorem modulated_real (x g sc sh : Fin 2048 → EReal) (k : Fin 2048) (g' sc' sh' : ℝ) (hg : g k = (g' : EReal))
    (hc : sc k = (sc' : EReal)) (hs : sh k = (sh' : EReal)) :
    modulated x g sc sh k = ((modulated x g sc sh k).toReal : EReal) := by
  have e : ∃ r : ℝ, modulated x g sc sh k = (r : EReal) := by
    obtain ⟨r, hr⟩ := normed_real x k
    refine ⟨r * g' * (1 + sc') + sh', ?_⟩
    unfold modulated
    rw [hr, hg, hc, hs]
    norm_cast
  obtain ⟨r, hr⟩ := e
  rw [hr, EReal.toReal_coe]

/-- The block's modulated rows over the staged blocks of the stream, the modulation table and the gain. -/
def rows (b : Fin 22) (x : Vec Ideal S768x2048 .f32) (t : Vec Ideal S3x12288 .f32) (g : Vec Ideal S1x2048 .f32)
    (a : Fin 768) : Fin 2048 → EReal :=
  modulated (fun j => x (ix2 a j)) (fun j => g (ix2 0 j)) (fun j => t (ix2 (mrow b a.val) ⟨8192 + j.val, by omega⟩))
    (fun j => t (ix2 (mrow b a.val) ⟨6144 + j.val, by omega⟩))

/-- A load of one table row's 2048 entries from column `q`. -/
theorem ld_mod (t : Vec Ideal S3x12288 .f32) (off : Fin 2 → ℕ) (r q : ℕ) (hr : r < 3) (hq : q + 2048 ≤ 12288) (inb)
    (e : off = ![r, q]) (j : Fin 2048) :
    View.ld t (Rect.unit (s := S3x12288) off ![1, 2048] inb) (ix2 0 j) = t (ix2 ⟨r, hr⟩ ⟨q + j.val, by omega⟩) := by
  subst e
  refine View.ld_unit_apply_of _ _ _ _ _ _ fun a => ?_
  match a with
  | ⟨0, _⟩ => rfl
  | ⟨1, _⟩ => rfl

/-- The modulated rows from the loads the kernel makes. -/
theorem rows_of (i : grid0.Coords) (x0 : Vec Ideal S768x2048 .f32) (x1 : Vec Ideal S3x12288 .f32) (x2 : Vec Ideal S1x2048 .f32)
    (a : Fin 768) (k : Fin 2048) (inb1) (inb2) (inb3) (inb4) :
    k0_pay6 (k0_pay2 i) (k0_pay3 (View.ld x1 (Rect.unit (s := S3x12288) (k0_off1 i) ![1, 2048] inb1))) (k0_pay4 i)
      (k0_pay5 (View.ld x1 (Rect.unit (s := S3x12288) ![2, 6144] ![1, 2048] inb2)))
      (View.ld x1 (Rect.unit (s := S3x12288) (k0_off2 i) ![1, 2048] inb3))
      (View.ld x1 (Rect.unit (s := S3x12288) ![2, 8192] ![1, 2048] inb4)) x0 x2 (ix2 a k) = rows (i 0) x0 x1 x2 a k := by
  have hi : (i 0).val < 22 := (i 0).isLt
  have hb : (i 0).val / 11 < 3 := by omega
  rw [pay6_at]
  unfold rows
  congr 1
  · funext j
    rw [ld_mod x1 _ 2 8192 (by omega) (by omega) _ rfl, ld_mod x1 _ _ 8192 hb (by omega) _ (off2_eq i)]
    exact select_ctx i a hb fun r => x1 (ix2 r ⟨8192 + j.val, by omega⟩)
  · funext j
    rw [ld_mod x1 _ 2 6144 (by omega) (by omega) _ rfl, ld_mod x1 _ _ 6144 hb (by omega) _ (off1_eq i)]
    exact select_ctx i a hb fun r => x1 (ix2 r ⟨6144 + j.val, by omega⟩)

section Body

variable (c : Dev nD) (i : grid0.Coords) (arg1 : Memref sig .tc .vmem S768x2048 .f32) (harg1 : arg1.IsWhole)
  (arg2 : Memref sig .tc .vmem S3x12288 .f32) (harg2 : arg2.IsWhole) (arg3 : Memref sig .tc .vmem S1x2048 .f32)
  (harg3 : arg3.IsWhole) (arg4 : Memref sig .tc .vmem S16x2048 .f32) (harg4 : arg4.IsWhole)
  (arg5 : Memref sig .tc .vmem S768x2048 .f32) (harg5 : arg5.IsWhole) (arg6 : Memref sig .tc .vmem S16x768 .f32)
  (harg6 : arg6.IsWhole) (x0 : Vec Ideal S768x2048 .f32) (x1 : Vec Ideal S3x12288 .f32) (x2 : Vec Ideal S1x2048 .f32)
  (x3 : Vec Ideal S16x2048 .f32)

/-- A point leaves the block's modulated rows. -/
theorem out_h (a : Fin 768) (k : Fin 2048) :
    out0_A_4 c i arg1 harg1 arg2 harg2 arg3 harg3 arg4 harg4 arg5 harg5 arg6 harg6 x0 x1 x2 x3 (ix2 a k)
      = rows (i 0) x0 x1 x2 a k := by
  frame_out
  exact rows_of i x0 x1 x2 a k _ _ _ _

/-- A point leaves the experts' weights of the block's rows, if router and rows are real. -/
theorem out_w (e : Fin 16) (a : Fin 768) (w' : Fin 16 → Fin 2048 → ℝ) (h' : Fin 2048 → ℝ)
    (hw : ∀ z j, x3 (ix2 z j) = (w' z j : EReal)) (hh : ∀ j, rows (i 0) x0 x1 x2 a j = (h' j : EReal)) :
    out0_A_5 c i arg1 harg1 arg2 harg2 arg3 harg3 arg4 harg4 arg5 harg5 arg6 harg6 x0 x1 x2 x3 (ix2 e a)
      = share (fun z => ∑ j, x3 (ix2 z j) * rows (i 0) x0 x1 x2 a j) e := by
  frame_out
  refine (pay1_at _ x3 e a w' h' hw fun j => (rows_of i x0 x1 x2 a j _ _ _ _).trans (hh j)).trans ?_
  exact congrArg (fun f => share f e) (funext fun z => Finset.sum_congr rfl fun j _ =>
    congrArg (x3 (ix2 z j) * ·) (rows_of i x0 x1 x2 a j _ _ _ _))

end Body

end Cert.Kernel8Ideal.Route

end
-- ==== Proof.RouteArray.lean ====
/-
  The arrays that the router leaves, entry by entry over the program's arguments: the modulated rows, and every row's
  weights over the experts.
-/
module

public import proofs.«01_k».proof.Proof.RouteBody
public import Idealize.ShloMosaic.Lib.Pipeline.ValueKit.Held
public import Idealize.ShloMosaic.Lib.Pipeline.Covers
public import Idealize.ShloMosaic.Lib.Claim

@[expose] public section

set_option maxRecDepth 16384

noncomputable section

namespace Cert.Kernel8Ideal.Route

open Cert.Kernel8Ideal Cert.Kernel8Ideal.Gen Idealize.ShloMosaic Idealize.ShloMosaic.TcCoe Idealize.SL.Sem
open Idealize.ShloMosaic.Pipeline (Dat)

variable (m : (ℓ : Loc nD τ sig) → Buf (Elt Ideal) ℓ) (ρ : Dev nD → PrngReg)

theorem coord0 : ∀ t : Fin cfg0.N, (grid0.coords t 0).val = t.val := (by decide +kernel : ∀ t : Fin grid0.N, _)
theorem index0 : ∀ t : Fin cfg0.N, win0_0.index t = ![t.val, 0] := (by decide +kernel : ∀ t : Fin grid0.N, _)
theorem index1 : ∀ t : Fin cfg0.N, win0_1.index t = ![0, 0] := (by decide +kernel : ∀ t : Fin grid0.N, _)
theorem index2 : ∀ t : Fin cfg0.N, win0_2.index t = ![0, 0] := (by decide +kernel : ∀ t : Fin grid0.N, _)
theorem index3 : ∀ t : Fin cfg0.N, win0_3.index t = ![0, 0] := (by decide +kernel : ∀ t : Fin grid0.N, _)
theorem index4 : ∀ t : Fin cfg0.N, win0_4.index t = ![t.val, 0] := (by decide +kernel : ∀ t : Fin grid0.N, _)
theorem index5 : ∀ t : Fin cfg0.N, win0_5.index t = ![0, t.val] := (by decide +kernel : ∀ t : Fin grid0.N, _)

/-- The modulation row of stream row `r`: the third for a context row, else the batch entry's. -/
def owner (r : Fin 16896) : Fin 3 := if r.val % 8448 < 256 then 2 else ⟨r.val / 8448, by omega⟩

theorem mrow_owner (b : Fin 22) (a : Fin 768) (r : Fin 16896) (h : r.val = b.val * 768 + a.val) :
    mrow b a.val = owner r := by
  have h1 : r.val % 8448 = b.val % 11 * 768 + a.val := by omega
  have h2 : r.val / 8448 = b.val / 11 := by omega
  unfold mrow owner
  simp only [h1, h2]

theorem blk0 (c : Dev nD) (t : Fin cfg0.N) (a : Fin 768) (j : Fin 2048) (r : Fin 16896) (hr : r.val = t.val * 768 + a.val) :
    iblk m c 0 t (ix2 a j) = (show FVec Ideal S16896x2048 .f32 from m ((c : Thread nD τ).loc main_arg0)) (ix2 r j) := by
  blk_simp [iblk]
  rw [V_main_arg0]
  refine congrArg (m (c.tc.loc main_arg0)) (funext fun d => Fin.ext ?_)
  refine (Pipeline.Window.rect_emb_val_off win0_0 t (ix2 a j) d).trans ?_
  rw [index0 t]
  fin_cases d
  · exact hr.symm
  · exact Nat.zero_add _

theorem blk1 (c : Dev nD) (t : Fin cfg0.N) (a : Fin 3) (j : Fin 12288) :
    iblk m c 1 t (ix2 a j) = (show FVec Ideal S4x3x12288 .f32 from m ((c : Thread nD τ).loc main_arg1)) (ix3 0 a j) := by
  blk_simp [iblk]
  entry_read
  pointwise []
  have e0 : ((View.whole main_v1).slice (win0_1.rect t)).emb (ix2 a j) 0 = a := Fin.ext (by blk_simp [index1 t])
  have e1 : ((View.whole main_v1).slice (win0_1.rect t)).emb (ix2 a j) 1 = j := Fin.ext (by blk_simp [index1 t])
  simp only [e0, e1]

theorem blk2 (c : Dev nD) (t : Fin cfg0.N) (j : Fin 2048) :
    iblk m c 2 t (ix2 0 j) = (show FVec Ideal S4x2048 .f32 from m ((c : Thread nD τ).loc main_arg2)) (ix2 0 j) := by
  blk_simp [iblk]
  entry_read
  pointwise []
  have e1 : ((View.whole main_v7).slice (win0_2.rect t)).emb (ix2 0 j) 1 = j := Fin.ext (by blk_simp [index2 t])
  simp only [e1]

theorem blk3 (c : Dev nD) (t : Fin cfg0.N) (z : Fin 16) (j : Fin 2048) :
    iblk m c 3 t (ix2 z j) = (show FVec Ideal S4x2048x16 .f32 from m ((c : Thread nD τ).loc main_arg3)) (ix3 0 j z) := by
  blk_simp [iblk]
  entry_read
  pointwise []
  have e0 : ((View.whole main_v6).slice (win0_3.rect t)).emb (ix2 z j) 0 = z := Fin.ext (by blk_simp [index3 t])
  have e1 : ((View.whole main_v6).slice (win0_3.rect t)).emb (ix2 z j) 1 = j := Fin.ext (by blk_simp [index3 t])
  simp only [e0, e1]

/-- The modulated feature `j` of stream row `r`: the row normalised by its root mean square with the layer's gain, scaled
    and shifted by its owner's modulation (the fifth and the fourth of its six). -/
def feature (x : FVec Ideal S16896x2048 .f32) (mods : FVec Ideal S4x3x12288 .f32) (g : FVec Ideal S4x2048 .f32)
    (r : Fin 16896) (j : Fin 2048) : EReal :=
  modulated (fun k => x (ix2 r k)) (fun k => g (ix2 0 k))
    (fun k => mods (ix3 0 (owner r) ⟨8192 + k.val, by omega⟩)) (fun k => mods (ix3 0 (owner r) ⟨6144 + k.val, by omega⟩)) j

/-- The first result: all rows' modulated features. -/
def features (x : FVec Ideal S16896x2048 .f32) (mods : FVec Ideal S4x3x12288 .f32) (g : FVec Ideal S4x2048 .f32) :
    FVec Ideal S16896x2048 .f32 := fun y => feature x mods g (y 0) (y 1)

/-- Row `r`'s score for every expert: the products of its features with the expert's column. -/
def scores (x : FVec Ideal S16896x2048 .f32) (mods : FVec Ideal S4x3x12288 .f32) (g : FVec Ideal S4x2048 .f32)
    (w : FVec Ideal S4x2048x16 .f32) (r : Fin 16896) : Fin 16 → EReal := fun z =>
  ∑ j : Fin 2048, w (ix3 0 j z) * feature x mods g r j

/-- The second result: expert `e`'s softmax weight at a row, from the row's scores. -/
def weights (x : FVec Ideal S16896x2048 .f32) (mods : FVec Ideal S4x3x12288 .f32) (g : FVec Ideal S4x2048 .f32)
    (w : FVec Ideal S4x2048x16 .f32) : FVec Ideal S16x16896 .f32 := fun y =>
  share (scores x mods g w (y 1)) (y 0)

/-- Features are real if modulation and gain are. -/
theorem feature_real (x : FVec Ideal S16896x2048 .f32) (mods : FVec Ideal S4x3x12288 .f32) (g : FVec Ideal S4x2048 .f32)
    (hm : ∀ a k, mods (ix3 0 a k) = ((mods (ix3 0 a k)).toReal : EReal)) (hg : ∀ k, g (ix2 0 k) = ((g (ix2 0 k)).toReal : EReal)) (r : Fin 16896) (j : Fin 2048) :
    feature x mods g r j = ((feature x mods g r j).toReal : EReal) :=
  modulated_real _ _ _ _ _ _ _ _ (hg _) (hm _ _) (hm _ _)

/-- A block's rows are the stream's features. -/
theorem rows_eq (c : Dev nD) (t : Fin cfg0.N) (a : Fin 768) (k : Fin 2048) (r : Fin 16896) (hr : r.val = t.val * 768 + a.val) :
    rows (grid0.coords t 0) (iblk m c 0 t) (iblk m c 1 t) (iblk m c 2 t) a k
      = feature (m (c.tc.loc main_arg0)) (m (c.tc.loc main_arg1)) (m (c.tc.loc main_arg2)) r k := by
  have ho : mrow (grid0.coords t 0) a.val = owner r :=
    mrow_owner _ a _ (hr.trans (congrArg (· * 768 + a.val) (coord0 t).symm))
  unfold rows feature
  rw [ho]
  simp only [blk1, blk2]
  exact congrArg (fun f => modulated f _ _ _ k) (funext fun j => blk0 m c t a j r hr)

/-- What a point leaves in the first output block. -/
theorem out_features (c : Dev nD) (t : Fin cfg0.N) (a : Fin 768) (k : Fin 2048) (y : S16896x2048.Idx)
    (h0 : (y 0).val = t.val * 768 + a.val) (h1 : y 1 = k) :
    (outsAt0 m c t).1 (ix2 a k) = features (m (c.tc.loc main_arg0)) (m (c.tc.loc main_arg1)) (m (c.tc.loc main_arg2)) y := by
  unfold outsAt0
  dsimp only
  rw [out_h, rows_eq m c t a k (y 0) h0, ← h1]
  rfl

/-- What a point leaves in the second output block, with real modulation, gain and router. -/
theorem out_weights (c : Dev nD) (hm : ∀ a k, m (c.tc.loc main_arg1) (ix3 0 a k) = ((EReal.toReal (m (c.tc.loc main_arg1) (ix3 0 a k)) : ℝ) : EReal))
    (hg : ∀ k, m (c.tc.loc main_arg2) (ix2 0 k) = ((EReal.toReal (m (c.tc.loc main_arg2) (ix2 0 k)) : ℝ) : EReal))
    (hw : ∀ k z, m (c.tc.loc main_arg3) (ix3 0 k z) = ((EReal.toReal (m (c.tc.loc main_arg3) (ix3 0 k z)) : ℝ) : EReal))
    (t : Fin cfg0.N) (e : Fin 16) (a : Fin 768) (y : S16x16896.Idx)
    (h0 : y 0 = e) (h1 : (y 1).val = t.val * 768 + a.val) :
    (outsAt0 m c t).2 (ix2 e a)
      = weights (m (c.tc.loc main_arg0)) (m (c.tc.loc main_arg1)) (m (c.tc.loc main_arg2)) (m (c.tc.loc main_arg3)) y := by
  unfold outsAt0
  dsimp only
  rw [out_w (w' := fun z j => EReal.toReal (m (c.tc.loc main_arg3) (ix3 0 j z)))
    (h' := fun j => EReal.toReal (feature (m (c.tc.loc main_arg0)) (m (c.tc.loc main_arg1)) (m (c.tc.loc main_arg2)) (y 1) j))
    (hw := fun z j => (blk3 m c t z j).trans (hw _ _))
    (hh := fun j => (rows_eq m c t a j (y 1) h1).trans (feature_real _ _ _ hm hg _ _))]
  subst h0
  refine congrArg (fun f => share f (y 0)) (funext fun z => Finset.sum_congr rfl fun j _ => ?_)
  rw [blk3, rows_eq m c t a j (y 1) h1]

/-- The first array after all points. -/
theorem final_features (c : Dev nD) :
    (dats m 0 c).arrAt 4 cfg0.N = features (m (c.tc.loc main_arg0)) (m (c.tc.loc main_arg1)) (m (c.tc.loc main_arg2)) := by
  refine (dats m 0 c).arrAt_eq_of_covers 4 _ (Pipeline.Window.covers_of_index_surj _ rfl (by decide) fun β => ?_)
    fun t hf y => ?_
  · have hb0 : (β 0).val < 22 := (β 0).isLt
    have hb1 : (β 1).val < 1 := (β 1).isLt
    refine ⟨⟨(β 0).val, by show _ < 22; omega⟩, fun a => ?_⟩
    refine (congrFun (index4 _) a).trans ?_
    match a with
    | ⟨0, _⟩ => rfl
    | ⟨1, _⟩ => show 0 = (β 1).val; omega
  · blk_simp
    rw [after0_4]
    refine Eq.trans ?_ (out_features m c t (y 0) (y 1) _ (by blk_simp [index4 t]) (Fin.ext (by blk_simp [index4 t])))
    exact congrArg _ (ix2_eta y).symm

/-- The second array after all points, with real modulation, gain and router. -/
theorem final_weights (c : Dev nD)
    (hm : ∀ a k, m (c.tc.loc main_arg1) (ix3 0 a k) = ((EReal.toReal (m (c.tc.loc main_arg1) (ix3 0 a k)) : ℝ) : EReal))
    (hg : ∀ k, m (c.tc.loc main_arg2) (ix2 0 k) = ((EReal.toReal (m (c.tc.loc main_arg2) (ix2 0 k)) : ℝ) : EReal))
    (hw : ∀ k z, m (c.tc.loc main_arg3) (ix3 0 k z) = ((EReal.toReal (m (c.tc.loc main_arg3) (ix3 0 k z)) : ℝ) : EReal)) :
    (dats m 0 c).arrAt 5 cfg0.N
      = weights (m (c.tc.loc main_arg0)) (m (c.tc.loc main_arg1)) (m (c.tc.loc main_arg2)) (m (c.tc.loc main_arg3)) := by
  refine (dats m 0 c).arrAt_eq_of_covers 5 _ (Pipeline.Window.covers_of_index_surj _ rfl (by decide) fun β => ?_)
    fun t hf y => ?_
  · have hb0 : (β 0).val < 1 := (β 0).isLt
    have hb1 : (β 1).val < 22 := (β 1).isLt
    refine ⟨⟨(β 1).val, by show _ < 22; omega⟩, fun a => ?_⟩
    refine (congrFun (index5 _) a).trans ?_
    match a with
    | ⟨0, _⟩ => show 0 = (β 0).val; omega
    | ⟨1, _⟩ => rfl
  · blk_simp
    rw [after0_5]
    refine Eq.trans ?_ (out_weights m c hm hg hw t (y 0) (y 1) _ (Fin.ext (by blk_simp [index5 t])) (by blk_simp [index5 t]))
    exact congrArg _ (ix2_eta y).symm

end Cert.Kernel8Ideal.Route

end
-- ==== Proof.RouteRef.lean ====
/-
  The plain router's two results, entry by entry: the same functions of the arguments as the kernel's arrays.
-/
module

public import proofs.«01_k».proof.Proof.RouteArray
public import proofs.«01_k».proof.Proof.Gen.Reference8Ideal.Run
public import Idealize.ShloMosaic.Lib.Tactic.ValueTie

@[expose] public section

set_option maxRecDepth 16384

noncomputable section

namespace Cert.Reference8Ideal.Route

open Cert.Reference8Ideal Cert.Reference8Ideal.Gen Cert.Reference8Ideal.Value Idealize.ShloMosaic Idealize.ShloMosaic.TcCoe Idealize.SL.Sem
open Cert.Kernel8Ideal.Route (features weights scores share bot_word)

/-- The plain program's first result is `features` of its arguments. -/
theorem result_features (m : (ℓ : Loc nD τ sig) → Buf (Elt Ideal) ℓ) (c : Dev nD) :
    res_out0 m c = features (m (c.tc.loc main_arg0)) (m (c.tc.loc main_arg1)) (m (c.tc.loc main_arg2)) := by
  funext y
  unfold res_out0 res_main_v45
  generalize (m (c.tc.loc main_arg0)) = x
  generalize (m (c.tc.loc main_arg1)) = mods
  generalize (m (c.tc.loc main_arg2)) = g
  clean_types
  idx_vars y
  pointwise [features, Cert.Kernel8Ideal.Route.feature, Cert.Kernel8Ideal.Route.modulated, Cert.Kernel8Ideal.Route.owner]
  by_cases h : y0.val % 8448 < 256
  · simp only [h, ↓reduceDIte, ↓reduceIte]
  · have e : y0.val / 8448 * 8448 + (256 + (y0.val % 8448 - 256)) = y0.val := by omega
    simp only [h, ↓reduceDIte, ↓reduceIte, e]

/-- The largest of a row's scores. -/
theorem row_max (S : FVec Ideal S16896x16 .f32) (r : Fin 16896) :
    Host.reduce FloatOps.maximumf S (constant S_ .f32 0xFF800000#32) reducesTo_S16896x16_S16896_d1 h_S_ (ix1 r)
      = Finset.fold max ⊥ (fun z => S (ix2 r z)) Finset.univ := by
  have hr : S16896x16.Reduces [1] S16896 := by decide
  refine (Host.reduce_eq_fold_single FloatOps.maximumf S _ reducesTo_S16896x16_S16896_d1 hr h_S_ _).trans ?_
  have e : (S ∘ hr.lift (ix1 r)) = fun z => S (ix2 r z) := by
    funext z
    refine congrArg S (funext fun a => Fin.ext ?_)
    match a with
    | ⟨0, _⟩ => rfl
    | ⟨1, _⟩ => rfl
  rw [e, ← bot_word]
  rfl

/-- A row's weight from its scores and their maximum. -/
theorem row_weight (S : FVec Ideal S16896x16 .f32) (M : FVec Ideal S16896 .f32) (e : Fin 16) (r : Fin 16896) :
    transpose S16x16896 [1, 0]
      (Host.divf (Host.exp (subf S (broadcastInDim S16896x16 ![0, 1] bcast_S16896x1_S16896x16_0_1
        (broadcastInDim S16896x1 ![0] bcast_S16896_S16896x1_0
          (maximumf (broadcastInDim S16896 ![] bcast_S_S16896 (constant S_ .f32 0xFF800000#32)) M)))))
      (broadcastInDim S16896x16 ![0, 1] bcast_S16896x1_S16896x16_0_1
        (broadcastInDim S16896x1 ![0] bcast_S16896_S16896x1_0
          (Host.reduceAdd (Host.exp (subf S (broadcastInDim S16896x16 ![0, 1] bcast_S16896x1_S16896x16_0_1
            (broadcastInDim S16896x1 ![0] bcast_S16896_S16896x1_0
              (maximumf (broadcastInDim S16896 ![] bcast_S_S16896 (constant S_ .f32 0xFF800000#32)) M)))))
            (constant S_ .f32 0x00000000#32) reducesTo_S16896x16_S16896_d1 h_S_)))) transposes_S16896x16_S16x16896_1_0 (ix2 e r)
      = Ideal.div (Ideal.exp (S (ix2 r e) - max (Ideal.ofBits FTy.f32 4286578688#32) (M (ix1 r))))
          (∑ z, Ideal.exp (S (ix2 r z) - max (Ideal.ofBits FTy.f32 4286578688#32) (M (ix1 r)))) := by
  pointwise []

/-- A row's score for an expert. -/
theorem row_score (h : FVec Ideal S16896x2048 .f32) (w : FVec Ideal S4x2048x16 .f32) (r : Fin 16896) (z : Fin 16) :
    (Host.dotGeneral dot_S16896x2048_S2048x16_S16896x16_1_0_0_1_n_n none h
      (shapeCast S2048x16 (extractStridedSlice S1x2048x16 ![0, 0, 0] w slices_S4x2048x16_S1x2048x16_0_0_0)
        shapeCasts_S1x2048x16_S2048x16) : FVec Ideal S16896x16 .f32) (ix2 r z) = ∑ j, w (ix3 0 j z) * h (ix2 r j) := by
  pointwise []
  exact Finset.sum_congr rfl fun j _ => mul_comm _ _

/-- The softmax with the maximum taken once more against minus infinity. -/
theorem share_of (S : FVec Ideal S16896x16 .f32) (l : Fin 16 → EReal) (M : EReal) (r : Fin 16896) (e : Fin 16)
    (hS : ∀ z, S (ix2 r z) = l z) (hM : M = Finset.fold max ⊥ (fun z => S (ix2 r z)) Finset.univ) :
    Ideal.div (Ideal.exp (S (ix2 r e) - max (Ideal.ofBits FTy.f32 4286578688#32) M))
      (∑ z, Ideal.exp (S (ix2 r z) - max (Ideal.ofBits FTy.f32 4286578688#32) M)) = share l e := by
  subst hM
  simp only [bot_word, hS, bot_sup_eq]
  rfl

/-- The plain program's second result is `weights` of its arguments. -/
theorem result_weights (m : (ℓ : Loc nD τ sig) → Buf (Elt Ideal) ℓ) (c : Dev nD) :
    res_out1 m c = weights (m (c.tc.loc main_arg0)) (m (c.tc.loc main_arg1)) (m (c.tc.loc main_arg2)) (m (c.tc.loc main_arg3)) := by
  funext y
  idx_vars y
  unfold res_out1 res_main_v60
  refine (row_weight _ _ y0 y1).trans ?_
  refine share_of _ (scores (m (c.tc.loc main_arg0)) (m (c.tc.loc main_arg1)) (m (c.tc.loc main_arg2))
    (m (c.tc.loc main_arg3)) y1) _ y1 y0 (fun z => ?_) (row_max _ y1)
  refine (row_score _ _ y1 z).trans (Finset.sum_congr rfl fun j _ => ?_)
  exact congrArg (HMul.hMul (α := EReal) (β := EReal) _) (congrFun (result_features m c) (ix2 y1 j))

end Cert.Reference8Ideal.Route

end
-- ==== Proof.FinishPre.lean ====
/-
  The precondition of the recurrent branch's last stage, read: every entry of the two scans is a real number.
-/
module

public import proofs.«01_k».proof.Proof.FlashPre

@[expose] public section

noncomputable section

namespace Cert.Pre_finite_scans

open Idealize.ShloMosaic
open Cert.Pre_finite_queries_and_keys (real_of_all)

instance facts : Facts where
  bcast_S_S16896x512 := by decide
  reducesTo_S16896x512_S_d0_1 := by decide
  h_S_ := by decide

/-- The whole test: both scans are real. -/
theorem real (o0 o1 b g : FVec Ideal S16896x512 .f32) (lg lb : FVec Ideal S4x512 .f32)
    (h : fn (F := Ideal) o0 o1 b g lg lb = fun _ => 1#1) :
    (∀ y, o0 y = ((EReal.toReal (o0 y) : ℝ) : EReal)) ∧ ∀ y, o1 y = ((EReal.toReal (o1 y) : ℝ) : EReal) := by
  have e := congrFun h (Shape.Idx.first Facts.h_S_)
  dsimp only [fn] at e
  obtain ⟨e1, e2⟩ := IntOp.andi_eq_one.1 e
  exact ⟨real_of_all o0 _ _ _ _ e1, real_of_all o1 _ _ _ _ e2⟩

end Cert.Pre_finite_scans

end
-- ==== Proof.FinishBody.lean ====
/-
  What one grid point of the recurrent branch's last stage computes, over the extended reals: each head's 64 features of a row are
  centred and scaled, then take gain, offset, bonus and gate. The kernel takes a head's mean as a product with a matrix of zeros
  and ones, in three parts from the row split in three; of real features all parts but the first are zero.
-/
module

public import proofs.«01_k».proof.Proof.Gen.Kernel9Ideal.Frame
public import Idealize.ShloMosaic.Lib.Pipeline.ValueKit
public import Idealize.ShloMosaic.Lib.Pointwise

@[expose] public section

set_option maxRecDepth 16384

noncomputable section

namespace Cert.Kernel9Ideal.Finish

open Cert.Kernel9Ideal Cert.Kernel9Ideal.Gen Idealize.ShloMosaic Idealize.ShloMosaic.TcCoe Idealize.SL.Sem

/-- Feature `j` of the head that feature `n` belongs to. -/
def mate (n : Fin 512) (j : Fin 64) : Fin 512 := ⟨n.val / 64 * 64 + j.val, by omega⟩

/-- The mean of the head that feature `n` belongs to. -/
def mean (o : Fin 512 → EReal) (n : Fin 512) : EReal := Ideal.div (∑ j, o (mate n j)) (Ideal.ofBits FTy.f32 0x42800000#32)

/-- A feature less its head's mean. -/
def centred (o : Fin 512 → EReal) (n : Fin 512) : EReal := o n - mean o n

/-- One feature of a row: centred, over the root of its head's variance, times the gain, plus offset and bonus, under the gate. -/
def finished (o b g lg lb : Fin 512 → EReal) (n : Fin 512) : EReal :=
  (centred o n * Ideal.rsqrt (mean (fun j => centred o j * centred o j) n + Ideal.ofBits FTy.f32 0x3A27C5AC#32) * lg n
    + lb n + b n) * g n

/-- The kernel's matrix: one where both features are of the same head, zero elsewhere. -/
def same (j n : Fin 512) : EReal := if j.val / 64 = n.val / 64 then 1 else 0

/-- A row times the kernel's matrix is the sum over the head. -/
theorem sum_same (u : Fin 512 → EReal) (n : Fin 512) : (∑ x, u x * same x n) = ∑ j, u (mate n j) := by
  simp only [same, mul_ite, mul_one, mul_zero]
  rw [← Finset.sum_filter]
  refine (Finset.sum_nbij (fun j => mate n j) (fun j _ => ?_) (fun j _ k _ h => ?_) (fun x hx => ?_) (fun _ _ => rfl)).symm
  · refine Finset.mem_filter.2 ⟨Finset.mem_univ _, ?_⟩
    show (n.val / 64 * 64 + j.val) / 64 = n.val / 64
    omega
  · have h' : n.val / 64 * 64 + j.val = n.val / 64 * 64 + k.val := congrArg Fin.val h
    exact Fin.ext (by omega)
  · have h' : x.val / 64 = n.val / 64 := (Finset.mem_filter.1 hx).2
    refine ⟨⟨x.val % 64, Nat.mod_lt _ (by decide)⟩, Finset.mem_coe.2 (Finset.mem_univ _), Fin.ext ?_⟩
    show n.val / 64 * 64 + x.val % 64 = x.val
    omega

/-- A sum of real numbers is real. -/
theorem sum_coe {n : ℕ} (f : Fin n → ℝ) : (∑ x, (f x : EReal)) = ((∑ x, f x : ℝ) : EReal) :=
  (map_sum (⟨⟨Real.toEReal, EReal.coe_zero⟩, EReal.coe_add⟩ : ℝ →+ EReal) f Finset.univ).symm

/-- The three parts of a row's product, of real features: the sum over the head. -/
theorem parts (u : Fin 512 → EReal) (u' : Fin 512 → ℝ) (hu : ∀ j, u j = (u' j : EReal)) (n : Fin 512) :
    ∑ x, u x * same x n + ∑ x, (u x - u x) * same x n + ∑ x, (u x - u x - (u x - u x)) * same x n = ∑ j, u (mate n j) := by
  have h1 : ∀ x, u x - u x = 0 := fun x => by rw [hu, ← EReal.coe_sub, sub_self, EReal.coe_zero]
  have h3 : (0 : EReal) - 0 = 0 := by rw [← EReal.coe_zero, ← EReal.coe_sub, sub_self]
  simp only [h1, h3, zero_mul, Finset.sum_const_zero, add_zero]
  exact sum_same u n

theorem ofBits_64 : Ideal.ofBits FTy.f32 0x42800000#32 = ((64 : ℝ) : EReal) := by
  simp [Ideal.ofBits, Ideal.ieee, -EReal.coe_mul]; norm_num

theorem ofBits_inv64 : Ideal.ofBits FTy.f32 1015021568#32 = ((1 / 64 : ℝ) : EReal) := by
  simp [Ideal.ofBits, Ideal.ieee, -EReal.coe_mul]; norm_num

/-- A head's mean, as the kernel takes it. -/
theorem mean_eq (o : Fin 512 → EReal) (n : Fin 512) :
    (∑ j, o (mate n j)) * Ideal.ofBits FTy.f32 1015021568#32 = mean o n := by
  unfold mean
  rw [ofBits_64, ofBits_inv64, Ideal.div_coe (by norm_num)]

/-- A centred feature of real features is real. -/
theorem centred_real (o : Fin 512 → EReal) (o' : Fin 512 → ℝ) (ho : ∀ j, o j = (o' j : EReal)) (n : Fin 512) :
    centred o n = ((o' n - (∑ j, o' (mate n j)) * (1 / 64) : ℝ) : EReal) := by
  unfold centred
  rw [← mean_eq, ofBits_inv64, EReal.coe_sub, EReal.coe_mul, ← sum_coe]
  simp only [ho]

/-- The scaled features of a block, of real scans. -/
theorem pay2_at (x0 x1 : Vec Ideal S1056x512 .f32) (x6 : Vec Ideal S512x512 .bf16) (h6 : ∀ j n, x6 (ix2 j n) = same j n)
    (a : Fin 1056) (n : Fin 512) (o : Fin 512 → EReal) (ho : ∀ j, x0 (ix2 a j) + x1 (ix2 a j) = o j)
    (o' : Fin 512 → ℝ) (hr : ∀ j, o j = (o' j : EReal)) :
    k0_pay2 x0 x1 x6 (ix2 a n)
      = centred o n * Ideal.rsqrt (mean (fun j => centred o j * centred o j) n + Ideal.ofBits FTy.f32 0x3A27C5AC#32) := by
  pointwise [k0_pay2]
  have p := parts o o' hr
  simp only [ho, h6, p, mean_eq]
  have e : ∀ x, o x - mean o x = centred o x := fun x => rfl
  simp only [e]
  have q := parts (fun j => centred o j * centred o j) _
    (fun j => by rw [centred_real o o' hr j, ← EReal.coe_mul]) n
  simp only [q]
  rw [mean_eq (fun j => centred o j * centred o j) n]

/-- A point's block, entry by entry. -/
theorem out_at (x0 x1 x2 x3 : Vec Ideal S1056x512 .f32) (x4 x5 : Vec Ideal S1x512 .f32) (x6 : Vec Ideal S512x512 .bf16)
    (h6 : ∀ j n, x6 (ix2 j n) = same j n) (a : Fin 1056) (n : Fin 512) (o : Fin 512 → EReal)
    (ho : ∀ j, x0 (ix2 a j) + x1 (ix2 a j) = o j) (o' : Fin 512 → ℝ) (hr : ∀ j, o j = (o' j : EReal)) :
    out0_7 x0 x1 x2 x3 x4 x5 x6 (ix2 a n)
      = finished o (fun j => x2 (ix2 a j)) (fun j => x3 (ix2 a j)) (fun j => x4 (ix2 0 j)) (fun j => x5 (ix2 0 j)) n := by
  frame_out
  pointwise [k0_pay1, k0_pay3]
  rw [pay2_at x0 x1 x6 h6 a n o ho o' hr]
  rfl

/-- The head of a feature, as the host computes it on words. -/
def headWord (w : Fin 512) : BitVec 32 :=
  Scalar.select
    (IntOp.andi
      (IntOp.cmpi CmpIPredicate.ne
        (if BitVec.ofNat 32 w.val = 0 then 0 else if (BitVec.ofNat 32 w.val).msb = true then -1 else 1 : BitVec 32)
        (if 64#32 = 0 then 0 else if (64#32).msb = true then -1 else 1))
      (IntOp.cmpi CmpIPredicate.ne (IntOp.remsi ArithUnit.host (BitVec.ofNat 32 w.val) 64#32) 0#32))
    (IntOp.subi (IntOp.divsi ArithUnit.host (BitVec.ofNat 32 w.val) 64#32) 1#32)
    (IntOp.divsi ArithUnit.host (BitVec.ofNat 32 w.val) 64#32)

theorem headWord_eq : ∀ w : Fin 512, headWord w = BitVec.ofNat 32 (w.val / 64) := by decide +kernel

/-- Equal heads on words give one, other heads zero. -/
theorem same_word (j n : Fin 512) :
    (FloatOps.uitofp FTy.bf16 (IntOp.cmpi CmpIPredicate.eq (headWord j) (headWord n)) : Ideal .bf16) = same j n := by
  rw [headWord_eq, headWord_eq]
  unfold same
  by_cases h : j.val / 64 = n.val / 64
  · rw [if_pos h, h]
    have e : IntOp.cmpi CmpIPredicate.eq (BitVec.ofNat 32 (n.val / 64)) (BitVec.ofNat 32 (n.val / 64)) = 1#1 := by
      simp [IntOp.cmpi]
    rw [e]
    show (((1#1).toNat : ℝ) : EReal) = 1
    simp
  · rw [if_neg h]
    have d : BitVec.ofNat 32 (j.val / 64) ≠ BitVec.ofNat 32 (n.val / 64) := fun q => h (by
      have := congrArg BitVec.toNat q
      simp only [BitVec.toNat_ofNat] at this
      omega)
    have e : IntOp.cmpi CmpIPredicate.eq (BitVec.ofNat 32 (j.val / 64)) (BitVec.ofNat 32 (n.val / 64)) = 0#1 := by
      simp only [IntOp.cmpi]
      rw [beq_false_of_ne d]
      rfl
    rw [e]
    show (((0#1).toNat : ℝ) : EReal) = 0
    simp

end Cert.Kernel9Ideal.Finish

end
-- ==== Proof.FinishArray.lean ====
/-
  The recurrent branch's last stage: the kernel's array and the plain program's result, both the same function of the arguments
  where the scans' entries are real numbers.
-/
module

public import proofs.«01_k».proof.Proof.FinishBody
public import proofs.«01_k».proof.Proof.Gen.Reference9Ideal.Run
public import Idealize.ShloMosaic.Lib.Pipeline.Covers
public import Idealize.ShloMosaic.Lib.Claim
public import Idealize.ShloMosaic.Lib.Tactic.ValueTie

@[expose] public section

set_option maxRecDepth 16384

noncomputable section

namespace Cert.Kernel9Ideal.Finish

open Cert.Kernel9Ideal Cert.Kernel9Ideal.Gen Idealize.ShloMosaic Idealize.ShloMosaic.TcCoe Idealize.SL.Sem
open Idealize.ShloMosaic.Pipeline (Dat)

/-- The two scans' sum along a row. -/
def row (y0 y1 : FVec Ideal S16896x512 .f32) (r : Fin 16896) (j : Fin 512) : EReal := y0 (ix2 r j) + y1 (ix2 r j)

/-- The two scans' sum along a row, as real numbers. -/
def rowReal (y0 y1 : FVec Ideal S16896x512 .f32) (r : Fin 16896) (j : Fin 512) : ℝ :=
  EReal.toReal (y0 (ix2 r j)) + EReal.toReal (y1 (ix2 r j))

theorem row_real (y0 y1 : FVec Ideal S16896x512 .f32) (h0 : ∀ y, y0 y = ((EReal.toReal (y0 y) : ℝ) : EReal))
    (h1 : ∀ y, y1 y = ((EReal.toReal (y1 y) : ℝ) : EReal)) (r : Fin 16896) (j : Fin 512) :
    row y0 y1 r j = (rowReal y0 y1 r j : EReal) := by
  unfold row rowReal
  rw [EReal.coe_add, ← h0, ← h1]

/-- The result over the arguments: the sum of the two scans, finished row by row. -/
def result (y0 y1 b g : FVec Ideal S16896x512 .f32) (lg lb : FVec Ideal S4x512 .f32) (y : S16896x512.Idx) : EReal :=
  finished (row y0 y1 (y 0)) (fun j => b (ix2 (y 0) j)) (fun j => g (ix2 (y 0) j))
    (fun j => lg (ix2 0 j)) (fun j => lb (ix2 0 j)) (y 1)

variable (m : (ℓ : Loc nD τ sig) → Buf (Elt Ideal) ℓ) (ρ : Dev nD → PrngReg)

theorem index0 : ∀ t : Fin cfg0.N, win0_0.index t = ![t.val, 0] := (by decide +kernel : ∀ t : Fin grid0.N, _)
theorem index1 : ∀ t : Fin cfg0.N, win0_1.index t = ![t.val, 0] := (by decide +kernel : ∀ t : Fin grid0.N, _)
theorem index2 : ∀ t : Fin cfg0.N, win0_2.index t = ![t.val, 0] := (by decide +kernel : ∀ t : Fin grid0.N, _)
theorem index3 : ∀ t : Fin cfg0.N, win0_3.index t = ![t.val, 0] := (by decide +kernel : ∀ t : Fin grid0.N, _)
theorem index4 : ∀ t : Fin cfg0.N, win0_4.index t = ![0, 0] := (by decide +kernel : ∀ t : Fin grid0.N, _)
theorem index5 : ∀ t : Fin cfg0.N, win0_5.index t = ![0, 0] := (by decide +kernel : ∀ t : Fin grid0.N, _)
theorem index6 : ∀ t : Fin cfg0.N, win0_6.index t = ![0, 0] := (by decide +kernel : ∀ t : Fin grid0.N, _)
theorem index7 : ∀ t : Fin cfg0.N, win0_7.index t = ![t.val, 0] := (by decide +kernel : ∀ t : Fin grid0.N, _)

section Blocks

variable (c : Dev nD) (t : Fin cfg0.N) (a : Fin 1056) (r : Fin 16896) (hr : r.val = t.val * 1056 + a.val) (j n : Fin 512)

include hr in
theorem blk0 : iblk m c 0 t (ix2 a j) = m (c.tc.loc main_arg0) (ix2 r j) := by
  blk_simp [iblk]
  refine (congrFun (V_main_arg0 m c) _).trans ?_
  refine congrArg (m (c.tc.loc main_arg0)) (funext fun d => Fin.ext ?_)
  match d with
  | ⟨0, _⟩ => blk_simp [index0 t]; exact hr.symm
  | ⟨1, _⟩ => blk_simp [index0 t]

include hr in
theorem blk1 : iblk m c 1 t (ix2 a j) = m (c.tc.loc main_arg1) (ix2 r j) := by
  blk_simp [iblk]
  refine (congrFun (V_main_arg1 m c) _).trans ?_
  refine congrArg (m (c.tc.loc main_arg1)) (funext fun d => Fin.ext ?_)
  match d with
  | ⟨0, _⟩ => blk_simp [index1 t]; exact hr.symm
  | ⟨1, _⟩ => blk_simp [index1 t]

include hr in
theorem blk2 : iblk m c 2 t (ix2 a j) = m (c.tc.loc main_arg2) (ix2 r j) := by
  blk_simp [iblk]
  refine (congrFun (V_main_arg2 m c) _).trans ?_
  refine congrArg (m (c.tc.loc main_arg2)) (funext fun d => Fin.ext ?_)
  match d with
  | ⟨0, _⟩ => blk_simp [index2 t]; exact hr.symm
  | ⟨1, _⟩ => blk_simp [index2 t]

include hr in
theorem blk3 : iblk m c 3 t (ix2 a j) = m (c.tc.loc main_arg3) (ix2 r j) := by
  blk_simp [iblk]
  refine (congrFun (V_main_arg3 m c) _).trans ?_
  refine congrArg (m (c.tc.loc main_arg3)) (funext fun d => Fin.ext ?_)
  match d with
  | ⟨0, _⟩ => blk_simp [index3 t]; exact hr.symm
  | ⟨1, _⟩ => blk_simp [index3 t]

/-- The array window 4 stages, entry by entry. -/
theorem V4 : V m c main_v13 (ix2 0 j) = m (c.tc.loc main_arg4) (ix2 0 j) := by
  unfold V
  simp only [List.flatten_cons, List.flatten_nil, List.append_nil, List.cons_append, List.nil_append]
  after_results_simp
  pointwise []

theorem blk4 : iblk m c 4 t (ix2 0 j) = m (c.tc.loc main_arg4) (ix2 0 j) := by
  blk_simp [iblk]
  refine Eq.trans (congrArg (V m c main_v13) (funext fun d => Fin.ext ?_)) (V4 m c j)
  match d with
  | ⟨0, _⟩ => blk_simp [index4 t]
  | ⟨1, _⟩ => blk_simp [index4 t]

/-- The array window 5 stages, entry by entry. -/
theorem V5 : V m c main_v14 (ix2 0 j) = m (c.tc.loc main_arg5) (ix2 0 j) := by
  unfold V
  simp only [List.flatten_cons, List.flatten_nil, List.append_nil, List.cons_append, List.nil_append]
  after_results_simp
  pointwise []

theorem blk5 : iblk m c 5 t (ix2 0 j) = m (c.tc.loc main_arg5) (ix2 0 j) := by
  blk_simp [iblk]
  refine Eq.trans (congrArg (V m c main_v14) (funext fun d => Fin.ext ?_)) (V5 m c j)
  match d with
  | ⟨0, _⟩ => blk_simp [index5 t]
  | ⟨1, _⟩ => blk_simp [index5 t]

/-- The matrix of equal heads the host makes, entry by entry. -/
theorem V6 : V m c main_v8 (ix2 j n) = same j n := by
  unfold V
  simp only [List.flatten_cons, List.flatten_nil, List.append_nil, List.cons_append, List.nil_append]
  after_results_simp
  simp only [StableHlo.TRef.ofBuf, StableHlo.TRef.toBuf, cast_eq, id]
  pointwise []
  exact same_word j n

theorem blk6 : iblk m c 6 t (ix2 j n) = same j n := by
  blk_simp [iblk]
  refine Eq.trans (congrArg (V m c main_v8) (funext fun d => Fin.ext ?_)) (V6 m c j n)
  match d with
  | ⟨0, _⟩ => blk_simp [index6 t]
  | ⟨1, _⟩ => blk_simp [index6 t]

end Blocks

section Result

variable (c : Dev nD)
    (h0 : ∀ y, (m (c.tc.loc main_arg0) : FVec Ideal S16896x512 .f32) y = ((EReal.toReal ((m (c.tc.loc main_arg0) : FVec Ideal S16896x512 .f32) y) : ℝ) : EReal))
    (h1 : ∀ y, (m (c.tc.loc main_arg1) : FVec Ideal S16896x512 .f32) y = ((EReal.toReal ((m (c.tc.loc main_arg1) : FVec Ideal S16896x512 .f32) y) : ℝ) : EReal))

include h0 h1 in
/-- What a point leaves in the output block is the block of `result` it stands on. -/
theorem out_result (t : Fin cfg0.N) (a : Fin 1056) (n : Fin 512) (y : S16896x512.Idx)
    (e0 : (y 0).val = t.val * 1056 + a.val) (e1 : (y 1).val = n.val) :
    (dats m 0 c).after 7 t (ix2 a n) = result (m (c.tc.loc main_arg0)) (m (c.tc.loc main_arg1))
      (m (c.tc.loc main_arg2)) (m (c.tc.loc main_arg3)) (m (c.tc.loc main_arg4)) (m (c.tc.loc main_arg5)) y := by
  rw [after0_7]
  refine (out_at _ _ _ _ _ _ _ (fun j k => blk6 m c t j k) a n
    (row (m (c.tc.loc main_arg0)) (m (c.tc.loc main_arg1)) (y 0)) (fun j => ?_)
    (rowReal (m (c.tc.loc main_arg0)) (m (c.tc.loc main_arg1)) (y 0)) (row_real _ _ h0 h1 (y 0))).trans ?_
  · exact congrArg₂ (HAdd.hAdd (α := EReal) (β := EReal)) (blk0 m c t a (y 0) e0 j) (blk1 m c t a (y 0) e0 j)
  · simp only [blk2 m c t a (y 0) e0, blk3 m c t a (y 0) e0, blk4, blk5]
    obtain rfl : n = y 1 := Fin.ext e1.symm
    rfl

include h0 h1 in
/-- The output array after the run. -/
theorem final : (dats m 0 c).arrAt 7 cfg0.N = result (m (c.tc.loc main_arg0)) (m (c.tc.loc main_arg1))
      (m (c.tc.loc main_arg2)) (m (c.tc.loc main_arg3)) (m (c.tc.loc main_arg4)) (m (c.tc.loc main_arg5)) := by
  refine (dats m 0 c).arrAt_eq_of_covers 7 _ (Pipeline.Window.covers_of_index_surj _ rfl (by decide) fun β => ?_)
    fun t hf y => ?_
  · have hb0 : (β 0).val < 16 := (β 0).isLt
    have hb1 : (β 1).val < 1 := (β 1).isLt
    refine ⟨⟨(β 0).val, by show _ < 16; omega⟩, fun a => ?_⟩
    refine (congrFun (index7 _) a).trans ?_
    match a with
    | ⟨0, _⟩ => rfl
    | ⟨1, _⟩ => show 0 = (β 1).val; omega
  · blk_simp
    refine Eq.trans ?_ (out_result m c h0 h1 t (y 0) (y 1) _ (by blk_simp [index7 t]) (by blk_simp [index7 t]))
    exact congrArg _ (ix2_eta y).symm

end Result

/-- The run: the result of a device whose scans' entries are real is `result` of its arguments, and the arguments are unchanged. -/
theorem run (hp : ∀ c : Dev nD,
      (∀ y, (m (c.tc.loc main_arg0) : FVec Ideal S16896x512 .f32) y = ((EReal.toReal ((m (c.tc.loc main_arg0) : FVec Ideal S16896x512 .f32) y) : ℝ) : EReal))
      ∧ ∀ y, (m (c.tc.loc main_arg1) : FVec Ideal S16896x512 .f32) y = ((EReal.toReal ((m (c.tc.loc main_arg1) : FVec Ideal S16896x512 .f32) y) : ℝ) : EReal)) :
    θ_run defs (onTc (τ := τ) (main (F := Ideal))) ⟨m, fun _ => 0, ρ⟩ fun r => ∀ c : Dev nD,
      r.2.mem ((c.tc : Thread nD τ).loc main_v15) = result (m (c.tc.loc main_arg0)) (m (c.tc.loc main_arg1))
        (m (c.tc.loc main_arg2)) (m (c.tc.loc main_arg3)) (m (c.tc.loc main_arg4)) (m (c.tc.loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun r h c => ⟨((h c).1 7).trans (final m c (hp c).1 (hp c).2),
    ((h c).1 0).trans (((dats m 0 c).arrAt_in 0 rfl _).trans ((A_eq m c 0).trans (V_main_arg0 m c))),
    ((h c).1 1).trans (((dats m 0 c).arrAt_in 1 rfl _).trans ((A_eq m c 1).trans (V_main_arg1 m c))),
    ((h c).1 2).trans (((dats m 0 c).arrAt_in 2 rfl _).trans ((A_eq m c 2).trans (V_main_arg2 m c))),
    ((h c).1 3).trans (((dats m 0 c).arrAt_in 3 rfl _).trans ((A_eq m c 3).trans (V_main_arg3 m c))),
    ((h c).2 main_arg4 (Pipeline.mem_restRefs_of main_arg4 (by decide) (by decide))).trans (V_main_arg4 m c),
    ((h c).2 main_arg5 (Pipeline.mem_restRefs_of main_arg5 (by decide) (by decide))).trans (V_main_arg5 m c)⟩) (run_main m ρ)

end Cert.Kernel9Ideal.Finish

namespace Cert.Reference9Ideal.Finish

open Cert.Reference9Ideal Cert.Reference9Ideal.Value Idealize.ShloMosaic Idealize.ShloMosaic.TcCoe Idealize.SL.Sem
open Cert.Kernel9Ideal.Finish (finished centred mean mate row result)

/-- Features of one head have one mean. -/
theorem mean_mate (o : Fin 512 → EReal) (n : Fin 512) (k : Fin 64) : mean o (mate n k) = mean o n := by
  have e1 : (n.val / 64 * 64 + k.val) / 64 = n.val / 64 := by omega
  have e2 : ∀ j, mate (mate n k) j = mate n j := fun j => Fin.ext (by
    show (n.val / 64 * 64 + k.val) / 64 * 64 + j.val = n.val / 64 * 64 + j.val
    rw [e1])
  unfold mean
  simp only [e2]

/-- A finished feature with its head's mean taken once. -/
theorem finished_eq (o b g lg lb : Fin 512 → EReal) (n : Fin 512) :
    finished o b g lg lb n = ((o n - mean o n) * Ideal.rsqrt (Ideal.div (∑ k, (o (mate n k) - mean o n) * (o (mate n k) - mean o n))
      (Ideal.ofBits FTy.f32 0x42800000#32) + Ideal.ofBits FTy.f32 0x3A27C5AC#32) * lg n + lb n + b n) * g n := by
  have f : mean (fun j => centred o j * centred o j) n
      = Ideal.div (∑ k, (o (mate n k) - mean o n) * (o (mate n k) - mean o n)) (Ideal.ofBits FTy.f32 0x42800000#32) := by
    show Ideal.div (∑ k, centred o (mate n k) * centred o (mate n k)) _ = _
    simp only [centred, mean_mate]
  unfold finished
  rw [f]
  rfl

/-- The plain program's run: its result is the same function of its arguments, which are unchanged. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v33) = result (m (c.tc.loc main_arg0)) (m (c.tc.loc main_arg1))
        (m (c.tc.loc main_arg2)) (m (c.tc.loc main_arg3)) (m (c.tc.loc main_arg4)) (m (c.tc.loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) := by
  refine (θ_run defs _ _).mono (fun r h c => ⟨(h c).1.trans ?_, (h c).2⟩) (Cert.Reference9Ideal.Value.run (F := Ideal) m ρ)
  funext y
  clear h
  generalize (m (c.tc.loc main_arg0)) = s0
  generalize (m (c.tc.loc main_arg1)) = s1
  generalize (m (c.tc.loc main_arg2)) = b
  generalize (m (c.tc.loc main_arg3)) = g
  generalize (m (c.tc.loc main_arg4)) = lg
  generalize (m (c.tc.loc main_arg5)) = lb
  clean_types
  idx_vars y
  pointwise []
  exact (finished_eq (row s0 s1 y0) (fun j => b (ix2 y0 j)) (fun j => g (ix2 y0 j)) (fun j => lg (ix2 0 j))
    (fun j => lb (ix2 0 j)) y1).symm

end Cert.Reference9Ideal.Finish

end
-- ==== Proof.lean ====
/- The proof of the claims: the frames are the programs' runs with their results forgotten; the equation of the input
   projection with its plain reference is `Proj.run` (the kernel's array as a function of the arguments) against
   `Proj.result` (the plain program's term as the same function). The merge with the output projection (`Out`) and the final
   norm (`Norm`) go the same way. The attention's two sides (`Flash`) are one function of real queries and keys, which the
   precondition gives. The preparation of queries and keys (`Prep`), with three results, the state-space branch's last stage
   (`Glu`) and the modulation (`Mod`) go as the input projection. The router (`Route`) goes as the attention: its first result
   needs no precondition, its second takes modulation, gain and router of the layer as real numbers. The
   recurrent branch's last stage (`Finish`) takes its two scans as real numbers. -/
module

public import proofs.«01_k».proof.Defs
public import proofs.«01_k».proof.Proof.Gen.Kernel.Frame
public import proofs.«01_k».proof.Proof.Gen.KernelIdeal.Frame
public import proofs.«01_k».proof.Proof.Gen.ReferenceIdeal.Run
public import proofs.«01_k».proof.Proof.ProjRef
public import proofs.«01_k».proof.Proof.Gen.Kernel2.Frame
public import proofs.«01_k».proof.Proof.Gen.Kernel2Ideal.Frame
public import proofs.«01_k».proof.Proof.Gen.Reference2Ideal.Run
public import proofs.«01_k».proof.Proof.Gen.Kernel3.Frame
public import proofs.«01_k».proof.Proof.Gen.Kernel3Ideal.Frame
public import proofs.«01_k».proof.Proof.Gen.Reference3Ideal.Run
public import proofs.«01_k».proof.Proof.Gen.Kernel4.Frame
public import proofs.«01_k».proof.Proof.Gen.Kernel4Ideal.Frame
public import proofs.«01_k».proof.Proof.Gen.Kernel4Ideal.Value
public import proofs.«01_k».proof.Proof.Gen.Reference4Ideal.Run
public import proofs.«01_k».proof.Proof.OutRun
public import proofs.«01_k».proof.Proof.OutRef
public import proofs.«01_k».proof.Proof.NormArray
public import proofs.«01_k».proof.Proof.FlashPre
public import proofs.«01_k».proof.Proof.FlashRef
public import proofs.«01_k».proof.Proof.Gen.Kernel5.Frame
public import proofs.«01_k».proof.Proof.Gen.Kernel5Ideal.Frame
public import proofs.«01_k».proof.Proof.Gen.Reference5Ideal.Run
public import proofs.«01_k».proof.Proof.PrepRef
public import proofs.«01_k».proof.Proof.Gen.Kernel6.Frame
public import proofs.«01_k».proof.Proof.Gen.Kernel6Ideal.Frame
public import proofs.«01_k».proof.Proof.Gen.Reference6Ideal.Run
public import proofs.«01_k».proof.Proof.GluArray
public import proofs.«01_k».proof.Proof.Gen.Kernel7.Frame
public import proofs.«01_k».proof.Proof.Gen.Kernel7Ideal.Frame
public import proofs.«01_k».proof.Proof.Gen.Reference7Ideal.Run
public import proofs.«01_k».proof.Proof.ModArray
public import proofs.«01_k».proof.Proof.Gen.Kernel8.Frame
public import proofs.«01_k».proof.Proof.Gen.Kernel8Ideal.Value
public import proofs.«01_k».proof.Proof.Gen.Reference8Ideal.Run
public import proofs.«01_k».proof.Proof.RoutePre
public import proofs.«01_k».proof.Proof.RouteRef
public import proofs.«01_k».proof.Proof.Gen.Kernel9.Frame
public import proofs.«01_k».proof.Proof.Gen.Kernel9Ideal.Frame
public import proofs.«01_k».proof.Proof.Gen.Reference9Ideal.Run
public import proofs.«01_k».proof.Proof.FinishPre
public import proofs.«01_k».proof.Proof.FinishArray
public import Idealize.ShloMosaic.Adequacy
public import Idealize.ShloMosaic.Init
public import Idealize.ShloMosaic.Lib.Quiescent
public import Idealize.ShloMosaic.Lib.Tactic.ValueTie

@[expose] public section

noncomputable section

namespace Cert.Proof

open Idealize.ShloMosaic Idealize.SL.Sem

theorem quiescent_ReferenceIdeal : quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

theorem algebraic_KernelIdeal_ReferenceIdeal : algebraic_KernelIdeal_ReferenceIdeal := by
  intro m ρ m' ρ' _ hagree
  refine ⟨_, Cert.KernelIdeal.Proj.run m ρ, ?_⟩
  refine (θ_run Cert.ReferenceIdeal.defs _ _).mono (fun _ h c => ⟨?_, (h c).2⟩) (Cert.ReferenceIdeal.Value.run (F := Ideal) m' ρ')
  obtain ⟨h0, h1, h2, h3, h4⟩ := hagree c
  rw [(h c).1]
  refine (Cert.ReferenceIdeal.Proj.result m' c).trans ?_
  rw [h0, h1, h2, h3, h4]

theorem quiescent_Reference2Ideal : quiescent_Reference2Ideal := fun m ρ _ =>
  (θ_run Cert.Reference2Ideal.defs _ _).mono (fun r h => ⟨fun c => (h c).2, sem_eq_zero_of_no_sems (by decide) r.2⟩)
    (Cert.Reference2Ideal.Value.run (F := Ideal) m ρ)

theorem algebraic_Kernel2Ideal_Reference2Ideal : algebraic_Kernel2Ideal_Reference2Ideal := by
  intro m ρ m' ρ' _ hagree
  refine ⟨_, Cert.Kernel2Ideal.Out.run m ρ, ?_⟩
  refine (θ_run Cert.Reference2Ideal.defs _ _).mono (fun _ h c => ⟨?_, (h c).2⟩) (Cert.Reference2Ideal.Value.run (F := Ideal) m' ρ')
  obtain ⟨h0, h1, h2, h3, h4, h5, h6, h7⟩ := hagree c
  rw [(h c).1]
  refine (Cert.Reference2Ideal.Out.result m' c).trans ?_
  rw [h0, h1, h2, h3, h4, h5, h6, h7]

theorem quiescent_Reference3Ideal : quiescent_Reference3Ideal := fun m ρ _ =>
  (θ_run Cert.Reference3Ideal.defs _ _).mono (fun r h => ⟨fun c => (h c).2, sem_eq_zero_of_no_sems (by decide) r.2⟩)
    (Cert.Reference3Ideal.Norm.run m ρ)

theorem algebraic_Kernel3Ideal_Reference3Ideal : algebraic_Kernel3Ideal_Reference3Ideal := by
  intro m ρ m' ρ' _ hagree
  refine ⟨_, Cert.Kernel3Ideal.Norm.run m ρ, ?_⟩
  refine (θ_run Cert.Reference3Ideal.defs _ _).mono (fun _ h c => ⟨?_, (h c).2⟩) (Cert.Reference3Ideal.Norm.run m' ρ')
  obtain ⟨h0, h1⟩ := hagree c
  rw [(h c).1, h0, h1]

theorem quiescent_Reference4Ideal : quiescent_Reference4Ideal := fun m ρ _ =>
  (θ_run Cert.Reference4Ideal.defs _ _).mono (fun r h => ⟨fun c => (h c).2, sem_eq_zero_of_no_sems (by decide) r.2⟩)
    (Cert.Reference4Ideal.Value.run (F := Ideal) m ρ)

theorem quiescent_Reference4Ideal_pre : quiescent_Reference4Ideal_pre_finite_queries_and_keys := fun m ρ _ =>
  quiescent_Reference4Ideal m ρ trivial

theorem preserves_Kernel4_Kernel4Ideal : preserves_Kernel4_Kernel4Ideal :=
  IdealRules.named_const.statement Cert.Kernel4Ideal.κ "mask" .f32 0xF149F2CA#32 ⊥ rfl

theorem algebraic_Kernel4Ideal_Reference4Ideal : algebraic_Kernel4Ideal_Reference4Ideal_pre_finite_queries_and_keys := by
  intro m ρ m' ρ' hpre hagree
  refine ⟨_, Cert.Kernel4Ideal.Value.run_blocks m ρ, ?_⟩
  refine (θ_run Cert.Reference4Ideal.defs _ _).mono (fun _ h c => ⟨?_, (h c).2⟩) (Cert.Reference4Ideal.Value.run (F := Ideal) m' ρ')
  obtain ⟨h0, h1, h2⟩ := hagree c
  obtain ⟨hq, hk⟩ := Cert.Pre_finite_queries_and_keys.real _ _ _ (hpre c)
  rw [(h c).1]
  refine (Cert.Reference4Ideal.Flash.result m' c _ _ (fun y => (congrFun h0 y).trans (hq y)) fun y => (congrFun h1 y).trans (hk y)).trans ?_
  rw [h2]
  exact (Cert.Kernel4Ideal.Flash.final m c _ _ hq hk).symm

theorem quiescent_Reference5Ideal : quiescent_Reference5Ideal := fun m ρ _ =>
  (θ_run Cert.Reference5Ideal.defs _ _).mono (fun r h => ⟨fun c => (h c).2.2.2, sem_eq_zero_of_no_sems (by decide) r.2⟩)
    (Cert.Reference5Ideal.Prep.run m ρ)

theorem preserves_Kernel5_Kernel5Ideal : preserves_Kernel5_Kernel5Ideal :=
  IdealRules.named_const.statement Cert.Kernel5Ideal.κ "scale" .f32 0x3E0293EE#32 _ rfl

theorem algebraic_Kernel5Ideal_Reference5Ideal : algebraic_Kernel5Ideal_Reference5Ideal := by
  intro m ρ m' ρ' _ hagree
  refine ⟨_, _, _, Cert.Kernel5Ideal.Prep.run m ρ, ?_⟩
  refine (θ_run Cert.Reference5Ideal.defs _ _).mono (fun _ h c => ?_) (Cert.Reference5Ideal.Prep.run m' ρ')
  obtain ⟨h0, h1, h2, h3, h4⟩ := hagree c
  obtain ⟨hq, hk, hv, hargs⟩ := h c
  refine ⟨?_, ?_, ?_, hargs⟩
  · rw [hq, h0, h1, h2, h3]
  · rw [hk, h0, h1, h2, h4]
  · rw [hv, h0]

theorem quiescent_Reference6Ideal : quiescent_Reference6Ideal := fun m ρ _ =>
  (θ_run Cert.Reference6Ideal.defs _ _).mono (fun r h => ⟨fun c => (h c).2, sem_eq_zero_of_no_sems (by decide) r.2⟩)
    (Cert.Reference6Ideal.Glu.run m ρ)

theorem algebraic_Kernel6Ideal_Reference6Ideal : algebraic_Kernel6Ideal_Reference6Ideal := by
  intro m ρ m' ρ' _ hagree
  refine ⟨_, Cert.Kernel6Ideal.Glu.run m ρ, ?_⟩
  refine (θ_run Cert.Reference6Ideal.defs _ _).mono (fun _ h c => ⟨?_, (h c).2⟩) (Cert.Reference6Ideal.Glu.run m' ρ')
  obtain ⟨h0, h1, h2, h3, h4⟩ := hagree c
  rw [(h c).1, h0, h1, h2, h3, h4]

theorem quiescent_Reference7Ideal : quiescent_Reference7Ideal := fun m ρ _ =>
  (θ_run Cert.Reference7Ideal.defs _ _).mono (fun r h => ⟨fun c => (h c).2, sem_eq_zero_of_no_sems (by decide) r.2⟩)
    (Cert.Reference7Ideal.Mod.run m ρ)

theorem algebraic_Kernel7Ideal_Reference7Ideal : algebraic_Kernel7Ideal_Reference7Ideal := by
  intro m ρ m' ρ' _ hagree
  refine ⟨_, Cert.Kernel7Ideal.Mod.run m ρ, ?_⟩
  refine (θ_run Cert.Reference7Ideal.defs _ _).mono (fun _ h c => ⟨?_, (h c).2⟩) (Cert.Reference7Ideal.Mod.run m' ρ')
  obtain ⟨h0, h1, h2, h3⟩ := hagree c
  rw [(h c).1, h0, h1, h2, h3]

theorem quiescent_Reference8Ideal : quiescent_Reference8Ideal := fun m ρ _ =>
  (θ_run Cert.Reference8Ideal.defs _ _).mono (fun r h => ⟨fun c => (h c).2.2, sem_eq_zero_of_no_sems (by decide) r.2⟩)
    (Cert.Reference8Ideal.Value.run (F := Ideal) m ρ)

theorem quiescent_Reference8Ideal_pre : quiescent_Reference8Ideal_pre_finite_router := fun m ρ _ =>
  quiescent_Reference8Ideal m ρ trivial

theorem algebraic_Kernel8Ideal_Reference8Ideal : algebraic_Kernel8Ideal_Reference8Ideal_pre_finite_router := by
  intro m ρ m' ρ' hpre hagree
  refine ⟨_, _, Cert.Kernel8Ideal.Value.run_blocks m ρ, ?_⟩
  refine (θ_run Cert.Reference8Ideal.defs _ _).mono (fun _ h c => ⟨?_, ?_, (h c).2.2⟩) (Cert.Reference8Ideal.Value.run (F := Ideal) m' ρ')
  · obtain ⟨h0, h1, h2, h3⟩ := hagree c
    refine (h c).1.trans ((Cert.Reference8Ideal.Route.result_features m' c).trans ?_)
    rw [h0, h1, h2]
    exact (Cert.Kernel8Ideal.Route.final_features m c).symm
  · obtain ⟨h0, h1, h2, h3⟩ := hagree c
    obtain ⟨hm, hg, hw⟩ := Cert.Pre_finite_router.real _ _ _ _ (hpre c)
    refine (h c).2.1.trans ((Cert.Reference8Ideal.Route.result_weights m' c).trans ?_)
    rw [h0, h1, h2, h3]
    exact (Cert.Kernel8Ideal.Route.final_weights m c hm hg hw).symm

theorem quiescent_Reference9Ideal : quiescent_Reference9Ideal := fun m ρ _ =>
  (θ_run Cert.Reference9Ideal.defs _ _).mono (fun r h => ⟨fun c => (h c).2, sem_eq_zero_of_no_sems (by decide) r.2⟩)
    (Cert.Reference9Ideal.Finish.run m ρ)

theorem quiescent_Reference9Ideal_pre : quiescent_Reference9Ideal_pre_finite_scans := fun m ρ _ =>
  quiescent_Reference9Ideal m ρ trivial

theorem algebraic_Kernel9Ideal_Reference9Ideal : algebraic_Kernel9Ideal_Reference9Ideal_pre_finite_scans := by
  intro m ρ m' ρ' hpre hagree
  refine ⟨_, Cert.Kernel9Ideal.Finish.run m ρ fun c => Cert.Pre_finite_scans.real _ _ _ _ _ _ (hpre c), ?_⟩
  refine (θ_run Cert.Reference9Ideal.defs _ _).mono (fun _ h c => ⟨?_, (h c).2⟩) (Cert.Reference9Ideal.Finish.run m' ρ')
  obtain ⟨h0, h1, h2, h3, h4, h5⟩ := hagree c
  rw [(h c).1, h0, h1, h2, h3, h4, h5]

theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts,
  Cert.Kernel6.Gen.facts, Cert.Kernel6Ideal.Gen.facts, Cert.Reference6Ideal.Gen.facts,
  Cert.Kernel7.Gen.facts, Cert.Kernel7Ideal.Gen.facts, Cert.Reference7Ideal.Gen.facts,
  Cert.Kernel8.Gen.facts, Cert.Kernel8Ideal.Gen.facts, Cert.Reference8Ideal.Gen.facts,
  Cert.Kernel9.Gen.facts, Cert.Kernel9Ideal.Gen.facts, Cert.Reference9Ideal.Gen.facts,
  Cert.Pre_finite_queries_and_keys.facts, Cert.Pre_finite_router.facts, Cert.Pre_finite_scans.facts,
  fun m ρ _ => Cert.Kernel.Gen.frame m ρ, fun m ρ _ => Cert.KernelIdeal.Gen.frame m ρ, quiescent_ReferenceIdeal,
  fun m ρ _ => Cert.Kernel2.Gen.frame m ρ, fun m ρ _ => Cert.Kernel2Ideal.Gen.frame m ρ, quiescent_Reference2Ideal,
  fun m ρ _ => Cert.Kernel3.Gen.frame m ρ, fun m ρ _ => Cert.Kernel3Ideal.Gen.frame m ρ, quiescent_Reference3Ideal,
  fun m ρ _ => Cert.Kernel4.Gen.frame m ρ, fun m ρ _ => Cert.Kernel4Ideal.Gen.frame m ρ, fun m ρ _ => Cert.Kernel4Ideal.Gen.frame m ρ,
  quiescent_Reference4Ideal, quiescent_Reference4Ideal_pre,
  fun m ρ _ => Cert.Kernel5.Gen.frame m ρ, fun m ρ _ => Cert.Kernel5Ideal.Gen.frame m ρ, quiescent_Reference5Ideal,
  fun m ρ _ => Cert.Kernel6.Gen.frame m ρ, fun m ρ _ => Cert.Kernel6Ideal.Gen.frame m ρ, quiescent_Reference6Ideal,
  fun m ρ _ => Cert.Kernel7.Gen.frame m ρ, fun m ρ _ => Cert.Kernel7Ideal.Gen.frame m ρ, quiescent_Reference7Ideal,
  fun m ρ _ => Cert.Kernel8.Gen.frame m ρ, fun m ρ _ => Cert.Kernel8Ideal.Gen.frame m ρ, fun m ρ _ => Cert.Kernel8Ideal.Gen.frame m ρ,
  quiescent_Reference8Ideal, quiescent_Reference8Ideal_pre,
  fun m ρ _ => Cert.Kernel9.Gen.frame m ρ, fun m ρ _ => Cert.Kernel9Ideal.Gen.frame m ρ, fun m ρ _ => Cert.Kernel9Ideal.Gen.frame m ρ,
  quiescent_Reference9Ideal, quiescent_Reference9Ideal_pre,
  (trivial : preserves_Kernel_KernelIdeal), algebraic_KernelIdeal_ReferenceIdeal,
  (trivial : preserves_Kernel2_Kernel2Ideal), algebraic_Kernel2Ideal_Reference2Ideal,
  (trivial : preserves_Kernel3_Kernel3Ideal), algebraic_Kernel3Ideal_Reference3Ideal,
  preserves_Kernel4_Kernel4Ideal, algebraic_Kernel4Ideal_Reference4Ideal,
  preserves_Kernel5_Kernel5Ideal, algebraic_Kernel5Ideal_Reference5Ideal,
  (trivial : preserves_Kernel6_Kernel6Ideal), algebraic_Kernel6Ideal_Reference6Ideal,
  (trivial : preserves_Kernel7_Kernel7Ideal), algebraic_Kernel7Ideal_Reference7Ideal,
  (trivial : preserves_Kernel8_Kernel8Ideal), algebraic_Kernel8Ideal_Reference8Ideal,
  (trivial : preserves_Kernel9_Kernel9Ideal), algebraic_Kernel9Ideal_Reference9Ideal⟩

end Cert.Proof

end
